-- ==== Defs.lean ====
def Pre_Kernel [hPre_windows_in_place : Cert.Pre_windows_in_place.Facts] (m : (ℓ : Loc Cert.Kernel.nD Cert.Kernel.τ Cert.Kernel.sig) → Buf (Elt Bits) ℓ) : Prop :=
  ∀ c : Dev Cert.Kernel.nD,
    (Cert.Pre_windows_in_place.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_windows_in_place : Cert.Pre_windows_in_place.Facts] (m : (ℓ : Loc Cert.KernelIdeal.nD Cert.KernelIdeal.τ Cert.KernelIdeal.sig) → Buf (Elt Ideal) ℓ) : Prop :=
  ∀ c : Dev Cert.KernelIdeal.nD,
    (Cert.Pre_windows_in_place.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_windows_in_place [hPre_windows_in_place : Cert.Pre_windows_in_place.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_windows_in_place.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_windows_in_place : Cert.Pre_windows_in_place.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_windows_in_place : Cert.Pre_windows_in_place.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_windows_in_place [hReferenceIdeal : Cert.ReferenceIdeal.Facts] [hPre_windows_in_place : Cert.Pre_windows_in_place.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_windows_in_place m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_windows_in_place : Cert.Pre_windows_in_place.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_windows_in_place : Cert.Pre_windows_in_place.Facts),
    quiescent_Kernel (hKernel := hKernel) (hPre_windows_in_place := hPre_windows_in_place)
    ∧ quiescent_KernelIdeal (hKernelIdeal := hKernelIdeal) (hPre_windows_in_place := hPre_windows_in_place)
    ∧ quiescent_ReferenceIdeal (hReferenceIdeal := hReferenceIdeal)
    ∧ quiescent_ReferenceIdeal_pre_windows_in_place (hReferenceIdeal := hReferenceIdeal) (hPre_windows_in_place := hPre_windows_in_place)
    ∧ preserves_Kernel_KernelIdeal
    ∧ algebraic_KernelIdeal_ReferenceIdeal (hKernelIdeal := hKernelIdeal) (hReferenceIdeal := hReferenceIdeal) (hPre_windows_in_place := hPre_windows_in_place)
-- ==== Pre_windows_in_place.lean ====
abbrev S79626240 : Shape := ⟨1, ![79626240]⟩
abbrev S10x1536x144 : Shape := ⟨3, ![10, 1536, 144]⟩
abbrev S10x1536 : Shape := ⟨2, ![10, 1536]⟩
abbrev S1920x1152 : Shape := ⟨2, ![1920, 1152]⟩
abbrev S1920x1 : Shape := ⟨2, ![1920, 1]⟩
abbrev S_ : Shape := ⟨0, ![]⟩

class Facts : Prop where
  shapeCasts_S10x1536x144_S1920x1152 : S10x1536x144.ShapeCasts S1920x1152
  slices_S1920x1152_S1920x1_0_0 : S1920x1152.Slices ![0, 0] S1920x1
  slices_S1920x1152_S1920x1_0_1151 : S1920x1152.Slices ![0, 1151] S1920x1
  bcast_S_S1920x1 : S_.BroadcastsInDim S1920x1 (![] : Fin 0 → Fin S1920x1.rank)
  bcast_S1920x1_S1920x1152_0_1 : S1920x1.BroadcastsInDim S1920x1152 (![0, 1] : Fin 2 → Fin S1920x1152.rank)

variable [Facts]

def fn {F : FTy → Type} [FloatOps F] (main_arg0 : IVec S79626240 8) (main_arg1 : IVec S10x1536x144 32) (main_arg2 : FVec F S10x1536 .f32) : IVec S1920x1152 1 :=
  let main_v0 : IVec S1920x1152 32 := shapeCast S1920x1152 main_arg1 shapeCasts_S10x1536x144_S1920x1152
  let main_v1 : IVec S1920x1 32 := (extractStridedSlice S1920x1 ![0, 0] · slices_S1920x1152_S1920x1_0_0) main_v0
  let main_v2 : IVec S1920x1 32 := (extractStridedSlice S1920x1 ![0, 1151] · slices_S1920x1152_S1920x1_0_1151) main_v0
  let main_c : IVec S_ 32 := constantI S_ 32 0#32
  let main_v3 : IVec S1920x1 32 := broadcastInDim S1920x1 ![] bcast_S_S1920x1 main_c
  let main_v4 : IVec S1920x1 1 := cmpi .sge main_v1 main_v3
  let main_v5 : IVec S1920x1152 32 := broadcastInDim S1920x1152 ![0, 1] bcast_S1920x1_S1920x1152_0_1 main_v1
  let main_v6 : IVec S1920x1152 1 := cmpi .sle main_v5 main_v0
  let main_v7 : IVec S1920x1152 1 := broadcastInDim S1920x1152 ![0, 1] bcast_S1920x1_S1920x1152_0_1 main_v4
  let main_v8 : IVec S1920x1152 1 := andi main_v7 main_v6
  let main_v9 : IVec S1920x1152 32 := broadcastInDim S1920x1152 ![0, 1] bcast_S1920x1_S1920x1152_0_1 main_v2
  let main_v10 : IVec S1920x1152 1 := cmpi .sle main_v0 main_v9
  let main_v11 : IVec S1920x1152 1 := andi main_v8 main_v10
  let main_v12 : IVec S1920x1 32 := subi main_v2 main_v1
  let main_c_0 : IVec S_ 32 := constantI S_ 32 41436#32
  let main_v13 : IVec S1920x1 32 := broadcastInDim S1920x1 ![] bcast_S_S1920x1 main_c_0
  let main_v14 : IVec S1920x1 1 := cmpi .sle main_v12 main_v13
  let main_v15 : IVec S1920x1152 1 := broadcastInDim S1920x1152 ![0, 1] bcast_S1920x1_S1920x1152_0_1 main_v14
  let main_v16 : IVec S1920x1152 1 := andi main_v11 main_v15
  let main_c_1 : IVec S_ 32 := constantI S_ 32 79626204#32
  let main_v17 : IVec S1920x1 32 := broadcastInDim S1920x1 ![] bcast_S_S1920x1 main_c_1
  let main_v18 : IVec S1920x1 1 := cmpi .sle main_v2 main_v17
  let main_v19 : IVec S1920x1152 1 := broadcastInDim S1920x1152 ![0, 1] bcast_S1920x1_S1920x1152_0_1 main_v18
  let main_v20 : IVec S1920x1152 1 := andi main_v16 main_v19
  main_v20
-- ==== Kernel.lean ====
abbrev S79626240 : Shape := ⟨1, ![79626240]⟩
abbrev S10x1536x144 : Shape := ⟨3, ![10, 1536, 144]⟩
abbrev S10x1536 : Shape := ⟨2, ![10, 1536]⟩
abbrev S10x144x1536 : Shape := ⟨3, ![10, 144, 1536]⟩
abbrev S155520x4x128 : Shape := ⟨3, ![155520, 4, 128]⟩
abbrev S155520x1x128 : Shape := ⟨3, ![155520, 1, 128]⟩
abbrev S155520x128 : Shape := ⟨2, ![155520, 128]⟩
abbrev S_ : Shape := ⟨0, ![]⟩
abbrev S10x1536x4608 : Shape := ⟨3, ![10, 1536, 4608]⟩
abbrev S96x128 : Shape := ⟨2, ![96, 128]⟩
abbrev S49216 : Shape := ⟨1, ![49216]⟩
abbrev S144x128 : Shape := ⟨2, ![144, 128]⟩
abbrev S128 : Shape := ⟨1, ![128]⟩
abbrev S256 : Shape := ⟨1, ![256]⟩
abbrev S8x2304 : Shape := ⟨2, ![8, 2304]⟩
abbrev S16 : Shape := ⟨1, ![16]⟩
abbrev S1x144x128 : Shape := ⟨3, ![1, 144, 128]⟩
abbrev S1x128 : Shape := ⟨2, ![1, 128]⟩
abbrev S1 : Shape := ⟨1, ![1]⟩
abbrev S8x128 : Shape := ⟨2, ![8, 128]⟩
abbrev S1x16 : Shape := ⟨2, ![1, 16]⟩
abbrev S1x8x2304 : Shape := ⟨3, ![1, 8, 2304]⟩

abbrev nBuf : Table → Nat
  | .hbm => 28
  | .local .scVector .vmem => 6
  | _ => 0

abbrev bufTy : (tb : Table) → Fin (nBuf tb) → BufTy
  | .hbm, ⟨0, _⟩ => ⟨S79626240, .i8⟩
  | .hbm, ⟨1, _⟩ => ⟨S10x1536x144, .i32⟩
  | .hbm, ⟨2, _⟩ => ⟨S10x1536, .f32⟩
  | .hbm, ⟨3, _⟩ => ⟨S10x144x1536, .i32⟩
  | .hbm, ⟨4, _⟩ => ⟨S155520x4x128, .i8⟩
  | .hbm, ⟨5, _⟩ => ⟨S155520x4x128, .i32⟩
  | .hbm, ⟨6, _⟩ => ⟨S155520x1x128, .i32⟩
  | .hbm, ⟨7, _⟩ => ⟨S155520x128, .i32⟩
  | .hbm, ⟨8, _⟩ => ⟨S155520x1x128, .i32⟩
  | .hbm, ⟨9, _⟩ => ⟨S155520x128, .i32⟩
  | .hbm, ⟨10, _⟩ => ⟨S_, .i32⟩
  | .hbm, ⟨11, _⟩ => ⟨S155520x128, .i32⟩
  | .hbm, ⟨12, _⟩ => ⟨S155520x128, .i32⟩
  | .hbm, ⟨13, _⟩ => ⟨S155520x128, .i32⟩
  | .hbm, ⟨14, _⟩ => ⟨S155520x1x128, .i32⟩
  | .hbm, ⟨15, _⟩ => ⟨S155520x128, .i32⟩
  | .hbm, ⟨16, _⟩ => ⟨S_, .i32⟩
  | .hbm, ⟨17, _⟩ => ⟨S155520x128, .i32⟩
  | .hbm, ⟨18, _⟩ => ⟨S155520x128, .i32⟩
  | .hbm, ⟨19, _⟩ => ⟨S155520x128, .i32⟩
  | .hbm, ⟨20, _⟩ => ⟨S155520x1x128, .i32⟩
  | .hbm, ⟨21, _⟩ => ⟨S155520x128, .i32⟩
  | .hbm, ⟨22, _⟩ => ⟨S_, .i32⟩
  | .hbm, ⟨23, _⟩ => ⟨S155520x128, .i32⟩
  | .hbm, ⟨24, _⟩ => ⟨S155520x128, .i32⟩
  | .hbm, ⟨25, _⟩ => ⟨S155520x128, .i32⟩
  | .hbm, ⟨26, _⟩ => ⟨S10x1536x4608, .f32⟩
  | .hbm, ⟨27, _⟩ => ⟨S10x1536x4608, .bf16⟩
  | .local .scVector .vmem, ⟨0, _⟩ => ⟨S96x128, .i32⟩
  | .local .scVector .vmem, ⟨1, _⟩ => ⟨S49216, .i32⟩
  | .local .scVector .vmem, ⟨2, _⟩ => ⟨S144x128, .i32⟩
  | .local .scVector .vmem, ⟨3, _⟩ => ⟨S128, .f32⟩
  | .local .scVector .vmem, ⟨4, _⟩ => ⟨S256, .i32⟩
  | .local .scVector .vmem, ⟨5, _⟩ => ⟨S8x2304, .f32⟩
  | _, _ => ⟨S79626240, .i8⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v19_scv : Ref sig .scVector := ⟨.hbm, 25, rfl⟩
abbrev main_v0_scv : Ref sig .scVector := ⟨.hbm, 3, rfl⟩
abbrev main_arg2_scv : Ref sig .scVector := ⟨.hbm, 2, rfl⟩
abbrev main_v20_scv : Ref sig .scVector := ⟨.hbm, 26, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c16_i32_1 : BitVec 32 := 16#32
  let v13 : BitVec 32 := Scalar.addi c0_i32 c16_i32_1
  let c1_i32_2 : BitVec 32 := 1#32
  ⟨c0_i32, v13, c1_i32_2⟩
def k0_off1 (k0_t1 : Fin k0_t1_loop.trips) : Fin 1 → Nat :=
  let c0_i32_8 : BitVec 32 := 0#32
  let c0_i32 : BitVec 32 := 0#32
  let c1_i32_2 : BitVec 32 := 1#32
  let arg13 : BitVec 32 := Scf.iv c0_i32 c1_i32_2 k0_t1
  let c1_i32_7 : BitVec 32 := 1#32
  let v15 : BitVec 32 := Scalar.muli arg13 c1_i32_7
  let v16 : BitVec 32 := Scalar.addi c0_i32_8 v15
  let c16_i32_24 : BitVec 32 := 16#32
  let v63 : BitVec 32 := Scalar.muli v16 c16_i32_24
  let v64 : Index := Scalar.indexCast v63
  ![v64.toNat]
@[reducible] def k0_t2_loop : Scf.Loop 32 :=
  let c0_i32_4 : BitVec 32 := 0#32
  let c60_i32 : BitVec 32 := 60#32
  let v14 : BitVec 32 := Scalar.addi c0_i32_4 c60_i32
  let c1_i32_5 : BitVec 32 := 1#32
  ⟨c0_i32_4, v14, c1_i32_5⟩
def k0_mult1 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v17 : BitVec 32 := Scalar.muli v1 c480_i32
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v15 : BitVec 32 := Scalar.muli arg13 c1_i32_7
  let v16 : BitVec 32 := Scalar.addi c0_i32_8 v15
  let c8_i32 : BitVec 32 := 8#32
  let v18 : BitVec 32 := Scalar.muli v16 c8_i32
  let v19 : BitVec 32 := Scalar.addi v17 v18
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c1536_i32 : BitVec 32 := 1536#32
  let c0_i32_11 : BitVec 32 := 0#32
  let v26 : BitVec 1 := Scalar.cmpi .sgt c1536_i32 c0_i32_11
  let v27 : BitVec 32 := Scalar.extui v26
  let c0_i32_12 : BitVec 32 := 0#32
  let v28 : BitVec 1 := Scalar.cmpi .slt c1536_i32 c0_i32_12
  let v29 : BitVec 32 := Scalar.extui v28
  let v30 : BitVec 32 := Scalar.subi v27 v29
  let v31 : BitVec 1 := Scalar.cmpi .ne v25 v30
  let v32 : BitVec 32 := Scalar.remsi v19 c1536_i32
  let c0_i32_13 : BitVec 32 := 0#32
  let v33 : BitVec 1 := Scalar.cmpi .ne v32 c0_i32_13
  let v34 : BitVec 1 := Scalar.andi v31 v33
  let v20 : BitVec 32 := Scalar.divsi v19 c1536_i32
  let c1_i32_14 : BitVec 32 := 1#32
  let v35 : BitVec 32 := Scalar.subi v20 c1_i32_14
  let v36 : BitVec 32 := Scalar.select v34 v35 v20
  let c1536_i32_15 : BitVec 32 := 1536#32
  let v37 : BitVec 32 := Scalar.muli v36 c1536_i32_15
  let v38 : BitVec 32 := Scalar.subi v19 v37
  let c127_i32 : BitVec 32 := 127#32
  let v39 : BitVec 32 := Scalar.andi v38 c127_i32
  let v40 : BitVec 32 := Scalar.subi v38 v39
  v40
def k0_cond1 (i : grid0.Coords) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v17 : BitVec 32 := Scalar.muli v1 c480_i32
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v15 : BitVec 32 := Scalar.muli arg13 c1_i32_7
  let v16 : BitVec 32 := Scalar.addi c0_i32_8 v15
  let c8_i32 : BitVec 32 := 8#32
  let v18 : BitVec 32 := Scalar.muli v16 c8_i32
  let v19 : BitVec 32 := Scalar.addi v17 v18
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c1536_i32 : BitVec 32 := 1536#32
  let c0_i32_11 : BitVec 32 := 0#32
  let v26 : BitVec 1 := Scalar.cmpi .sgt c1536_i32 c0_i32_11
  let v27 : BitVec 32 := Scalar.extui v26
  let c0_i32_12 : BitVec 32 := 0#32
  let v28 : BitVec 1 := Scalar.cmpi .slt c1536_i32 c0_i32_12
  let v29 : BitVec 32 := Scalar.extui v28
  let v30 : BitVec 32 := Scalar.subi v27 v29
  let v31 : BitVec 1 := Scalar.cmpi .ne v25 v30
  let v32 : BitVec 32 := Scalar.remsi v19 c1536_i32
  let c0_i32_13 : BitVec 32 := 0#32
  let v33 : BitVec 1 := Scalar.cmpi .ne v32 c0_i32_13
  let v34 : BitVec 1 := Scalar.andi v31 v33
  let v20 : BitVec 32 := Scalar.divsi v19 c1536_i32
  let c1_i32_14 : BitVec 32 := 1#32
  let v35 : BitVec 32 := Scalar.subi v20 c1_i32_14
  let v36 : BitVec 32 := Scalar.select v34 v35 v20
  let c1536_i32_15 : BitVec 32 := 1536#32
  let v37 : BitVec 32 := Scalar.muli v36 c1536_i32_15
  let v38 : BitVec 32 := Scalar.subi v19 v37
  let c127_i32 : BitVec 32 := 127#32
  let v39 : BitVec 32 := Scalar.andi v38 c127_i32
  let c0_i32_16 : BitVec 32 := 0#32
  let v42 : BitVec 1 := Scalar.cmpi .eq v39 c0_i32_16
  let c0_i32_17 : BitVec 32 := 0#32
  let v43 : BitVec 1 := Scalar.cmpi .eq v16 c0_i32_17
  let v44 : BitVec 1 := Scalar.ori v42 v43
  let v45 : BitVec 32 := Scalar.extui v44
  let c0_i32_18 : BitVec 32 := 0#32
  let v46 : BitVec 1 := Scalar.cmpi .ne v45 c0_i32_18
  v46

def k0_off2 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v17 : BitVec 32 := Scalar.muli v1 c480_i32
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v15 : BitVec 32 := Scalar.muli arg13 c1_i32_7
  let v16 : BitVec 32 := Scalar.addi c0_i32_8 v15
  let c8_i32 : BitVec 32 := 8#32
  let v18 : BitVec 32 := Scalar.muli v16 c8_i32
  let v19 : BitVec 32 := Scalar.addi v17 v18
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c1536_i32 : BitVec 32 := 1536#32
  let c0_i32_11 : BitVec 32 := 0#32
  let v26 : BitVec 1 := Scalar.cmpi .sgt c1536_i32 c0_i32_11
  let v27 : BitVec 32 := Scalar.extui v26
  let c0_i32_12 : BitVec 32 := 0#32
  let v28 : BitVec 1 := Scalar.cmpi .slt c1536_i32 c0_i32_12
  let v29 : BitVec 32 := Scalar.extui v28
  let v30 : BitVec 32 := Scalar.subi v27 v29
  let v31 : BitVec 1 := Scalar.cmpi .ne v25 v30
  let v32 : BitVec 32 := Scalar.remsi v19 c1536_i32
  let c0_i32_13 : BitVec 32 := 0#32
  let v33 : BitVec 1 := Scalar.cmpi .ne v32 c0_i32_13
  let v34 : BitVec 1 := Scalar.andi v31 v33
  let v20 : BitVec 32 := Scalar.divsi v19 c1536_i32
  let c1_i32_14 : BitVec 32 := 1#32
  let v35 : BitVec 32 := Scalar.subi v20 c1_i32_14
  let v36 : BitVec 32 := Scalar.select v34 v35 v20
  let c0_i32_80_r0 : BitVec 32 := 0#32
  let c1536_i32_15 : BitVec 32 := 1536#32
  let v37 : BitVec 32 := Scalar.muli v36 c1536_i32_15
  let v38 : BitVec 32 := Scalar.subi v19 v37
  let c127_i32 : BitVec 32 := 127#32
  let v39 : BitVec 32 := Scalar.andi v38 c127_i32
  let v40 : BitVec 32 := Scalar.subi v38 v39
  let v41 : BitVec 32 := v40
  ![v36.toNat, 0, v41.toNat]
def k0_off3 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v17 : BitVec 32 := Scalar.muli v1 c480_i32
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v15 : BitVec 32 := Scalar.muli arg13 c1_i32_7
  let v16 : BitVec 32 := Scalar.addi c0_i32_8 v15
  let c8_i32 : BitVec 32 := 8#32
  let v18 : BitVec 32 := Scalar.muli v16 c8_i32
  let v19 : BitVec 32 := Scalar.addi v17 v18
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c1536_i32 : BitVec 32 := 1536#32
  let c0_i32_11 : BitVec 32 := 0#32
  let v26 : BitVec 1 := Scalar.cmpi .sgt c1536_i32 c0_i32_11
  let v27 : BitVec 32 := Scalar.extui v26
  let c0_i32_12 : BitVec 32 := 0#32
  let v28 : BitVec 1 := Scalar.cmpi .slt c1536_i32 c0_i32_12
  let v29 : BitVec 32 := Scalar.extui v28
  let v30 : BitVec 32 := Scalar.subi v27 v29
  let v31 : BitVec 1 := Scalar.cmpi .ne v25 v30
  let v32 : BitVec 32 := Scalar.remsi v19 c1536_i32
  let c0_i32_13 : BitVec 32 := 0#32
  let v33 : BitVec 1 := Scalar.cmpi .ne v32 c0_i32_13
  let v34 : BitVec 1 := Scalar.andi v31 v33
  let v20 : BitVec 32 := Scalar.divsi v19 c1536_i32
  let c1_i32_14 : BitVec 32 := 1#32
  let v35 : BitVec 32 := Scalar.subi v20 c1_i32_14
  let v36 : BitVec 32 := Scalar.select v34 v35 v20
  let c1536_i32_15 : BitVec 32 := 1536#32
  let v37 : BitVec 32 := Scalar.muli v36 c1536_i32_15
  let v38 : BitVec 32 := Scalar.subi v19 v37
  let c127_i32 : BitVec 32 := 127#32
  let v39 : BitVec 32 := Scalar.andi v38 c127_i32
  let v40 : BitVec 32 := Scalar.subi v38 v39
  let v41 : BitVec 32 := v40
  ![v36.toNat, v41.toNat]

def k0_chk1 (v47 : IVec S16 32) (v48 : IVec S16 32) : Prop :=
  (∀ a x, ((![v47, v48] : Fin 2 → IVec S16 32) a x).toNat < S144x128.size a)
theorem k0_idx1_inb : ∀ (v47 : IVec S16 32) (v48 : IVec S16 32) (k0_hw1 : k0_chk1 v47 v48), ∀ a x, ((![v47, v48] : Fin 2 → IVec S16 32) a x).toNat < S144x128.size a := fun v47 v48 k0_hw1 => k0_hw1

def k0_chk2 (v52 : IVec S16 32) (v55 : IVec S16 32) : Prop :=
  (∀ a x, ((![v52, v55] : Fin 2 → IVec S16 32) a x).toNat < S144x128.size a)
theorem k0_idx2_inb : ∀ (v52 : IVec S16 32) (v55 : IVec S16 32) (k0_hw2 : k0_chk2 v52 v55), ∀ a x, ((![v52, v55] : Fin 2 → IVec S16 32) a x).toNat < S144x128.size a := fun v52 v55 k0_hw2 => k0_hw2
def k0_mult2 (v51 : BitVec 32) : BitVec 32 :=
  let c_m4096_i32 : BitVec 32 := 4294963200#32
  let v62 : BitVec 32 := Scalar.andi v51 c_m4096_i32
  let c0_i32_30 : BitVec 32 := 0#32
  let v84 : BitVec 1 := Scalar.cmpi .sgt v62 c0_i32_30
  let v85 : BitVec 32 := Scalar.extui v84
  let c0_i32_31 : BitVec 32 := 0#32
  let v86 : BitVec 1 := Scalar.cmpi .slt v62 c0_i32_31
  let v87 : BitVec 32 := Scalar.extui v86
  let v88 : BitVec 32 := Scalar.subi v85 v87
  let c512_i32 : BitVec 32 := 512#32
  let c0_i32_32 : BitVec 32 := 0#32
  let v89 : BitVec 1 := Scalar.cmpi .sgt c512_i32 c0_i32_32
  let v90 : BitVec 32 := Scalar.extui v89
  let c0_i32_33 : BitVec 32 := 0#32
  let v91 : BitVec 1 := Scalar.cmpi .slt c512_i32 c0_i32_33
  let v92 : BitVec 32 := Scalar.extui v91
  let v93 : BitVec 32 := Scalar.subi v90 v92
  let v94 : BitVec 1 := Scalar.cmpi .ne v88 v93
  let v95 : BitVec 32 := Scalar.remsi v62 c512_i32
  let c0_i32_34 : BitVec 32 := 0#32
  let v96 : BitVec 1 := Scalar.cmpi .ne v95 c0_i32_34
  let v97 : BitVec 1 := Scalar.andi v94 v96
  let v83 : BitVec 32 := Scalar.divsi v62 c512_i32
  let c1_i32_35 : BitVec 32 := 1#32
  let v98 : BitVec 32 := Scalar.subi v83 c1_i32_35
  let v99 : BitVec 32 := Scalar.select v97 v98 v83
  v99

def k0_chk3 (v51 : BitVec 32) : Prop :=
  (8 ∣ (k0_mult2 v51).toNat)
theorem k0_mult2_dvd : ∀ (v51 : BitVec 32) (k0_hw3 : k0_chk3 v51), 8 ∣ (k0_mult2 v51).toNat := fun v51 k0_hw3 => k0_hw3

@[reducible] def k0_t3_loop (v51 : BitVec 32) (v58 : BitVec 32) : Scf.Loop 32 :=
  let c0_i32_42 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c0_i32_36 : BitVec 32 := 0#32
  let v101 : BitVec 32 := Scalar.subi v82 c0_i32_36
  let c1_i32_37 : BitVec 32 := 1#32
  let c1_i32_38 : BitVec 32 := 1#32
  let v102 : BitVec 32 := Scalar.subi c1_i32_37 c1_i32_38
  let v103 : BitVec 32 := Scalar.addi v101 v102
  let c1_i32_39 : BitVec 32 := 1#32
  let v104 : BitVec 32 := Scalar.divsi v103 c1_i32_39
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let c1_i32_44 : BitVec 32 := 1#32
  ⟨c0_i32_42, v109, c1_i32_44⟩

def k0_off4 (v51 : BitVec 32) (v58 : BitVec 32) (k0_t3 : Fin (k0_t3_loop v51 v58).trips) : Fin 2 → Nat :=
  let c0_i32_41 : BitVec 32 := 0#32
  let c0_i32_42 : BitVec 32 := 0#32
  let c1_i32_44 : BitVec 32 := 1#32
  let arg14 : BitVec 32 := Scf.iv c0_i32_42 c1_i32_44 k0_t3
  let c1_i32_40 : BitVec 32 := 1#32
  let v165 : BitVec 32 := Scalar.muli arg14 c1_i32_40
  let v166 : BitVec 32 := Scalar.addi c0_i32_41 v165
  let c8_i32_81 : BitVec 32 := 8#32
  let v169 : BitVec 32 := Scalar.muli v166 c8_i32_81
  let c0_i32_82 : BitVec 32 := 0#32
  ![v169.toNat, 0]
def k0_off5 (v51 : BitVec 32) (v58 : BitVec 32) (k0_t3 : Fin (k0_t3_loop v51 v58).trips) : Fin 2 → Nat :=
  let c_m4096_i32 : BitVec 32 := 4294963200#32
  let v62 : BitVec 32 := Scalar.andi v51 c_m4096_i32
  let c0_i32_30 : BitVec 32 := 0#32
  let v84 : BitVec 1 := Scalar.cmpi .sgt v62 c0_i32_30
  let v85 : BitVec 32 := Scalar.extui v84
  let c0_i32_31 : BitVec 32 := 0#32
  let v86 : BitVec 1 := Scalar.cmpi .slt v62 c0_i32_31
  let v87 : BitVec 32 := Scalar.extui v86
  let v88 : BitVec 32 := Scalar.subi v85 v87
  let c512_i32 : BitVec 32 := 512#32
  let c0_i32_32 : BitVec 32 := 0#32
  let v89 : BitVec 1 := Scalar.cmpi .sgt c512_i32 c0_i32_32
  let v90 : BitVec 32 := Scalar.extui v89
  let c0_i32_33 : BitVec 32 := 0#32
  let v91 : BitVec 1 := Scalar.cmpi .slt c512_i32 c0_i32_33
  let v92 : BitVec 32 := Scalar.extui v91
  let v93 : BitVec 32 := Scalar.subi v90 v92
  let v94 : BitVec 1 := Scalar.cmpi .ne v88 v93
  let v95 : BitVec 32 := Scalar.remsi v62 c512_i32
  let c0_i32_34 : BitVec 32 := 0#32
  let v96 : BitVec 1 := Scalar.cmpi .ne v95 c0_i32_34
  let v97 : BitVec 1 := Scalar.andi v94 v96
  let v83 : BitVec 32 := Scalar.divsi v62 c512_i32
  let c1_i32_35 : BitVec 32 := 1#32
  let v98 : BitVec 32 := Scalar.subi v83 c1_i32_35
  let v99 : BitVec 32 := Scalar.select v97 v98 v83
  let v100 : BitVec 32 := v99
  let c0_i32_41 : BitVec 32 := 0#32
  let c0_i32_42 : BitVec 32 := 0#32
  let c1_i32_44 : BitVec 32 := 1#32
  let arg14 : BitVec 32 := Scf.iv c0_i32_42 c1_i32_44 k0_t3
  let c1_i32_40 : BitVec 32 := 1#32
  let v165 : BitVec 32 := Scalar.muli arg14 c1_i32_40
  let v166 : BitVec 32 := Scalar.addi c0_i32_41 v165
  let c8_i32_80 : BitVec 32 := 8#32
  let v167 : BitVec 32 := Scalar.muli v166 c8_i32_80
  let v168 : BitVec 32 := Scalar.addi v100 v167
  let c0_i32_83 : BitVec 32 := 0#32
  ![v168.toNat, 0]
@[reducible] def k0_t4_loop (v51 : BitVec 32) (v58 : BitVec 32) : Scf.Loop 32 :=
  let c0_i32_42 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c0_i32_36 : BitVec 32 := 0#32
  let v101 : BitVec 32 := Scalar.subi v82 c0_i32_36
  let c1_i32_37 : BitVec 32 := 1#32
  let c1_i32_38 : BitVec 32 := 1#32
  let v102 : BitVec 32 := Scalar.subi c1_i32_37 c1_i32_38
  let v103 : BitVec 32 := Scalar.addi v101 v102
  let c1_i32_39 : BitVec 32 := 1#32
  let v104 : BitVec 32 := Scalar.divsi v103 c1_i32_39
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let v106 : BitVec 32 := Scalar.addi c0_i32_42 v105
  let c1_i32_45 : BitVec 32 := 1#32
  ⟨v109, v106, c1_i32_45⟩
def k0_off6 (v51 : BitVec 32) (v58 : BitVec 32) (k0_t4 : Fin (k0_t4_loop v51 v58).trips) : Fin 2 → Nat :=
  let c0_i32_41 : BitVec 32 := 0#32
  let c0_i32_42 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c0_i32_36 : BitVec 32 := 0#32
  let v101 : BitVec 32 := Scalar.subi v82 c0_i32_36
  let c1_i32_37 : BitVec 32 := 1#32
  let c1_i32_38 : BitVec 32 := 1#32
  let v102 : BitVec 32 := Scalar.subi c1_i32_37 c1_i32_38
  let v103 : BitVec 32 := Scalar.addi v101 v102
  let c1_i32_39 : BitVec 32 := 1#32
  let v104 : BitVec 32 := Scalar.divsi v103 c1_i32_39
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let c1_i32_45 : BitVec 32 := 1#32
  let arg14 : BitVec 32 := Scf.iv v109 c1_i32_45 k0_t4
  let c1_i32_40 : BitVec 32 := 1#32
  let v165 : BitVec 32 := Scalar.muli arg14 c1_i32_40
  let v166 : BitVec 32 := Scalar.addi c0_i32_41 v165
  let c8_i32_81 : BitVec 32 := 8#32
  let v169 : BitVec 32 := Scalar.muli v166 c8_i32_81
  let c0_i32_82 : BitVec 32 := 0#32
  ![v169.toNat, 0]
def k0_off7 (v51 : BitVec 32) (v58 : BitVec 32) (k0_t4 : Fin (k0_t4_loop v51 v58).trips) : Fin 2 → Nat :=
  let c_m4096_i32 : BitVec 32 := 4294963200#32
  let v62 : BitVec 32 := Scalar.andi v51 c_m4096_i32
  let c0_i32_30 : BitVec 32 := 0#32
  let v84 : BitVec 1 := Scalar.cmpi .sgt v62 c0_i32_30
  let v85 : BitVec 32 := Scalar.extui v84
  let c0_i32_31 : BitVec 32 := 0#32
  let v86 : BitVec 1 := Scalar.cmpi .slt v62 c0_i32_31
  let v87 : BitVec 32 := Scalar.extui v86
  let v88 : BitVec 32 := Scalar.subi v85 v87
  let c512_i32 : BitVec 32 := 512#32
  let c0_i32_32 : BitVec 32 := 0#32
  let v89 : BitVec 1 := Scalar.cmpi .sgt c512_i32 c0_i32_32
  let v90 : BitVec 32 := Scalar.extui v89
  let c0_i32_33 : BitVec 32 := 0#32
  let v91 : BitVec 1 := Scalar.cmpi .slt c512_i32 c0_i32_33
  let v92 : BitVec 32 := Scalar.extui v91
  let v93 : BitVec 32 := Scalar.subi v90 v92
  let v94 : BitVec 1 := Scalar.cmpi .ne v88 v93
  let v95 : BitVec 32 := Scalar.remsi v62 c512_i32
  let c0_i32_34 : BitVec 32 := 0#32
  let v96 : BitVec 1 := Scalar.cmpi .ne v95 c0_i32_34
  let v97 : BitVec 1 := Scalar.andi v94 v96
  let v83 : BitVec 32 := Scalar.divsi v62 c512_i32
  let c1_i32_35 : BitVec 32 := 1#32
  let v98 : BitVec 32 := Scalar.subi v83 c1_i32_35
  let v99 : BitVec 32 := Scalar.select v97 v98 v83
  let v100 : BitVec 32 := v99
  let c0_i32_41 : BitVec 32 := 0#32
  let c0_i32_42 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c0_i32_36 : BitVec 32 := 0#32
  let v101 : BitVec 32 := Scalar.subi v82 c0_i32_36
  let c1_i32_37 : BitVec 32 := 1#32
  let c1_i32_38 : BitVec 32 := 1#32
  let v102 : BitVec 32 := Scalar.subi c1_i32_37 c1_i32_38
  let v103 : BitVec 32 := Scalar.addi v101 v102
  let c1_i32_39 : BitVec 32 := 1#32
  let v104 : BitVec 32 := Scalar.divsi v103 c1_i32_39
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let c1_i32_45 : BitVec 32 := 1#32
  let arg14 : BitVec 32 := Scf.iv v109 c1_i32_45 k0_t4
  let c1_i32_40 : BitVec 32 := 1#32
  let v165 : BitVec 32 := Scalar.muli arg14 c1_i32_40
  let v166 : BitVec 32 := Scalar.addi c0_i32_41 v165
  let c8_i32_80 : BitVec 32 := 8#32
  let v167 : BitVec 32 := Scalar.muli v166 c8_i32_80
  let v168 : BitVec 32 := Scalar.addi v100 v167
  let c0_i32_83 : BitVec 32 := 0#32
  ![v168.toNat, 0]
@[reducible] def k0_t5_loop (v51 : BitVec 32) (v58 : BitVec 32) : Scf.Loop 32 :=
  let c0_i32_52 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c0_i32_46 : BitVec 32 := 0#32
  let v110 : BitVec 32 := Scalar.subi v82 c0_i32_46
  let c1_i32_47 : BitVec 32 := 1#32
  let c1_i32_48 : BitVec 32 := 1#32
  let v111 : BitVec 32 := Scalar.subi c1_i32_47 c1_i32_48
  let v112 : BitVec 32 := Scalar.addi v110 v111
  let c1_i32_49 : BitVec 32 := 1#32
  let v113 : BitVec 32 := Scalar.divsi v112 c1_i32_49
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_54 : BitVec 32 := 1#32
  ⟨c0_i32_52, v118, c1_i32_54⟩
def k0_off8 (v51 : BitVec 32) (v58 : BitVec 32) (k0_t5 : Fin (k0_t5_loop v51 v58).trips) : Fin 2 → Nat :=
  let c0_i32_51 : BitVec 32 := 0#32
  let c0_i32_52 : BitVec 32 := 0#32
  let c1_i32_54 : BitVec 32 := 1#32
  let arg14 : BitVec 32 := Scf.iv c0_i32_52 c1_i32_54 k0_t5
  let c1_i32_50 : BitVec 32 := 1#32
  let v165 : BitVec 32 := Scalar.muli arg14 c1_i32_50
  let v166 : BitVec 32 := Scalar.addi c0_i32_51 v165
  let c8_i32_81 : BitVec 32 := 8#32
  let v169 : BitVec 32 := Scalar.muli v166 c8_i32_81
  let c0_i32_82 : BitVec 32 := 0#32
  ![v169.toNat, 0]
def k0_off9 (v51 : BitVec 32) (v58 : BitVec 32) (k0_t5 : Fin (k0_t5_loop v51 v58).trips) : Fin 2 → Nat :=
  let c_m4096_i32 : BitVec 32 := 4294963200#32
  let v62 : BitVec 32 := Scalar.andi v51 c_m4096_i32
  let c0_i32_30 : BitVec 32 := 0#32
  let v84 : BitVec 1 := Scalar.cmpi .sgt v62 c0_i32_30
  let v85 : BitVec 32 := Scalar.extui v84
  let c0_i32_31 : BitVec 32 := 0#32
  let v86 : BitVec 1 := Scalar.cmpi .slt v62 c0_i32_31
  let v87 : BitVec 32 := Scalar.extui v86
  let v88 : BitVec 32 := Scalar.subi v85 v87
  let c512_i32 : BitVec 32 := 512#32
  let c0_i32_32 : BitVec 32 := 0#32
  let v89 : BitVec 1 := Scalar.cmpi .sgt c512_i32 c0_i32_32
  let v90 : BitVec 32 := Scalar.extui v89
  let c0_i32_33 : BitVec 32 := 0#32
  let v91 : BitVec 1 := Scalar.cmpi .slt c512_i32 c0_i32_33
  let v92 : BitVec 32 := Scalar.extui v91
  let v93 : BitVec 32 := Scalar.subi v90 v92
  let v94 : BitVec 1 := Scalar.cmpi .ne v88 v93
  let v95 : BitVec 32 := Scalar.remsi v62 c512_i32
  let c0_i32_34 : BitVec 32 := 0#32
  let v96 : BitVec 1 := Scalar.cmpi .ne v95 c0_i32_34
  let v97 : BitVec 1 := Scalar.andi v94 v96
  let v83 : BitVec 32 := Scalar.divsi v62 c512_i32
  let c1_i32_35 : BitVec 32 := 1#32
  let v98 : BitVec 32 := Scalar.subi v83 c1_i32_35
  let v99 : BitVec 32 := Scalar.select v97 v98 v83
  let v100 : BitVec 32 := v99
  let c0_i32_51 : BitVec 32 := 0#32
  let c0_i32_52 : BitVec 32 := 0#32
  let c1_i32_54 : BitVec 32 := 1#32
  let arg14 : BitVec 32 := Scf.iv c0_i32_52 c1_i32_54 k0_t5
  let c1_i32_50 : BitVec 32 := 1#32
  let v165 : BitVec 32 := Scalar.muli arg14 c1_i32_50
  let v166 : BitVec 32 := Scalar.addi c0_i32_51 v165
  let c8_i32_80 : BitVec 32 := 8#32
  let v167 : BitVec 32 := Scalar.muli v166 c8_i32_80
  let v168 : BitVec 32 := Scalar.addi v100 v167
  let c0_i32_83 : BitVec 32 := 0#32
  ![v168.toNat, 0]
@[reducible] def k0_t6_loop (v51 : BitVec 32) (v58 : BitVec 32) : Scf.Loop 32 :=
  let c0_i32_52 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c0_i32_46 : BitVec 32 := 0#32
  let v110 : BitVec 32 := Scalar.subi v82 c0_i32_46
  let c1_i32_47 : BitVec 32 := 1#32
  let c1_i32_48 : BitVec 32 := 1#32
  let v111 : BitVec 32 := Scalar.subi c1_i32_47 c1_i32_48
  let v112 : BitVec 32 := Scalar.addi v110 v111
  let c1_i32_49 : BitVec 32 := 1#32
  let v113 : BitVec 32 := Scalar.divsi v112 c1_i32_49
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let v115 : BitVec 32 := Scalar.addi c0_i32_52 v114
  let c1_i32_55 : BitVec 32 := 1#32
  ⟨v118, v115, c1_i32_55⟩
def k0_off10 (v51 : BitVec 32) (v58 : BitVec 32) (k0_t6 : Fin (k0_t6_loop v51 v58).trips) : Fin 2 → Nat :=
  let c0_i32_51 : BitVec 32 := 0#32
  let c0_i32_52 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c0_i32_46 : BitVec 32 := 0#32
  let v110 : BitVec 32 := Scalar.subi v82 c0_i32_46
  let c1_i32_47 : BitVec 32 := 1#32
  let c1_i32_48 : BitVec 32 := 1#32
  let v111 : BitVec 32 := Scalar.subi c1_i32_47 c1_i32_48
  let v112 : BitVec 32 := Scalar.addi v110 v111
  let c1_i32_49 : BitVec 32 := 1#32
  let v113 : BitVec 32 := Scalar.divsi v112 c1_i32_49
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg14 : BitVec 32 := Scf.iv v118 c1_i32_55 k0_t6
  let c1_i32_50 : BitVec 32 := 1#32
  let v165 : BitVec 32 := Scalar.muli arg14 c1_i32_50
  let v166 : BitVec 32 := Scalar.addi c0_i32_51 v165
  let c8_i32_81 : BitVec 32 := 8#32
  let v169 : BitVec 32 := Scalar.muli v166 c8_i32_81
  let c0_i32_82 : BitVec 32 := 0#32
  ![v169.toNat, 0]
def k0_off11 (v51 : BitVec 32) (v58 : BitVec 32) (k0_t6 : Fin (k0_t6_loop v51 v58).trips) : Fin 2 → Nat :=
  let c_m4096_i32 : BitVec 32 := 4294963200#32
  let v62 : BitVec 32 := Scalar.andi v51 c_m4096_i32
  let c0_i32_30 : BitVec 32 := 0#32
  let v84 : BitVec 1 := Scalar.cmpi .sgt v62 c0_i32_30
  let v85 : BitVec 32 := Scalar.extui v84
  let c0_i32_31 : BitVec 32 := 0#32
  let v86 : BitVec 1 := Scalar.cmpi .slt v62 c0_i32_31
  let v87 : BitVec 32 := Scalar.extui v86
  let v88 : BitVec 32 := Scalar.subi v85 v87
  let c512_i32 : BitVec 32 := 512#32
  let c0_i32_32 : BitVec 32 := 0#32
  let v89 : BitVec 1 := Scalar.cmpi .sgt c512_i32 c0_i32_32
  let v90 : BitVec 32 := Scalar.extui v89
  let c0_i32_33 : BitVec 32 := 0#32
  let v91 : BitVec 1 := Scalar.cmpi .slt c512_i32 c0_i32_33
  let v92 : BitVec 32 := Scalar.extui v91
  let v93 : BitVec 32 := Scalar.subi v90 v92
  let v94 : BitVec 1 := Scalar.cmpi .ne v88 v93
  let v95 : BitVec 32 := Scalar.remsi v62 c512_i32
  let c0_i32_34 : BitVec 32 := 0#32
  let v96 : BitVec 1 := Scalar.cmpi .ne v95 c0_i32_34
  let v97 : BitVec 1 := Scalar.andi v94 v96
  let v83 : BitVec 32 := Scalar.divsi v62 c512_i32
  let c1_i32_35 : BitVec 32 := 1#32
  let v98 : BitVec 32 := Scalar.subi v83 c1_i32_35
  let v99 : BitVec 32 := Scalar.select v97 v98 v83
  let v100 : BitVec 32 := v99
  let c0_i32_51 : BitVec 32 := 0#32
  let c0_i32_52 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c0_i32_46 : BitVec 32 := 0#32
  let v110 : BitVec 32 := Scalar.subi v82 c0_i32_46
  let c1_i32_47 : BitVec 32 := 1#32
  let c1_i32_48 : BitVec 32 := 1#32
  let v111 : BitVec 32 := Scalar.subi c1_i32_47 c1_i32_48
  let v112 : BitVec 32 := Scalar.addi v110 v111
  let c1_i32_49 : BitVec 32 := 1#32
  let v113 : BitVec 32 := Scalar.divsi v112 c1_i32_49
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg14 : BitVec 32 := Scf.iv v118 c1_i32_55 k0_t6
  let c1_i32_50 : BitVec 32 := 1#32
  let v165 : BitVec 32 := Scalar.muli arg14 c1_i32_50
  let v166 : BitVec 32 := Scalar.addi c0_i32_51 v165
  let c8_i32_80 : BitVec 32 := 8#32
  let v167 : BitVec 32 := Scalar.muli v166 c8_i32_80
  let v168 : BitVec 32 := Scalar.addi v100 v167
  let c0_i32_83 : BitVec 32 := 0#32
  ![v168.toNat, 0]
@[reducible] def k0_t7_loop (v51 : BitVec 32) (v58 : BitVec 32) : Scf.Loop 32 :=
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let c1_i32_65 : BitVec 32 := 1#32
  ⟨c0_i32_63, v128, c1_i32_65⟩
def k0_off12 (v51 : BitVec 32) (v58 : BitVec 32) (k0_t7 : Fin (k0_t7_loop v51 v58).trips) : Fin 2 → Nat :=
  let c0_i32_62 : BitVec 32 := 0#32
  let c0_i32_63 : BitVec 32 := 0#32
  let c1_i32_65 : BitVec 32 := 1#32
  let arg14 : BitVec 32 := Scf.iv c0_i32_63 c1_i32_65 k0_t7
  let c1_i32_61 : BitVec 32 := 1#32
  let v165 : BitVec 32 := Scalar.muli arg14 c1_i32_61
  let v166 : BitVec 32 := Scalar.addi c0_i32_62 v165
  let v167 : Index := Scalar.indexCast v166
  let c0 : Index := 0#32
  ![v167.toNat, 0]
def k0_off13 (v51 : BitVec 32) (v58 : BitVec 32) (k0_t7 : Fin (k0_t7_loop v51 v58).trips) (c0_i32_82 : BitVec 32) (c0_i32_83 : BitVec 32) : Fin 1 → Nat :=
  let c0_i32_62 : BitVec 32 := 0#32
  let c0_i32_63 : BitVec 32 := 0#32
  let c1_i32_65 : BitVec 32 := 1#32
  let arg14 : BitVec 32 := Scf.iv c0_i32_63 c1_i32_65 k0_t7
  let c1_i32_61 : BitVec 32 := 1#32
  let v165 : BitVec 32 := Scalar.muli arg14 c1_i32_61
  let v166 : BitVec 32 := Scalar.addi c0_i32_62 v165
  let c512_i32_81 : BitVec 32 := 512#32
  let v171 : BitVec 32 := Scalar.muli v166 c512_i32_81
  let v172 : BitVec 32 := Scalar.addi v171 c0_i32_82
  let v173 : BitVec 32 := Scalar.addi v172 c0_i32_83
  let v174 : Index := Scalar.indexCast v173
  ![v174.toNat]
def k0_off14 (v51 : BitVec 32) (v58 : BitVec 32) (k0_t7 : Fin (k0_t7_loop v51 v58).trips) : Fin 2 → Nat :=
  let c0_i32_62 : BitVec 32 := 0#32
  let c0_i32_63 : BitVec 32 := 0#32
  let c1_i32_65 : BitVec 32 := 1#32
  let arg14 : BitVec 32 := Scf.iv c0_i32_63 c1_i32_65 k0_t7
  let c1_i32_61 : BitVec 32 := 1#32
  let v165 : BitVec 32 := Scalar.muli arg14 c1_i32_61
  let v166 : BitVec 32 := Scalar.addi c0_i32_62 v165
  let v197 : Index := Scalar.indexCast v166
  let c16 : Index := 16#32
  ![v197.toNat, 16]
def k0_off15 (v51 : BitVec 32) (v58 : BitVec 32) (k0_t7 : Fin (k0_t7_loop v51 v58).trips) : Fin 2 → Nat :=
  let c0_i32_62 : BitVec 32 := 0#32
  let c0_i32_63 : BitVec 32 := 0#32
  let c1_i32_65 : BitVec 32 := 1#32
  let arg14 : BitVec 32 := Scf.iv c0_i32_63 c1_i32_65 k0_t7
  let c1_i32_61 : BitVec 32 := 1#32
  let v165 : BitVec 32 := Scalar.muli arg14 c1_i32_61
  let v166 : BitVec 32 := Scalar.addi c0_i32_62 v165
  let v227 : Index := Scalar.indexCast v166
  let c32 : Index := 32#32
  ![v227.toNat, 32]
def k0_off16 (v51 : BitVec 32) (v58 : BitVec 32) (k0_t7 : Fin (k0_t7_loop v51 v58).trips) : Fin 2 → Nat :=
  let c0_i32_62 : BitVec 32 := 0#32
  let c0_i32_63 : BitVec 32 := 0#32
  let c1_i32_65 : BitVec 32 := 1#32
  let arg14 : BitVec 32 := Scf.iv c0_i32_63 c1_i32_65 k0_t7
  let c1_i32_61 : BitVec 32 := 1#32
  let v165 : BitVec 32 := Scalar.muli arg14 c1_i32_61
  let v166 : BitVec 32 := Scalar.addi c0_i32_62 v165
  let v257 : Index := Scalar.indexCast v166
  let c48 : Index := 48#32
  ![v257.toNat, 48]
def k0_off17 (v51 : BitVec 32) (v58 : BitVec 32) (k0_t7 : Fin (k0_t7_loop v51 v58).trips) : Fin 2 → Nat :=
  let c0_i32_62 : BitVec 32 := 0#32
  let c0_i32_63 : BitVec 32 := 0#32
  let c1_i32_65 : BitVec 32 := 1#32
  let arg14 : BitVec 32 := Scf.iv c0_i32_63 c1_i32_65 k0_t7
  let c1_i32_61 : BitVec 32 := 1#32
  let v165 : BitVec 32 := Scalar.muli arg14 c1_i32_61
  let v166 : BitVec 32 := Scalar.addi c0_i32_62 v165
  let v287 : Index := Scalar.indexCast v166
  let c64 : Index := 64#32
  ![v287.toNat, 64]
def k0_off18 (v51 : BitVec 32) (v58 : BitVec 32) (k0_t7 : Fin (k0_t7_loop v51 v58).trips) : Fin 2 → Nat :=
  let c0_i32_62 : BitVec 32 := 0#32
  let c0_i32_63 : BitVec 32 := 0#32
  let c1_i32_65 : BitVec 32 := 1#32
  let arg14 : BitVec 32 := Scf.iv c0_i32_63 c1_i32_65 k0_t7
  let c1_i32_61 : BitVec 32 := 1#32
  let v165 : BitVec 32 := Scalar.muli arg14 c1_i32_61
  let v166 : BitVec 32 := Scalar.addi c0_i32_62 v165
  let v317 : Index := Scalar.indexCast v166
  let c80 : Index := 80#32
  ![v317.toNat, 80]
def k0_off19 (v51 : BitVec 32) (v58 : BitVec 32) (k0_t7 : Fin (k0_t7_loop v51 v58).trips) : Fin 2 → Nat :=
  let c0_i32_62 : BitVec 32 := 0#32
  let c0_i32_63 : BitVec 32 := 0#32
  let c1_i32_65 : BitVec 32 := 1#32
  let arg14 : BitVec 32 := Scf.iv c0_i32_63 c1_i32_65 k0_t7
  let c1_i32_61 : BitVec 32 := 1#32
  let v165 : BitVec 32 := Scalar.muli arg14 c1_i32_61
  let v166 : BitVec 32 := Scalar.addi c0_i32_62 v165
  let v347 : Index := Scalar.indexCast v166
  let c96 : Index := 96#32
  ![v347.toNat, 96]
def k0_off20 (v51 : BitVec 32) (v58 : BitVec 32) (k0_t7 : Fin (k0_t7_loop v51 v58).trips) : Fin 2 → Nat :=
  let c0_i32_62 : BitVec 32 := 0#32
  let c0_i32_63 : BitVec 32 := 0#32
  let c1_i32_65 : BitVec 32 := 1#32
  let arg14 : BitVec 32 := Scf.iv c0_i32_63 c1_i32_65 k0_t7
  let c1_i32_61 : BitVec 32 := 1#32
  let v165 : BitVec 32 := Scalar.muli arg14 c1_i32_61
  let v166 : BitVec 32 := Scalar.addi c0_i32_62 v165
  let v377 : Index := Scalar.indexCast v166
  let c112 : Index := 112#32
  ![v377.toNat, 112]
@[reducible] def k0_t8_loop (v51 : BitVec 32) (v58 : BitVec 32) : Scf.Loop 32 :=
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let v125 : BitVec 32 := Scalar.addi c0_i32_63 v124
  let c1_i32_66 : BitVec 32 := 1#32
  ⟨v128, v125, c1_i32_66⟩
def k0_off21 (v51 : BitVec 32) (v58 : BitVec 32) (k0_t8 : Fin (k0_t8_loop v51 v58).trips) : Fin 2 → Nat :=
  let c0_i32_62 : BitVec 32 := 0#32
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let c1_i32_66 : BitVec 32 := 1#32
  let arg14 : BitVec 32 := Scf.iv v128 c1_i32_66 k0_t8
  let c1_i32_61 : BitVec 32 := 1#32
  let v165 : BitVec 32 := Scalar.muli arg14 c1_i32_61
  let v166 : BitVec 32 := Scalar.addi c0_i32_62 v165
  let v167 : Index := Scalar.indexCast v166
  let c0 : Index := 0#32
  ![v167.toNat, 0]
def k0_off22 (v51 : BitVec 32) (v58 : BitVec 32) (k0_t8 : Fin (k0_t8_loop v51 v58).trips) (c0_i32_82 : BitVec 32) (c0_i32_83 : BitVec 32) : Fin 1 → Nat :=
  let c0_i32_62 : BitVec 32 := 0#32
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let c1_i32_66 : BitVec 32 := 1#32
  let arg14 : BitVec 32 := Scf.iv v128 c1_i32_66 k0_t8
  let c1_i32_61 : BitVec 32 := 1#32
  let v165 : BitVec 32 := Scalar.muli arg14 c1_i32_61
  let v166 : BitVec 32 := Scalar.addi c0_i32_62 v165
  let c512_i32_81 : BitVec 32 := 512#32
  let v171 : BitVec 32 := Scalar.muli v166 c512_i32_81
  let v172 : BitVec 32 := Scalar.addi v171 c0_i32_82
  let v173 : BitVec 32 := Scalar.addi v172 c0_i32_83
  let v174 : Index := Scalar.indexCast v173
  ![v174.toNat]
def k0_off23 (v51 : BitVec 32) (v58 : BitVec 32) (k0_t8 : Fin (k0_t8_loop v51 v58).trips) : Fin 2 → Nat :=
  let c0_i32_62 : BitVec 32 := 0#32
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let c1_i32_66 : BitVec 32 := 1#32
  let arg14 : BitVec 32 := Scf.iv v128 c1_i32_66 k0_t8
  let c1_i32_61 : BitVec 32 := 1#32
  let v165 : BitVec 32 := Scalar.muli arg14 c1_i32_61
  let v166 : BitVec 32 := Scalar.addi c0_i32_62 v165
  let v197 : Index := Scalar.indexCast v166
  let c16 : Index := 16#32
  ![v197.toNat, 16]
def k0_off24 (v51 : BitVec 32) (v58 : BitVec 32) (k0_t8 : Fin (k0_t8_loop v51 v58).trips) : Fin 2 → Nat :=
  let c0_i32_62 : BitVec 32 := 0#32
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let c1_i32_66 : BitVec 32 := 1#32
  let arg14 : BitVec 32 := Scf.iv v128 c1_i32_66 k0_t8
  let c1_i32_61 : BitVec 32 := 1#32
  let v165 : BitVec 32 := Scalar.muli arg14 c1_i32_61
  let v166 : BitVec 32 := Scalar.addi c0_i32_62 v165
  let v227 : Index := Scalar.indexCast v166
  let c32 : Index := 32#32
  ![v227.toNat, 32]
def k0_off25 (v51 : BitVec 32) (v58 : BitVec 32) (k0_t8 : Fin (k0_t8_loop v51 v58).trips) : Fin 2 → Nat :=
  let c0_i32_62 : BitVec 32 := 0#32
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let c1_i32_66 : BitVec 32 := 1#32
  let arg14 : BitVec 32 := Scf.iv v128 c1_i32_66 k0_t8
  let c1_i32_61 : BitVec 32 := 1#32
  let v165 : BitVec 32 := Scalar.muli arg14 c1_i32_61
  let v166 : BitVec 32 := Scalar.addi c0_i32_62 v165
  let v257 : Index := Scalar.indexCast v166
  let c48 : Index := 48#32
  ![v257.toNat, 48]
def k0_off26 (v51 : BitVec 32) (v58 : BitVec 32) (k0_t8 : Fin (k0_t8_loop v51 v58).trips) : Fin 2 → Nat :=
  let c0_i32_62 : BitVec 32 := 0#32
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let c1_i32_66 : BitVec 32 := 1#32
  let arg14 : BitVec 32 := Scf.iv v128 c1_i32_66 k0_t8
  let c1_i32_61 : BitVec 32 := 1#32
  let v165 : BitVec 32 := Scalar.muli arg14 c1_i32_61
  let v166 : BitVec 32 := Scalar.addi c0_i32_62 v165
  let v287 : Index := Scalar.indexCast v166
  let c64 : Index := 64#32
  ![v287.toNat, 64]
def k0_off27 (v51 : BitVec 32) (v58 : BitVec 32) (k0_t8 : Fin (k0_t8_loop v51 v58).trips) : Fin 2 → Nat :=
  let c0_i32_62 : BitVec 32 := 0#32
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let c1_i32_66 : BitVec 32 := 1#32
  let arg14 : BitVec 32 := Scf.iv v128 c1_i32_66 k0_t8
  let c1_i32_61 : BitVec 32 := 1#32
  let v165 : BitVec 32 := Scalar.muli arg14 c1_i32_61
  let v166 : BitVec 32 := Scalar.addi c0_i32_62 v165
  let v317 : Index := Scalar.indexCast v166
  let c80 : Index := 80#32
  ![v317.toNat, 80]
def k0_off28 (v51 : BitVec 32) (v58 : BitVec 32) (k0_t8 : Fin (k0_t8_loop v51 v58).trips) : Fin 2 → Nat :=
  let c0_i32_62 : BitVec 32 := 0#32
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let c1_i32_66 : BitVec 32 := 1#32
  let arg14 : BitVec 32 := Scf.iv v128 c1_i32_66 k0_t8
  let c1_i32_61 : BitVec 32 := 1#32
  let v165 : BitVec 32 := Scalar.muli arg14 c1_i32_61
  let v166 : BitVec 32 := Scalar.addi c0_i32_62 v165
  let v347 : Index := Scalar.indexCast v166
  let c96 : Index := 96#32
  ![v347.toNat, 96]
def k0_off29 (v51 : BitVec 32) (v58 : BitVec 32) (k0_t8 : Fin (k0_t8_loop v51 v58).trips) : Fin 2 → Nat :=
  let c0_i32_62 : BitVec 32 := 0#32
  let c0_i32_63 : BitVec 32 := 0#32
  let c4_i32 : BitVec 32 := 4#32
  let v59 : BitVec 32 := Scalar.addi v58 c4_i32
  let c32_i32 : BitVec 32 := 32#32
  let v60 : BitVec 32 := Scalar.addi v59 c32_i32
  let c79626240_i32 : BitVec 32 := 79626240#32
  let v61 : BitVec 32 := Scalar.minsi v60 c79626240_i32
  let c_m4096_i32 : BitVec 32 := 4294963200#32
  let v62 : BitVec 32 := Scalar.andi v51 c_m4096_i32
  let v63 : BitVec 32 := Scalar.subi v61 v62
  let c4096_i32 : BitVec 32 := 4096#32
  let v64 : BitVec 32 := Scalar.addi v63 c4096_i32
  let c1_i32_22 : BitVec 32 := 1#32
  let v65 : BitVec 32 := Scalar.subi v64 c1_i32_22
  let c0_i32_24 : BitVec 32 := 0#32
  let v67 : BitVec 1 := Scalar.cmpi .sgt v65 c0_i32_24
  let v68 : BitVec 32 := Scalar.extui v67
  let c0_i32_25 : BitVec 32 := 0#32
  let v69 : BitVec 1 := Scalar.cmpi .slt v65 c0_i32_25
  let v70 : BitVec 32 := Scalar.extui v69
  let v71 : BitVec 32 := Scalar.subi v68 v70
  let c4096_i32_23 : BitVec 32 := 4096#32
  let c0_i32_26 : BitVec 32 := 0#32
  let v72 : BitVec 1 := Scalar.cmpi .sgt c4096_i32_23 c0_i32_26
  let v73 : BitVec 32 := Scalar.extui v72
  let c0_i32_27 : BitVec 32 := 0#32
  let v74 : BitVec 1 := Scalar.cmpi .slt c4096_i32_23 c0_i32_27
  let v75 : BitVec 32 := Scalar.extui v74
  let v76 : BitVec 32 := Scalar.subi v73 v75
  let v77 : BitVec 1 := Scalar.cmpi .ne v71 v76
  let v78 : BitVec 32 := Scalar.remsi v65 c4096_i32_23
  let c0_i32_28 : BitVec 32 := 0#32
  let v79 : BitVec 1 := Scalar.cmpi .ne v78 c0_i32_28
  let v80 : BitVec 1 := Scalar.andi v77 v79
  let v66 : BitVec 32 := Scalar.divsi v65 c4096_i32_23
  let c1_i32_29 : BitVec 32 := 1#32
  let v81 : BitVec 32 := Scalar.subi v66 c1_i32_29
  let v82 : BitVec 32 := Scalar.select v80 v81 v66
  let c8_i32_56 : BitVec 32 := 8#32
  let v119 : BitVec 32 := Scalar.muli v82 c8_i32_56
  let c0_i32_57 : BitVec 32 := 0#32
  let v120 : BitVec 32 := Scalar.subi v119 c0_i32_57
  let c1_i32_58 : BitVec 32 := 1#32
  let c1_i32_59 : BitVec 32 := 1#32
  let v121 : BitVec 32 := Scalar.subi c1_i32_58 c1_i32_59
  let v122 : BitVec 32 := Scalar.addi v120 v121
  let c1_i32_60 : BitVec 32 := 1#32
  let v123 : BitVec 32 := Scalar.divsi v122 c1_i32_60
  let v124 : BitVec 32 := Scalar.subi v123 c0_i32_63
  let c1_i32_64 : BitVec 32 := 1#32
  let v126 : BitVec 32 := Scalar.divsi v124 c1_i32_64
  let v127 : BitVec 32 := Scalar.muli v126 c1_i32_64
  let v128 : BitVec 32 := Scalar.addi c0_i32_63 v127
  let c1_i32_66 : BitVec 32 := 1#32
  let arg14 : BitVec 32 := Scf.iv v128 c1_i32_66 k0_t8
  let c1_i32_61 : BitVec 32 := 1#32
  let v165 : BitVec 32 := Scalar.muli arg14 c1_i32_61
  let v166 : BitVec 32 := Scalar.addi c0_i32_62 v165
  let v377 : Index := Scalar.indexCast v166
  let c112 : Index := 112#32
  ![v377.toNat, 112]

def k0_chk4 (v51 : BitVec 32) (v58 : BitVec 32) : Prop :=
  ((k0_t3_loop v51 v58).OK) ∧
  (∀ k0_t3 : Fin (k0_t3_loop v51 v58).trips, ∀ a, (k0_off4 v51 v58 k0_t3) a + S8x128.size a ≤ S96x128.size a) ∧
  (∀ k0_t3 : Fin (k0_t3_loop v51 v58).trips, ∀ a, (k0_off5 v51 v58 k0_t3) a + S8x128.size a ≤ S155520x128.size a) ∧
  ((k0_t4_loop v51 v58).OK) ∧
  (∀ k0_t4 : Fin (k0_t4_loop v51 v58).trips, ∀ a, (k0_off6 v51 v58 k0_t4) a + S8x128.size a ≤ S96x128.size a) ∧
  (∀ k0_t4 : Fin (k0_t4_loop v51 v58).trips, ∀ a, (k0_off7 v51 v58 k0_t4) a + S8x128.size a ≤ S155520x128.size a) ∧
  ((k0_t5_loop v51 v58).OK) ∧
  (∀ k0_t5 : Fin (k0_t5_loop v51 v58).trips, ∀ a, (k0_off8 v51 v58 k0_t5) a + S8x128.size a ≤ S96x128.size a) ∧
  (∀ k0_t5 : Fin (k0_t5_loop v51 v58).trips, ∀ a, (k0_off9 v51 v58 k0_t5) a + S8x128.size a ≤ S155520x128.size a) ∧
  ((k0_t6_loop v51 v58).OK) ∧
  (∀ k0_t6 : Fin (k0_t6_loop v51 v58).trips, ∀ a, (k0_off10 v51 v58 k0_t6) a + S8x128.size a ≤ S96x128.size a) ∧
  (∀ k0_t6 : Fin (k0_t6_loop v51 v58).trips, ∀ a, (k0_off11 v51 v58 k0_t6) a + S8x128.size a ≤ S155520x128.size a) ∧
  ((k0_t7_loop v51 v58).OK) ∧
  (∀ k0_t7 : Fin (k0_t7_loop v51 v58).trips, ∀ a, (k0_off12 v51 v58 k0_t7) a + S1x16.size a ≤ S96x128.size a) ∧
  (∀ k0_t7 : Fin (k0_t7_loop v51 v58).trips, ∀ (r₁ : Fin 4) (r₂ : Fin 8), ∀ a, (k0_off13 v51 v58 k0_t7 (BitVec.ofNat 32 (128 * r₁.val)) (BitVec.ofNat 32 (16 * r₂.val))) a + S16.size a ≤ S49216.size a) ∧
  (∀ k0_t7 : Fin (k0_t7_loop v51 v58).trips, ∀ a, (k0_off14 v51 v58 k0_t7) a + S1x16.size a ≤ S96x128.size a) ∧
  (∀ k0_t7 : Fin (k0_t7_loop v51 v58).trips, ∀ a, (k0_off15 v51 v58 k0_t7) a + S1x16.size a ≤ S96x128.size a) ∧
  (∀ k0_t7 : Fin (k0_t7_loop v51 v58).trips, ∀ a, (k0_off16 v51 v58 k0_t7) a + S1x16.size a ≤ S96x128.size a) ∧
  (∀ k0_t7 : Fin (k0_t7_loop v51 v58).trips, ∀ a, (k0_off17 v51 v58 k0_t7) a + S1x16.size a ≤ S96x128.size a) ∧
  (∀ k0_t7 : Fin (k0_t7_loop v51 v58).trips, ∀ a, (k0_off18 v51 v58 k0_t7) a + S1x16.size a ≤ S96x128.size a) ∧
  (∀ k0_t7 : Fin (k0_t7_loop v51 v58).trips, ∀ a, (k0_off19 v51 v58 k0_t7) a + S1x16.size a ≤ S96x128.size a) ∧
  (∀ k0_t7 : Fin (k0_t7_loop v51 v58).trips, ∀ a, (k0_off20 v51 v58 k0_t7) a + S1x16.size a ≤ S96x128.size a) ∧
  ((k0_t8_loop v51 v58).OK) ∧
  (∀ k0_t8 : Fin (k0_t8_loop v51 v58).trips, ∀ a, (k0_off21 v51 v58 k0_t8) a + S1x16.size a ≤ S96x128.size a) ∧
  (∀ k0_t8 : Fin (k0_t8_loop v51 v58).trips, ∀ (r₁ : Fin 4) (r₂ : Fin 8), ∀ a, (k0_off22 v51 v58 k0_t8 (BitVec.ofNat 32 (128 * r₁.val)) (BitVec.ofNat 32 (16 * r₂.val))) a + S16.size a ≤ S49216.size a) ∧
  (∀ k0_t8 : Fin (k0_t8_loop v51 v58).trips, ∀ a, (k0_off23 v51 v58 k0_t8) a + S1x16.size a ≤ S96x128.size a) ∧
  (∀ k0_t8 : Fin (k0_t8_loop v51 v58).trips, ∀ a, (k0_off24 v51 v58 k0_t8) a + S1x16.size a ≤ S96x128.size a) ∧
  (∀ k0_t8 : Fin (k0_t8_loop v51 v58).trips, ∀ a, (k0_off25 v51 v58 k0_t8) a + S1x16.size a ≤ S96x128.size a) ∧
  (∀ k0_t8 : Fin (k0_t8_loop v51 v58).trips, ∀ a, (k0_off26 v51 v58 k0_t8) a + S1x16.size a ≤ S96x128.size a) ∧
  (∀ k0_t8 : Fin (k0_t8_loop v51 v58).trips, ∀ a, (k0_off27 v51 v58 k0_t8) a + S1x16.size a ≤ S96x128.size a) ∧
  (∀ k0_t8 : Fin (k0_t8_loop v51 v58).trips, ∀ a, (k0_off28 v51 v58 k0_t8) a + S1x16.size a ≤ S96x128.size a) ∧
  (∀ k0_t8 : Fin (k0_t8_loop v51 v58).trips, ∀ a, (k0_off29 v51 v58 k0_t8) a + S1x16.size a ≤ S96x128.size a)
theorem k0_t3_ok : ∀ (v51 : BitVec 32) (v58 : BitVec 32) (k0_hw4 : k0_chk4 v51 v58), (k0_t3_loop v51 v58).OK := fun v51 v58 k0_hw4 => k0_hw4.1
theorem k0_off4_inb : ∀ (v51 : BitVec 32) (v58 : BitVec 32) (k0_hw4 : k0_chk4 v51 v58) (k0_t3 : Fin (k0_t3_loop v51 v58).trips), ∀ a, (k0_off4 v51 v58 k0_t3) a + S8x128.size a ≤ S96x128.size a := fun v51 v58 k0_hw4 k0_t3 => k0_hw4.2.1 k0_t3
theorem k0_off5_inb : ∀ (v51 : BitVec 32) (v58 : BitVec 32) (k0_hw4 : k0_chk4 v51 v58) (k0_t3 : Fin (k0_t3_loop v51 v58).trips), ∀ a, (k0_off5 v51 v58 k0_t3) a + S8x128.size a ≤ S155520x128.size a := fun v51 v58 k0_hw4 k0_t3 => k0_hw4.2.2.1 k0_t3
theorem k0_t4_ok : ∀ (v51 : BitVec 32) (v58 : BitVec 32) (k0_hw4 : k0_chk4 v51 v58), (k0_t4_loop v51 v58).OK := fun v51 v58 k0_hw4 => k0_hw4.2.2.2.1
theorem k0_off6_inb : ∀ (v51 : BitVec 32) (v58 : BitVec 32) (k0_hw4 : k0_chk4 v51 v58) (k0_t4 : Fin (k0_t4_loop v51 v58).trips), ∀ a, (k0_off6 v51 v58 k0_t4) a + S8x128.size a ≤ S96x128.size a := fun v51 v58 k0_hw4 k0_t4 => k0_hw4.2.2.2.2.1 k0_t4
theorem k0_off7_inb : ∀ (v51 : BitVec 32) (v58 : BitVec 32) (k0_hw4 : k0_chk4 v51 v58) (k0_t4 : Fin (k0_t4_loop v51 v58).trips), ∀ a, (k0_off7 v51 v58 k0_t4) a + S8x128.size a ≤ S155520x128.size a := fun v51 v58 k0_hw4 k0_t4 => k0_hw4.2.2.2.2.2.1 k0_t4
theorem k0_t5_ok : ∀ (v51 : BitVec 32) (v58 : BitVec 32) (k0_hw4 : k0_chk4 v51 v58), (k0_t5_loop v51 v58).OK := fun v51 v58 k0_hw4 => k0_hw4.2.2.2.2.2.2.1
theorem k0_off8_inb : ∀ (v51 : BitVec 32) (v58 : BitVec 32) (k0_hw4 : k0_chk4 v51 v58) (k0_t5 : Fin (k0_t5_loop v51 v58).trips), ∀ a, (k0_off8 v51 v58 k0_t5) a + S8x128.size a ≤ S96x128.size a := fun v51 v58 k0_hw4 k0_t5 => k0_hw4.2.2.2.2.2.2.2.1 k0_t5
theorem k0_off9_inb : ∀ (v51 : BitVec 32) (v58 : BitVec 32) (k0_hw4 : k0_chk4 v51 v58) (k0_t5 : Fin (k0_t5_loop v51 v58).trips), ∀ a, (k0_off9 v51 v58 k0_t5) a + S8x128.size a ≤ S155520x128.size a := fun v51 v58 k0_hw4 k0_t5 => k0_hw4.2.2.2.2.2.2.2.2.1 k0_t5
theorem k0_t6_ok : ∀ (v51 : BitVec 32) (v58 : BitVec 32) (k0_hw4 : k0_chk4 v51 v58), (k0_t6_loop v51 v58).OK := fun v51 v58 k0_hw4 => k0_hw4.2.2.2.2.2.2.2.2.2.1
theorem k0_off10_inb : ∀ (v51 : BitVec 32) (v58 : BitVec 32) (k0_hw4 : k0_chk4 v51 v58) (k0_t6 : Fin (k0_t6_loop v51 v58).trips), ∀ a, (k0_off10 v51 v58 k0_t6) a + S8x128.size a ≤ S96x128.size a := fun v51 v58 k0_hw4 k0_t6 => k0_hw4.2.2.2.2.2.2.2.2.2.2.1 k0_t6
theorem k0_off11_inb : ∀ (v51 : BitVec 32) (v58 : BitVec 32) (k0_hw4 : k0_chk4 v51 v58) (k0_t6 : Fin (k0_t6_loop v51 v58).trips), ∀ a, (k0_off11 v51 v58 k0_t6) a + S8x128.size a ≤ S155520x128.size a := fun v51 v58 k0_hw4 k0_t6 => k0_hw4.2.2.2.2.2.2.2.2.2.2.2.1 k0_t6
theorem k0_t7_ok : ∀ (v51 : BitVec 32) (v58 : BitVec 32) (k0_hw4 : k0_chk4 v51 v58), (k0_t7_loop v51 v58).OK := fun v51 v58 k0_hw4 => k0_hw4.2.2.2.2.2.2.2.2.2.2.2.2.1
theorem k0_off12_inb : ∀ (v51 : BitVec 32) (v58 : BitVec 32) (k0_hw4 : k0_chk4 v51 v58) (k0_t7 : Fin (k0_t7_loop v51 v58).trips), ∀ a, (k0_off12 v51 v58 k0_t7) a + S1x16.size a ≤ S96x128.size a := fun v51 v58 k0_hw4 k0_t7 => k0_hw4.2.2.2.2.2.2.2.2.2.2.2.2.2.1 k0_t7
theorem k0_off13_inb : ∀ (v51 : BitVec 32) (v58 : BitVec 32) (k0_hw4 : k0_chk4 v51 v58) (k0_t7 : Fin (k0_t7_loop v51 v58).trips), ∀ (r₁ : Fin 4) (r₂ : Fin 8), ∀ a, (k0_off13 v51 v58 k0_t7 (BitVec.ofNat 32 (128 * r₁.val)) (BitVec.ofNat 32 (16 * r₂.val))) a + S16.size a ≤ S49216.size a := fun v51 v58 k0_hw4 k0_t7 r₁ r₂ => k0_hw4.2.2.2.2.2.2.2.2.2.2.2.2.2.2.1 k0_t7 r₁ r₂
theorem k0_off14_inb : ∀ (v51 : BitVec 32) (v58 : BitVec 32) (k0_hw4 : k0_chk4 v51 v58) (k0_t7 : Fin (k0_t7_loop v51 v58).trips), ∀ a, (k0_off14 v51 v58 k0_t7) a + S1x16.size a ≤ S96x128.size a := fun v51 v58 k0_hw4 k0_t7 => k0_hw4.2.2.2.2.2.2.2.2.2.2.2.2.2.2.2.1 k0_t7
theorem k0_off15_inb : ∀ (v51 : BitVec 32) (v58 : BitVec 32) (k0_hw4 : k0_chk4 v51 v58) (k0_t7 : Fin (k0_t7_loop v51 v58).trips), ∀ a, (k0_off15 v51 v58 k0_t7) a + S1x16.size a ≤ S96x128.size a := fun v51 v58 k0_hw4 k0_t7 => k0_hw4.2.2.2.2.2.2.2.2.2.2.2.2.2.2.2.2.1 k0_t7
theorem k0_off16_inb : ∀ (v51 : BitVec 32) (v58 : BitVec 32) (k0_hw4 : k0_chk4 v51 v58) (k0_t7 : Fin (k0_t7_loop v51 v58).trips), ∀ a, (k0_off16 v51 v58 k0_t7) a + S1x16.size a ≤ S96x128.size a := fun v51 v58 k0_hw4 k0_t7 => k0_hw4.2.2.2.2.2.2.2.2.2.2.2.2.2.2.2.2.2.1 k0_t7
theorem k0_off17_inb : ∀ (v51 : BitVec 32) (v58 : BitVec 32) (k0_hw4 : k0_chk4 v51 v58) (k0_t7 : Fin (k0_t7_loop v51 v58).trips), ∀ a, (k0_off17 v51 v58 k0_t7) a + S1x16.size a ≤ S96x128.size a := fun v51 v58 k0_hw4 k0_t7 => k0_hw4.2.2.2.2.2.2.2.2.2.2.2.2.2.2.2.2.2.2.1 k0_t7
theorem k0_off18_inb : ∀ (v51 : BitVec 32) (v58 : BitVec 32) (k0_hw4 : k0_chk4 v51 v58) (k0_t7 : Fin (k0_t7_loop v51 v58).trips), ∀ a, (k0_off18 v51 v58 k0_t7) a + S1x16.size a ≤ S96x128.size a := fun v51 v58 k0_hw4 k0_t7 => k0_hw4.2.2.2.2.2.2.2.2.2.2.2.2.2.2.2.2.2.2.2.1 k0_t7
theorem k0_off19_inb : ∀ (v51 : BitVec 32) (v58 : BitVec 32) (k0_hw4 : k0_chk4 v51 v58) (k0_t7 : Fin (k0_t7_loop v51 v58).trips), ∀ a, (k0_off19 v51 v58 k0_t7) a + S1x16.size a ≤ S96x128.size a := fun v51 v58 k0_hw4 k0_t7 => k0_hw4.2.2.2.2.2.2.2.2.2.2.2.2.2.2.2.2.2.2.2.2.1 k0_t7
theorem k0_off20_inb : ∀ (v51 : BitVec 32) (v58 : BitVec 32) (k0_hw4 : k0_chk4 v51 v58) (k0_t7 : Fin (k0_t7_loop v51 v58).trips), ∀ a, (k0_off20 v51 v58 k0_t7) a + S1x16.size a ≤ S96x128.size a := fun v51 v58 k0_hw4 k0_t7 => k0_hw4.2.2.2.2.2.2.2.2.2.2.2.2.2.2.2.2.2.2.2.2.2.1 k0_t7
theorem k0_t8_ok : ∀ (v51 : BitVec 32) (v58 : BitVec 32) (k0_hw4 : k0_chk4 v51 v58), (k0_t8_loop v51 v58).OK := fun v51 v58 k0_hw4 => k0_hw4.2.2.2.2.2.2.2.2.2.2.2.2.2.2.2.2.2.2.2.2.2.2.1
theorem k0_off21_inb : ∀ (v51 : BitVec 32) (v58 : BitVec 32) (k0_hw4 : k0_chk4 v51 v58) (k0_t8 : Fin (k0_t8_loop v51 v58).trips), ∀ a, (k0_off21 v51 v58 k0_t8) a + S1x16.size a ≤ S96x128.size a := fun v51 v58 k0_hw4 k0_t8 => k0_hw4.2.2.2.2.2.2.2.2.2.2.2.2.2.2.2.2.2.2.2.2.2.2.2.1 k0_t8
theorem k0_off22_inb : ∀ (v51 : BitVec 32) (v58 : BitVec 32) (k0_hw4 : k0_chk4 v51 v58) (k0_t8 : Fin (k0_t8_loop v51 v58).trips), ∀ (r₁ : Fin 4) (r₂ : Fin 8), ∀ a, (k0_off22 v51 v58 k0_t8 (BitVec.ofNat 32 (128 * r₁.val)) (BitVec.ofNat 32 (16 * r₂.val))) a + S16.size a ≤ S49216.size a := fun v51 v58 k0_hw4 k0_t8 r₁ r₂ => k0_hw4.2.2.2.2.2.2.2.2.2.2.2.2.2.2.2.2.2.2.2.2.2.2.2.2.1 k0_t8 r₁ r₂
theorem k0_off23_inb : ∀ (v51 : BitVec 32) (v58 : BitVec 32) (k0_hw4 : k0_chk4 v51 v58) (k0_t8 : Fin (k0_t8_loop v51 v58).trips), ∀ a, (k0_off23 v51 v58 k0_t8) a + S1x16.size a ≤ S96x128.size a := fun v51 v58 k0_hw4 k0_t8 => k0_hw4.2.2.2.2.2.2.2.2.2.2.2.2.2.2.2.2.2.2.2.2.2.2.2.2.2.1 k0_t8
theorem k0_off24_inb : ∀ (v51 : BitVec 32) (v58 : BitVec 32) (k0_hw4 : k0_chk4 v51 v58) (k0_t8 : Fin (k0_t8_loop v51 v58).trips), ∀ a, (k0_off24 v51 v58 k0_t8) a + S1x16.size a ≤ S96x128.size a := fun v51 v58 k0_hw4 k0_t8 => k0_hw4.2.2.2.2.2.2.2.2.2.2.2.2.2.2.2.2.2.2.2.2.2.2.2.2.2.2.1 k0_t8
theorem k0_off25_inb : ∀ (v51 : BitVec 32) (v58 : BitVec 32) (k0_hw4 : k0_chk4 v51 v58) (k0_t8 : Fin (k0_t8_loop v51 v58).trips), ∀ a, (k0_off25 v51 v58 k0_t8) a + S1x16.size a ≤ S96x128.size a := fun v51 v58 k0_hw4 k0_t8 => k0_hw4.2.2.2.2.2.2.2.2.2.2.2.2.2.2.2.2.2.2.2.2.2.2.2.2.2.2.2.1 k0_t8
theorem k0_off26_inb : ∀ (v51 : BitVec 32) (v58 : BitVec 32) (k0_hw4 : k0_chk4 v51 v58) (k0_t8 : Fin (k0_t8_loop v51 v58).trips), ∀ a, (k0_off26 v51 v58 k0_t8) a + S1x16.size a ≤ S96x128.size a := fun v51 v58 k0_hw4 k0_t8 => k0_hw4.2.2.2.2.2.2.2.2.2.2.2.2.2.2.2.2.2.2.2.2.2.2.2.2.2.2.2.2.1 k0_t8
theorem k0_off27_inb : ∀ (v51 : BitVec 32) (v58 : BitVec 32) (k0_hw4 : k0_chk4 v51 v58) (k0_t8 : Fin (k0_t8_loop v51 v58).trips), ∀ a, (k0_off27 v51 v58 k0_t8) a + S1x16.size a ≤ S96x128.size a := fun v51 v58 k0_hw4 k0_t8 => k0_hw4.2.2.2.2.2.2.2.2.2.2.2.2.2.2.2.2.2.2.2.2.2.2.2.2.2.2.2.2.2.1 k0_t8
theorem k0_off28_inb : ∀ (v51 : BitVec 32) (v58 : BitVec 32) (k0_hw4 : k0_chk4 v51 v58) (k0_t8 : Fin (k0_t8_loop v51 v58).trips), ∀ a, (k0_off28 v51 v58 k0_t8) a + S1x16.size a ≤ S96x128.size a := fun v51 v58 k0_hw4 k0_t8 => k0_hw4.2.2.2.2.2.2.2.2.2.2.2.2.2.2.2.2.2.2.2.2.2.2.2.2.2.2.2.2.2.2.1 k0_t8
theorem k0_off29_inb : ∀ (v51 : BitVec 32) (v58 : BitVec 32) (k0_hw4 : k0_chk4 v51 v58) (k0_t8 : Fin (k0_t8_loop v51 v58).trips), ∀ a, (k0_off29 v51 v58 k0_t8) a + S1x16.size a ≤ S96x128.size a := fun v51 v58 k0_hw4 k0_t8 => k0_hw4.2.2.2.2.2.2.2.2.2.2.2.2.2.2.2.2.2.2.2.2.2.2.2.2.2.2.2.2.2.2.2 k0_t8

def k0_chk5 (v130 : IVec S16 32) : Prop :=
  (∀ a x, ((![v130] : Fin 1 → IVec S16 32) a x).toNat < S128.size a)
theorem k0_idx3_inb : ∀ (v130 : IVec S16 32) (k0_hw5 : k0_chk5 v130), ∀ a x, ((![v130] : Fin 1 → IVec S16 32) a x).toNat < S128.size a := fun v130 k0_hw5 => k0_hw5

def k0_chk6 (v134 : IVec S16 32) : Prop :=
  (∀ a x, ((![v134] : Fin 1 → IVec S16 32) a x).toNat < S128.size a)
theorem k0_idx4_inb : ∀ (v134 : IVec S16 32) (k0_hw6 : k0_chk6 v134), ∀ a x, ((![v134] : Fin 1 → IVec S16 32) a x).toNat < S128.size a := fun v134 k0_hw6 => k0_hw6

def k0_chk7 (v138 : IVec S16 32) : Prop :=
  (∀ a x, ((![v138] : Fin 1 → IVec S16 32) a x).toNat < S128.size a)
theorem k0_idx5_inb : ∀ (v138 : IVec S16 32) (k0_hw7 : k0_chk7 v138), ∀ a x, ((![v138] : Fin 1 → IVec S16 32) a x).toNat < S128.size a := fun v138 k0_hw7 => k0_hw7

def k0_chk8 (v142 : IVec S16 32) : Prop :=
  (∀ a x, ((![v142] : Fin 1 → IVec S16 32) a x).toNat < S128.size a)
theorem k0_idx6_inb : ∀ (v142 : IVec S16 32) (k0_hw8 : k0_chk8 v142), ∀ a x, ((![v142] : Fin 1 → IVec S16 32) a x).toNat < S128.size a := fun v142 k0_hw8 => k0_hw8

def k0_chk9 (v146 : IVec S16 32) : Prop :=
  (∀ a x, ((![v146] : Fin 1 → IVec S16 32) a x).toNat < S128.size a)
theorem k0_idx7_inb : ∀ (v146 : IVec S16 32) (k0_hw9 : k0_chk9 v146), ∀ a x, ((![v146] : Fin 1 → IVec S16 32) a x).toNat < S128.size a := fun v146 k0_hw9 => k0_hw9

def k0_chk10 (v150 : IVec S16 32) : Prop :=
  (∀ a x, ((![v150] : Fin 1 → IVec S16 32) a x).toNat < S128.size a)
theorem k0_idx8_inb : ∀ (v150 : IVec S16 32) (k0_hw10 : k0_chk10 v150), ∀ a x, ((![v150] : Fin 1 → IVec S16 32) a x).toNat < S128.size a := fun v150 k0_hw10 => k0_hw10

def k0_chk11 (v154 : IVec S16 32) : Prop :=
  (∀ a x, ((![v154] : Fin 1 → IVec S16 32) a x).toNat < S128.size a)
theorem k0_idx9_inb : ∀ (v154 : IVec S16 32) (k0_hw11 : k0_chk11 v154), ∀ a x, ((![v154] : Fin 1 → IVec S16 32) a x).toNat < S128.size a := fun v154 k0_hw11 => k0_hw11

def k0_chk12 (v158 : IVec S16 32) : Prop :=
  (∀ a x, ((![v158] : Fin 1 → IVec S16 32) a x).toNat < S128.size a)
theorem k0_idx10_inb : ∀ (v158 : IVec S16 32) (k0_hw12 : k0_chk12 v158), ∀ a x, ((![v158] : Fin 1 → IVec S16 32) a x).toNat < S128.size a := fun v158 k0_hw12 => k0_hw12
@[reducible] def k0_t9_loop : Scf.Loop 32 :=
  let c0_i32_73 : BitVec 32 := 0#32
  let c36_i32 : BitVec 32 := 36#32
  let v161 : BitVec 32 := Scalar.addi c0_i32_73 c36_i32
  let c1_i32_74 : BitVec 32 := 1#32
  ⟨c0_i32_73, v161, c1_i32_74⟩

def k0_chk13 (v170 : IVec S16 32) (v172 : IVec S16 32) : Prop :=
  (∀ a x, ((![v170, v172] : Fin 2 → IVec S16 32) a x).toNat < S144x128.size a)
theorem k0_idx11_inb : ∀ (v170 : IVec S16 32) (v172 : IVec S16 32) (k0_hw13 : k0_chk13 v170 v172), ∀ a x, ((![v170, v172] : Fin 2 → IVec S16 32) a x).toNat < S144x128.size a := fun v170 v172 k0_hw13 => k0_hw13

def k0_chk14 (v177 : IVec S16 32) : Prop :=
  (∀ a x, ((![v177] : Fin 1 → IVec S16 32) a x).toNat < S49216.size a)
theorem k0_idx12_inb : ∀ (v177 : IVec S16 32) (k0_hw14 : k0_chk14 v177), ∀ a x, ((![v177] : Fin 1 → IVec S16 32) a x).toNat < S49216.size a := fun v177 k0_hw14 => k0_hw14

def k0_chk15 (v182 : IVec S16 32) : Prop :=
  (∀ a x, ((![v182] : Fin 1 → IVec S16 32) a x).toNat < S49216.size a)
theorem k0_idx13_inb : ∀ (v182 : IVec S16 32) (k0_hw15 : k0_chk15 v182), ∀ a x, ((![v182] : Fin 1 → IVec S16 32) a x).toNat < S49216.size a := fun v182 k0_hw15 => k0_hw15

def k0_chk16 (v187 : IVec S16 32) : Prop :=
  (∀ a x, ((![v187] : Fin 1 → IVec S16 32) a x).toNat < S49216.size a)
theorem k0_idx14_inb : ∀ (v187 : IVec S16 32) (k0_hw16 : k0_chk16 v187), ∀ a x, ((![v187] : Fin 1 → IVec S16 32) a x).toNat < S49216.size a := fun v187 k0_hw16 => k0_hw16

def k0_chk17 (v192 : IVec S16 32) : Prop :=
  (∀ a x, ((![v192] : Fin 1 → IVec S16 32) a x).toNat < S49216.size a)
theorem k0_idx15_inb : ∀ (v192 : IVec S16 32) (k0_hw17 : k0_chk17 v192), ∀ a x, ((![v192] : Fin 1 → IVec S16 32) a x).toNat < S49216.size a := fun v192 k0_hw17 => k0_hw17

def k0_chk18 (v180 : IVec S16 32) : Prop :=
  (∀ a x, ((![v180] : Fin 1 → IVec S16 32) a x).toNat < S256.size a)
theorem k0_idx16_inb : ∀ (v180 : IVec S16 32) (k0_hw18 : k0_chk18 v180), ∀ a x, ((![v180] : Fin 1 → IVec S16 32) a x).toNat < S256.size a := fun v180 k0_hw18 => k0_hw18

def k0_chk19 (v185 : IVec S16 32) : Prop :=
  (∀ a x, ((![v185] : Fin 1 → IVec S16 32) a x).toNat < S256.size a)
theorem k0_idx17_inb : ∀ (v185 : IVec S16 32) (k0_hw19 : k0_chk19 v185), ∀ a x, ((![v185] : Fin 1 → IVec S16 32) a x).toNat < S256.size a := fun v185 k0_hw19 => k0_hw19

def k0_chk20 (v228 : IVec S16 32) : Prop :=
  (∀ a x, ((![v228] : Fin 1 → IVec S16 32) a x).toNat < S49216.size a)
theorem k0_idx18_inb : ∀ (v228 : IVec S16 32) (k0_hw20 : k0_chk20 v228), ∀ a x, ((![v228] : Fin 1 → IVec S16 32) a x).toNat < S49216.size a := fun v228 k0_hw20 => k0_hw20

def k0_chk21 (v243 : IVec S16 32) : Prop :=
  (∀ a x, ((![v243] : Fin 1 → IVec S16 32) a x).toNat < S49216.size a)
theorem k0_idx19_inb : ∀ (v243 : IVec S16 32) (k0_hw21 : k0_chk21 v243), ∀ a x, ((![v243] : Fin 1 → IVec S16 32) a x).toNat < S49216.size a := fun v243 k0_hw21 => k0_hw21

def k0_chk22 (v266 : IVec S16 32) : Prop :=
  (∀ a x, ((![v266] : Fin 1 → IVec S16 32) a x).toNat < S49216.size a)
theorem k0_idx20_inb : ∀ (v266 : IVec S16 32) (k0_hw22 : k0_chk22 v266), ∀ a x, ((![v266] : Fin 1 → IVec S16 32) a x).toNat < S49216.size a := fun v266 k0_hw22 => k0_hw22

def k0_chk23 (v281 : IVec S16 32) : Prop :=
  (∀ a x, ((![v281] : Fin 1 → IVec S16 32) a x).toNat < S49216.size a)
theorem k0_idx21_inb : ∀ (v281 : IVec S16 32) (k0_hw23 : k0_chk23 v281), ∀ a x, ((![v281] : Fin 1 → IVec S16 32) a x).toNat < S49216.size a := fun v281 k0_hw23 => k0_hw23
def k0_off30 (k0_t9 : Fin k0_t9_loop.trips) (c0_i32_119 : BitVec 32) : Fin 2 → Nat :=
  let c0_i32_120 : BitVec 32 := 0#32
  let v294 : Index := Scalar.indexCast c0_i32_120
  let c2_i32_116 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v285 : BitVec 32 := Scalar.muli c2_i32_116 v166
  let c0_i32_117 : BitVec 32 := 0#32
  let v286 : BitVec 32 := Scalar.addi v285 c0_i32_117
  let c32_i32_118 : BitVec 32 := 32#32
  let v287 : BitVec 32 := Scalar.muli v286 c32_i32_118
  let v288 : BitVec 32 := Scalar.addi v287 c0_i32_119
  let v295 : Index := Scalar.indexCast v288
  ![0, v295.toNat]
def k0_off31 (k0_t9 : Fin k0_t9_loop.trips) (c0_i32_119 : BitVec 32) : Fin 2 → Nat :=
  let c1_i32_121 : BitVec 32 := 1#32
  let v302 : Index := Scalar.indexCast c1_i32_121
  let c2_i32_116 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v285 : BitVec 32 := Scalar.muli c2_i32_116 v166
  let c0_i32_117 : BitVec 32 := 0#32
  let v286 : BitVec 32 := Scalar.addi v285 c0_i32_117
  let c32_i32_118 : BitVec 32 := 32#32
  let v287 : BitVec 32 := Scalar.muli v286 c32_i32_118
  let v288 : BitVec 32 := Scalar.addi v287 c0_i32_119
  let v303 : Index := Scalar.indexCast v288
  ![1, v303.toNat]

def k0_chk24 (v344 : IVec S16 32) : Prop :=
  (∀ a x, ((![v344] : Fin 1 → IVec S16 32) a x).toNat < S49216.size a)
theorem k0_idx22_inb : ∀ (v344 : IVec S16 32) (k0_hw24 : k0_chk24 v344), ∀ a x, ((![v344] : Fin 1 → IVec S16 32) a x).toNat < S49216.size a := fun v344 k0_hw24 => k0_hw24

def k0_chk25 (v359 : IVec S16 32) : Prop :=
  (∀ a x, ((![v359] : Fin 1 → IVec S16 32) a x).toNat < S49216.size a)
theorem k0_idx23_inb : ∀ (v359 : IVec S16 32) (k0_hw25 : k0_chk25 v359), ∀ a x, ((![v359] : Fin 1 → IVec S16 32) a x).toNat < S49216.size a := fun v359 k0_hw25 => k0_hw25

def k0_chk26 (v382 : IVec S16 32) : Prop :=
  (∀ a x, ((![v382] : Fin 1 → IVec S16 32) a x).toNat < S49216.size a)
theorem k0_idx24_inb : ∀ (v382 : IVec S16 32) (k0_hw26 : k0_chk26 v382), ∀ a x, ((![v382] : Fin 1 → IVec S16 32) a x).toNat < S49216.size a := fun v382 k0_hw26 => k0_hw26

def k0_chk27 (v397 : IVec S16 32) : Prop :=
  (∀ a x, ((![v397] : Fin 1 → IVec S16 32) a x).toNat < S49216.size a)
theorem k0_idx25_inb : ∀ (v397 : IVec S16 32) (k0_hw27 : k0_chk27 v397), ∀ a x, ((![v397] : Fin 1 → IVec S16 32) a x).toNat < S49216.size a := fun v397 k0_hw27 => k0_hw27
def k0_off32 (k0_t9 : Fin k0_t9_loop.trips) (c0_i32_157 : BitVec 32) : Fin 2 → Nat :=
  let c2_i32_158 : BitVec 32 := 2#32
  let v410 : Index := Scalar.indexCast c2_i32_158
  let c2_i32_154 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v401 : BitVec 32 := Scalar.muli c2_i32_154 v166
  let c0_i32_155 : BitVec 32 := 0#32
  let v402 : BitVec 32 := Scalar.addi v401 c0_i32_155
  let c32_i32_156 : BitVec 32 := 32#32
  let v403 : BitVec 32 := Scalar.muli v402 c32_i32_156
  let v404 : BitVec 32 := Scalar.addi v403 c0_i32_157
  let v411 : Index := Scalar.indexCast v404
  ![2, v411.toNat]
def k0_off33 (k0_t9 : Fin k0_t9_loop.trips) (c0_i32_157 : BitVec 32) : Fin 2 → Nat :=
  let c3_i32_159 : BitVec 32 := 3#32
  let v418 : Index := Scalar.indexCast c3_i32_159
  let c2_i32_154 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v401 : BitVec 32 := Scalar.muli c2_i32_154 v166
  let c0_i32_155 : BitVec 32 := 0#32
  let v402 : BitVec 32 := Scalar.addi v401 c0_i32_155
  let c32_i32_156 : BitVec 32 := 32#32
  let v403 : BitVec 32 := Scalar.muli v402 c32_i32_156
  let v404 : BitVec 32 := Scalar.addi v403 c0_i32_157
  let v419 : Index := Scalar.indexCast v404
  ![3, v419.toNat]

def k0_chk28 (v460 : IVec S16 32) : Prop :=
  (∀ a x, ((![v460] : Fin 1 → IVec S16 32) a x).toNat < S49216.size a)
theorem k0_idx26_inb : ∀ (v460 : IVec S16 32) (k0_hw28 : k0_chk28 v460), ∀ a x, ((![v460] : Fin 1 → IVec S16 32) a x).toNat < S49216.size a := fun v460 k0_hw28 => k0_hw28

def k0_chk29 (v475 : IVec S16 32) : Prop :=
  (∀ a x, ((![v475] : Fin 1 → IVec S16 32) a x).toNat < S49216.size a)
theorem k0_idx27_inb : ∀ (v475 : IVec S16 32) (k0_hw29 : k0_chk29 v475), ∀ a x, ((![v475] : Fin 1 → IVec S16 32) a x).toNat < S49216.size a := fun v475 k0_hw29 => k0_hw29

def k0_chk30 (v498 : IVec S16 32) : Prop :=
  (∀ a x, ((![v498] : Fin 1 → IVec S16 32) a x).toNat < S49216.size a)
theorem k0_idx28_inb : ∀ (v498 : IVec S16 32) (k0_hw30 : k0_chk30 v498), ∀ a x, ((![v498] : Fin 1 → IVec S16 32) a x).toNat < S49216.size a := fun v498 k0_hw30 => k0_hw30

def k0_chk31 (v513 : IVec S16 32) : Prop :=
  (∀ a x, ((![v513] : Fin 1 → IVec S16 32) a x).toNat < S49216.size a)
theorem k0_idx29_inb : ∀ (v513 : IVec S16 32) (k0_hw31 : k0_chk31 v513), ∀ a x, ((![v513] : Fin 1 → IVec S16 32) a x).toNat < S49216.size a := fun v513 k0_hw31 => k0_hw31
def k0_off34 (k0_t9 : Fin k0_t9_loop.trips) (c0_i32_195 : BitVec 32) : Fin 2 → Nat :=
  let c4_i32_196 : BitVec 32 := 4#32
  let v526 : Index := Scalar.indexCast c4_i32_196
  let c2_i32_192 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v517 : BitVec 32 := Scalar.muli c2_i32_192 v166
  let c0_i32_193 : BitVec 32 := 0#32
  let v518 : BitVec 32 := Scalar.addi v517 c0_i32_193
  let c32_i32_194 : BitVec 32 := 32#32
  let v519 : BitVec 32 := Scalar.muli v518 c32_i32_194
  let v520 : BitVec 32 := Scalar.addi v519 c0_i32_195
  let v527 : Index := Scalar.indexCast v520
  ![4, v527.toNat]
def k0_off35 (k0_t9 : Fin k0_t9_loop.trips) (c0_i32_195 : BitVec 32) : Fin 2 → Nat :=
  let c5_i32_197 : BitVec 32 := 5#32
  let v534 : Index := Scalar.indexCast c5_i32_197
  let c2_i32_192 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v517 : BitVec 32 := Scalar.muli c2_i32_192 v166
  let c0_i32_193 : BitVec 32 := 0#32
  let v518 : BitVec 32 := Scalar.addi v517 c0_i32_193
  let c32_i32_194 : BitVec 32 := 32#32
  let v519 : BitVec 32 := Scalar.muli v518 c32_i32_194
  let v520 : BitVec 32 := Scalar.addi v519 c0_i32_195
  let v535 : Index := Scalar.indexCast v520
  ![5, v535.toNat]

def k0_chk32 (v576 : IVec S16 32) : Prop :=
  (∀ a x, ((![v576] : Fin 1 → IVec S16 32) a x).toNat < S49216.size a)
theorem k0_idx30_inb : ∀ (v576 : IVec S16 32) (k0_hw32 : k0_chk32 v576), ∀ a x, ((![v576] : Fin 1 → IVec S16 32) a x).toNat < S49216.size a := fun v576 k0_hw32 => k0_hw32

def k0_chk33 (v591 : IVec S16 32) : Prop :=
  (∀ a x, ((![v591] : Fin 1 → IVec S16 32) a x).toNat < S49216.size a)
theorem k0_idx31_inb : ∀ (v591 : IVec S16 32) (k0_hw33 : k0_chk33 v591), ∀ a x, ((![v591] : Fin 1 → IVec S16 32) a x).toNat < S49216.size a := fun v591 k0_hw33 => k0_hw33

def k0_chk34 (v614 : IVec S16 32) : Prop :=
  (∀ a x, ((![v614] : Fin 1 → IVec S16 32) a x).toNat < S49216.size a)
theorem k0_idx32_inb : ∀ (v614 : IVec S16 32) (k0_hw34 : k0_chk34 v614), ∀ a x, ((![v614] : Fin 1 → IVec S16 32) a x).toNat < S49216.size a := fun v614 k0_hw34 => k0_hw34

def k0_chk35 (v629 : IVec S16 32) : Prop :=
  (∀ a x, ((![v629] : Fin 1 → IVec S16 32) a x).toNat < S49216.size a)
theorem k0_idx33_inb : ∀ (v629 : IVec S16 32) (k0_hw35 : k0_chk35 v629), ∀ a x, ((![v629] : Fin 1 → IVec S16 32) a x).toNat < S49216.size a := fun v629 k0_hw35 => k0_hw35
def k0_off36 (k0_t9 : Fin k0_t9_loop.trips) (c0_i32_233 : BitVec 32) : Fin 2 → Nat :=
  let c6_i32_234 : BitVec 32 := 6#32
  let v642 : Index := Scalar.indexCast c6_i32_234
  let c2_i32_230 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v633 : BitVec 32 := Scalar.muli c2_i32_230 v166
  let c0_i32_231 : BitVec 32 := 0#32
  let v634 : BitVec 32 := Scalar.addi v633 c0_i32_231
  let c32_i32_232 : BitVec 32 := 32#32
  let v635 : BitVec 32 := Scalar.muli v634 c32_i32_232
  let v636 : BitVec 32 := Scalar.addi v635 c0_i32_233
  let v643 : Index := Scalar.indexCast v636
  ![6, v643.toNat]
def k0_off37 (k0_t9 : Fin k0_t9_loop.trips) (c0_i32_233 : BitVec 32) : Fin 2 → Nat :=
  let c7_i32_235 : BitVec 32 := 7#32
  let v650 : Index := Scalar.indexCast c7_i32_235
  let c2_i32_230 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v633 : BitVec 32 := Scalar.muli c2_i32_230 v166
  let c0_i32_231 : BitVec 32 := 0#32
  let v634 : BitVec 32 := Scalar.addi v633 c0_i32_231
  let c32_i32_232 : BitVec 32 := 32#32
  let v635 : BitVec 32 := Scalar.muli v634 c32_i32_232
  let v636 : BitVec 32 := Scalar.addi v635 c0_i32_233
  let v651 : Index := Scalar.indexCast v636
  ![7, v651.toNat]

def k0_chk36 (v692 : IVec S16 32) : Prop :=
  (∀ a x, ((![v692] : Fin 1 → IVec S16 32) a x).toNat < S49216.size a)
theorem k0_idx34_inb : ∀ (v692 : IVec S16 32) (k0_hw36 : k0_chk36 v692), ∀ a x, ((![v692] : Fin 1 → IVec S16 32) a x).toNat < S49216.size a := fun v692 k0_hw36 => k0_hw36

def k0_chk37 (v707 : IVec S16 32) : Prop :=
  (∀ a x, ((![v707] : Fin 1 → IVec S16 32) a x).toNat < S49216.size a)
theorem k0_idx35_inb : ∀ (v707 : IVec S16 32) (k0_hw37 : k0_chk37 v707), ∀ a x, ((![v707] : Fin 1 → IVec S16 32) a x).toNat < S49216.size a := fun v707 k0_hw37 => k0_hw37

def k0_chk38 (v730 : IVec S16 32) : Prop :=
  (∀ a x, ((![v730] : Fin 1 → IVec S16 32) a x).toNat < S49216.size a)
theorem k0_idx36_inb : ∀ (v730 : IVec S16 32) (k0_hw38 : k0_chk38 v730), ∀ a x, ((![v730] : Fin 1 → IVec S16 32) a x).toNat < S49216.size a := fun v730 k0_hw38 => k0_hw38

def k0_chk39 (v745 : IVec S16 32) : Prop :=
  (∀ a x, ((![v745] : Fin 1 → IVec S16 32) a x).toNat < S49216.size a)
theorem k0_idx37_inb : ∀ (v745 : IVec S16 32) (k0_hw39 : k0_chk39 v745), ∀ a x, ((![v745] : Fin 1 → IVec S16 32) a x).toNat < S49216.size a := fun v745 k0_hw39 => k0_hw39
def k0_off38 (k0_t9 : Fin k0_t9_loop.trips) (c0_i32_271 : BitVec 32) : Fin 2 → Nat :=
  let c0_i32_272 : BitVec 32 := 0#32
  let v758 : Index := Scalar.indexCast c0_i32_272
  let c2_i32_268 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v749 : BitVec 32 := Scalar.muli c2_i32_268 v166
  let c1_i32_269 : BitVec 32 := 1#32
  let v750 : BitVec 32 := Scalar.addi v749 c1_i32_269
  let c32_i32_270 : BitVec 32 := 32#32
  let v751 : BitVec 32 := Scalar.muli v750 c32_i32_270
  let v752 : BitVec 32 := Scalar.addi v751 c0_i32_271
  let v759 : Index := Scalar.indexCast v752
  ![0, v759.toNat]
def k0_off39 (k0_t9 : Fin k0_t9_loop.trips) (c0_i32_271 : BitVec 32) : Fin 2 → Nat :=
  let c1_i32_273 : BitVec 32 := 1#32
  let v766 : Index := Scalar.indexCast c1_i32_273
  let c2_i32_268 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v749 : BitVec 32 := Scalar.muli c2_i32_268 v166
  let c1_i32_269 : BitVec 32 := 1#32
  let v750 : BitVec 32 := Scalar.addi v749 c1_i32_269
  let c32_i32_270 : BitVec 32 := 32#32
  let v751 : BitVec 32 := Scalar.muli v750 c32_i32_270
  let v752 : BitVec 32 := Scalar.addi v751 c0_i32_271
  let v767 : Index := Scalar.indexCast v752
  ![1, v767.toNat]

def k0_chk40 (v808 : IVec S16 32) : Prop :=
  (∀ a x, ((![v808] : Fin 1 → IVec S16 32) a x).toNat < S49216.size a)
theorem k0_idx38_inb : ∀ (v808 : IVec S16 32) (k0_hw40 : k0_chk40 v808), ∀ a x, ((![v808] : Fin 1 → IVec S16 32) a x).toNat < S49216.size a := fun v808 k0_hw40 => k0_hw40

def k0_chk41 (v823 : IVec S16 32) : Prop :=
  (∀ a x, ((![v823] : Fin 1 → IVec S16 32) a x).toNat < S49216.size a)
theorem k0_idx39_inb : ∀ (v823 : IVec S16 32) (k0_hw41 : k0_chk41 v823), ∀ a x, ((![v823] : Fin 1 → IVec S16 32) a x).toNat < S49216.size a := fun v823 k0_hw41 => k0_hw41

def k0_chk42 (v846 : IVec S16 32) : Prop :=
  (∀ a x, ((![v846] : Fin 1 → IVec S16 32) a x).toNat < S49216.size a)
theorem k0_idx40_inb : ∀ (v846 : IVec S16 32) (k0_hw42 : k0_chk42 v846), ∀ a x, ((![v846] : Fin 1 → IVec S16 32) a x).toNat < S49216.size a := fun v846 k0_hw42 => k0_hw42

def k0_chk43 (v861 : IVec S16 32) : Prop :=
  (∀ a x, ((![v861] : Fin 1 → IVec S16 32) a x).toNat < S49216.size a)
theorem k0_idx41_inb : ∀ (v861 : IVec S16 32) (k0_hw43 : k0_chk43 v861), ∀ a x, ((![v861] : Fin 1 → IVec S16 32) a x).toNat < S49216.size a := fun v861 k0_hw43 => k0_hw43
def k0_off40 (k0_t9 : Fin k0_t9_loop.trips) (c0_i32_309 : BitVec 32) : Fin 2 → Nat :=
  let c2_i32_310 : BitVec 32 := 2#32
  let v874 : Index := Scalar.indexCast c2_i32_310
  let c2_i32_306 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v865 : BitVec 32 := Scalar.muli c2_i32_306 v166
  let c1_i32_307 : BitVec 32 := 1#32
  let v866 : BitVec 32 := Scalar.addi v865 c1_i32_307
  let c32_i32_308 : BitVec 32 := 32#32
  let v867 : BitVec 32 := Scalar.muli v866 c32_i32_308
  let v868 : BitVec 32 := Scalar.addi v867 c0_i32_309
  let v875 : Index := Scalar.indexCast v868
  ![2, v875.toNat]
def k0_off41 (k0_t9 : Fin k0_t9_loop.trips) (c0_i32_309 : BitVec 32) : Fin 2 → Nat :=
  let c3_i32_311 : BitVec 32 := 3#32
  let v882 : Index := Scalar.indexCast c3_i32_311
  let c2_i32_306 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v865 : BitVec 32 := Scalar.muli c2_i32_306 v166
  let c1_i32_307 : BitVec 32 := 1#32
  let v866 : BitVec 32 := Scalar.addi v865 c1_i32_307
  let c32_i32_308 : BitVec 32 := 32#32
  let v867 : BitVec 32 := Scalar.muli v866 c32_i32_308
  let v868 : BitVec 32 := Scalar.addi v867 c0_i32_309
  let v883 : Index := Scalar.indexCast v868
  ![3, v883.toNat]

def k0_chk44 (v924 : IVec S16 32) : Prop :=
  (∀ a x, ((![v924] : Fin 1 → IVec S16 32) a x).toNat < S49216.size a)
theorem k0_idx42_inb : ∀ (v924 : IVec S16 32) (k0_hw44 : k0_chk44 v924), ∀ a x, ((![v924] : Fin 1 → IVec S16 32) a x).toNat < S49216.size a := fun v924 k0_hw44 => k0_hw44

def k0_chk45 (v939 : IVec S16 32) : Prop :=
  (∀ a x, ((![v939] : Fin 1 → IVec S16 32) a x).toNat < S49216.size a)
theorem k0_idx43_inb : ∀ (v939 : IVec S16 32) (k0_hw45 : k0_chk45 v939), ∀ a x, ((![v939] : Fin 1 → IVec S16 32) a x).toNat < S49216.size a := fun v939 k0_hw45 => k0_hw45

def k0_chk46 (v962 : IVec S16 32) : Prop :=
  (∀ a x, ((![v962] : Fin 1 → IVec S16 32) a x).toNat < S49216.size a)
theorem k0_idx44_inb : ∀ (v962 : IVec S16 32) (k0_hw46 : k0_chk46 v962), ∀ a x, ((![v962] : Fin 1 → IVec S16 32) a x).toNat < S49216.size a := fun v962 k0_hw46 => k0_hw46

def k0_chk47 (v977 : IVec S16 32) : Prop :=
  (∀ a x, ((![v977] : Fin 1 → IVec S16 32) a x).toNat < S49216.size a)
theorem k0_idx45_inb : ∀ (v977 : IVec S16 32) (k0_hw47 : k0_chk47 v977), ∀ a x, ((![v977] : Fin 1 → IVec S16 32) a x).toNat < S49216.size a := fun v977 k0_hw47 => k0_hw47
def k0_off42 (k0_t9 : Fin k0_t9_loop.trips) (c0_i32_347 : BitVec 32) : Fin 2 → Nat :=
  let c4_i32_348 : BitVec 32 := 4#32
  let v990 : Index := Scalar.indexCast c4_i32_348
  let c2_i32_344 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v981 : BitVec 32 := Scalar.muli c2_i32_344 v166
  let c1_i32_345 : BitVec 32 := 1#32
  let v982 : BitVec 32 := Scalar.addi v981 c1_i32_345
  let c32_i32_346 : BitVec 32 := 32#32
  let v983 : BitVec 32 := Scalar.muli v982 c32_i32_346
  let v984 : BitVec 32 := Scalar.addi v983 c0_i32_347
  let v991 : Index := Scalar.indexCast v984
  ![4, v991.toNat]
def k0_off43 (k0_t9 : Fin k0_t9_loop.trips) (c0_i32_347 : BitVec 32) : Fin 2 → Nat :=
  let c5_i32_349 : BitVec 32 := 5#32
  let v998 : Index := Scalar.indexCast c5_i32_349
  let c2_i32_344 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v981 : BitVec 32 := Scalar.muli c2_i32_344 v166
  let c1_i32_345 : BitVec 32 := 1#32
  let v982 : BitVec 32 := Scalar.addi v981 c1_i32_345
  let c32_i32_346 : BitVec 32 := 32#32
  let v983 : BitVec 32 := Scalar.muli v982 c32_i32_346
  let v984 : BitVec 32 := Scalar.addi v983 c0_i32_347
  let v999 : Index := Scalar.indexCast v984
  ![5, v999.toNat]

def k0_chk48 (v1040 : IVec S16 32) : Prop :=
  (∀ a x, ((![v1040] : Fin 1 → IVec S16 32) a x).toNat < S49216.size a)
theorem k0_idx46_inb : ∀ (v1040 : IVec S16 32) (k0_hw48 : k0_chk48 v1040), ∀ a x, ((![v1040] : Fin 1 → IVec S16 32) a x).toNat < S49216.size a := fun v1040 k0_hw48 => k0_hw48

def k0_chk49 (v1055 : IVec S16 32) : Prop :=
  (∀ a x, ((![v1055] : Fin 1 → IVec S16 32) a x).toNat < S49216.size a)
theorem k0_idx47_inb : ∀ (v1055 : IVec S16 32) (k0_hw49 : k0_chk49 v1055), ∀ a x, ((![v1055] : Fin 1 → IVec S16 32) a x).toNat < S49216.size a := fun v1055 k0_hw49 => k0_hw49

def k0_chk50 (v1078 : IVec S16 32) : Prop :=
  (∀ a x, ((![v1078] : Fin 1 → IVec S16 32) a x).toNat < S49216.size a)
theorem k0_idx48_inb : ∀ (v1078 : IVec S16 32) (k0_hw50 : k0_chk50 v1078), ∀ a x, ((![v1078] : Fin 1 → IVec S16 32) a x).toNat < S49216.size a := fun v1078 k0_hw50 => k0_hw50

def k0_chk51 (v1093 : IVec S16 32) : Prop :=
  (∀ a x, ((![v1093] : Fin 1 → IVec S16 32) a x).toNat < S49216.size a)
theorem k0_idx49_inb : ∀ (v1093 : IVec S16 32) (k0_hw51 : k0_chk51 v1093), ∀ a x, ((![v1093] : Fin 1 → IVec S16 32) a x).toNat < S49216.size a := fun v1093 k0_hw51 => k0_hw51
def k0_off44 (k0_t9 : Fin k0_t9_loop.trips) (c0_i32_385 : BitVec 32) : Fin 2 → Nat :=
  let c6_i32_386 : BitVec 32 := 6#32
  let v1106 : Index := Scalar.indexCast c6_i32_386
  let c2_i32_382 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v1097 : BitVec 32 := Scalar.muli c2_i32_382 v166
  let c1_i32_383 : BitVec 32 := 1#32
  let v1098 : BitVec 32 := Scalar.addi v1097 c1_i32_383
  let c32_i32_384 : BitVec 32 := 32#32
  let v1099 : BitVec 32 := Scalar.muli v1098 c32_i32_384
  let v1100 : BitVec 32 := Scalar.addi v1099 c0_i32_385
  let v1107 : Index := Scalar.indexCast v1100
  ![6, v1107.toNat]
def k0_off45 (k0_t9 : Fin k0_t9_loop.trips) (c0_i32_385 : BitVec 32) : Fin 2 → Nat :=
  let c7_i32_387 : BitVec 32 := 7#32
  let v1114 : Index := Scalar.indexCast c7_i32_387
  let c2_i32_382 : BitVec 32 := 2#32
  let c0_i32_81 : BitVec 32 := 0#32
  let c0_i32_73 : BitVec 32 := 0#32
  let c1_i32_74 : BitVec 32 := 1#32
  let arg14 : BitVec 32 := Scf.iv c0_i32_73 c1_i32_74 k0_t9
  let c1_i32_80 : BitVec 32 := 1#32
  let v165 : BitVec 32 := Scalar.muli arg14 c1_i32_80
  let v166 : BitVec 32 := Scalar.addi c0_i32_81 v165
  let v1097 : BitVec 32 := Scalar.muli c2_i32_382 v166
  let c1_i32_383 : BitVec 32 := 1#32
  let v1098 : BitVec 32 := Scalar.addi v1097 c1_i32_383
  let c32_i32_384 : BitVec 32 := 32#32
  let v1099 : BitVec 32 := Scalar.muli v1098 c32_i32_384
  let v1100 : BitVec 32 := Scalar.addi v1099 c0_i32_385
  let v1115 : Index := Scalar.indexCast v1100
  ![7, v1115.toNat]
def k0_mult3 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v17 : BitVec 32 := Scalar.muli v1 c480_i32
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v15 : BitVec 32 := Scalar.muli arg13 c1_i32_7
  let v16 : BitVec 32 := Scalar.addi c0_i32_8 v15
  let c8_i32 : BitVec 32 := 8#32
  let v18 : BitVec 32 := Scalar.muli v16 c8_i32
  let v19 : BitVec 32 := Scalar.addi v17 v18
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c1536_i32 : BitVec 32 := 1536#32
  let c0_i32_11 : BitVec 32 := 0#32
  let v26 : BitVec 1 := Scalar.cmpi .sgt c1536_i32 c0_i32_11
  let v27 : BitVec 32 := Scalar.extui v26
  let c0_i32_12 : BitVec 32 := 0#32
  let v28 : BitVec 1 := Scalar.cmpi .slt c1536_i32 c0_i32_12
  let v29 : BitVec 32 := Scalar.extui v28
  let v30 : BitVec 32 := Scalar.subi v27 v29
  let v31 : BitVec 1 := Scalar.cmpi .ne v25 v30
  let v32 : BitVec 32 := Scalar.remsi v19 c1536_i32
  let c0_i32_13 : BitVec 32 := 0#32
  let v33 : BitVec 1 := Scalar.cmpi .ne v32 c0_i32_13
  let v34 : BitVec 1 := Scalar.andi v31 v33
  let v20 : BitVec 32 := Scalar.divsi v19 c1536_i32
  let c1_i32_14 : BitVec 32 := 1#32
  let v35 : BitVec 32 := Scalar.subi v20 c1_i32_14
  let v36 : BitVec 32 := Scalar.select v34 v35 v20
  let c1536_i32_15 : BitVec 32 := 1536#32
  let v37 : BitVec 32 := Scalar.muli v36 c1536_i32_15
  let v38 : BitVec 32 := Scalar.subi v19 v37
  v38
def k0_off46 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v17 : BitVec 32 := Scalar.muli v1 c480_i32
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v15 : BitVec 32 := Scalar.muli arg13 c1_i32_7
  let v16 : BitVec 32 := Scalar.addi c0_i32_8 v15
  let c8_i32 : BitVec 32 := 8#32
  let v18 : BitVec 32 := Scalar.muli v16 c8_i32
  let v19 : BitVec 32 := Scalar.addi v17 v18
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c1536_i32 : BitVec 32 := 1536#32
  let c0_i32_11 : BitVec 32 := 0#32
  let v26 : BitVec 1 := Scalar.cmpi .sgt c1536_i32 c0_i32_11
  let v27 : BitVec 32 := Scalar.extui v26
  let c0_i32_12 : BitVec 32 := 0#32
  let v28 : BitVec 1 := Scalar.cmpi .slt c1536_i32 c0_i32_12
  let v29 : BitVec 32 := Scalar.extui v28
  let v30 : BitVec 32 := Scalar.subi v27 v29
  let v31 : BitVec 1 := Scalar.cmpi .ne v25 v30
  let v32 : BitVec 32 := Scalar.remsi v19 c1536_i32
  let c0_i32_13 : BitVec 32 := 0#32
  let v33 : BitVec 1 := Scalar.cmpi .ne v32 c0_i32_13
  let v34 : BitVec 1 := Scalar.andi v31 v33
  let v20 : BitVec 32 := Scalar.divsi v19 c1536_i32
  let c1_i32_14 : BitVec 32 := 1#32
  let v35 : BitVec 32 := Scalar.subi v20 c1_i32_14
  let v36 : BitVec 32 := Scalar.select v34 v35 v20
  let c1536_i32_15 : BitVec 32 := 1536#32
  let v37 : BitVec 32 := Scalar.muli v36 c1536_i32_15
  let v38 : BitVec 32 := Scalar.subi v19 v37
  let v162 : BitVec 32 := v38
  let c0_i32_80_r2 : BitVec 32 := 0#32
  ![v36.toNat, v162.toNat, 0]
@[reducible] def k0_t10_loop : Scf.Loop 32 :=
  let c0_i32_76 : BitVec 32 := 0#32
  let c36_i32_77 : BitVec 32 := 36#32
  let v163 : BitVec 32 := Scalar.addi c0_i32_76 c36_i32_77
  let c1_i32_78 : BitVec 32 := 1#32
  ⟨c0_i32_76, v163, c1_i32_78⟩

def k0_chk52 (v170 : IVec S16 32) (v172 : IVec S16 32) : Prop :=
  (∀ a x, ((![v170, v172] : Fin 2 → IVec S16 32) a x).toNat < S144x128.size a)
theorem k0_idx50_inb : ∀ (v170 : IVec S16 32) (v172 : IVec S16 32) (k0_hw52 : k0_chk52 v170 v172), ∀ a x, ((![v170, v172] : Fin 2 → IVec S16 32) a x).toNat < S144x128.size a := fun v170 v172 k0_hw52 => k0_hw52

def k0_chk53 (v177 : IVec S16 32) : Prop :=
  (∀ a x, ((![v177] : Fin 1 → IVec S16 32) a x).toNat < S49216.size a)
theorem k0_idx51_inb : ∀ (v177 : IVec S16 32) (k0_hw53 : k0_chk53 v177), ∀ a x, ((![v177] : Fin 1 → IVec S16 32) a x).toNat < S49216.size a := fun v177 k0_hw53 => k0_hw53

def k0_chk54 (v182 : IVec S16 32) : Prop :=
  (∀ a x, ((![v182] : Fin 1 → IVec S16 32) a x).toNat < S49216.size a)
theorem k0_idx52_inb : ∀ (v182 : IVec S16 32) (k0_hw54 : k0_chk54 v182), ∀ a x, ((![v182] : Fin 1 → IVec S16 32) a x).toNat < S49216.size a := fun v182 k0_hw54 => k0_hw54

def k0_chk55 (v187 : IVec S16 32) : Prop :=
  (∀ a x, ((![v187] : Fin 1 → IVec S16 32) a x).toNat < S49216.size a)
theorem k0_idx53_inb : ∀ (v187 : IVec S16 32) (k0_hw55 : k0_chk55 v187), ∀ a x, ((![v187] : Fin 1 → IVec S16 32) a x).toNat < S49216.size a := fun v187 k0_hw55 => k0_hw55

def k0_chk56 (v192 : IVec S16 32) : Prop :=
  (∀ a x, ((![v192] : Fin 1 → IVec S16 32) a x).toNat < S49216.size a)
theorem k0_idx54_inb : ∀ (v192 : IVec S16 32) (k0_hw56 : k0_chk56 v192), ∀ a x, ((![v192] : Fin 1 → IVec S16 32) a x).toNat < S49216.size a := fun v192 k0_hw56 => k0_hw56

def k0_chk57 (v180 : IVec S16 32) : Prop :=
  (∀ a x, ((![v180] : Fin 1 → IVec S16 32) a x).toNat < S256.size a)
theorem k0_idx55_inb : ∀ (v180 : IVec S16 32) (k0_hw57 : k0_chk57 v180), ∀ a x, ((![v180] : Fin 1 → IVec S16 32) a x).toNat < S256.size a := fun v180 k0_hw57 => k0_hw57

def k0_chk58 (v185 : IVec S16 32) : Prop :=
  (∀ a x, ((![v185] : Fin 1 → IVec S16 32) a x).toNat < S256.size a)
theorem k0_idx56_inb : ∀ (v185 : IVec S16 32) (k0_hw58 : k0_chk58 v185), ∀ a x, ((![v185] : Fin 1 → IVec S16 32) a x).toNat < S256.size a := fun v185 k0_hw58 => k0_hw58

def k0_chk59 (v228 : IVec S16 32) : Prop :=
  (∀ a x, ((![v228] : Fin 1 → IVec S16 32) a x).toNat < S49216.size a)
theorem k0_idx57_inb : ∀ (v228 : IVec S16 32) (k0_hw59 : k0_chk59 v228), ∀ a x, ((![v228] : Fin 1 → IVec S16 32) a x).toNat < S49216.size a := fun v228 k0_hw59 => k0_hw59

def k0_chk60 (v243 : IVec S16 32) : Prop :=
  (∀ a x, ((![v243] : Fin 1 → IVec S16 32) a x).toNat < S49216.size a)
theorem k0_idx58_inb : ∀ (v243 : IVec S16 32) (k0_hw60 : k0_chk60 v243), ∀ a x, ((![v243] : Fin 1 → IVec S16 32) a x).toNat < S49216.size a := fun v243 k0_hw60 => k0_hw60

def k0_chk61 (v266 : IVec S16 32) : Prop :=
  (∀ a x, ((![v266] : Fin 1 → IVec S16 32) a x).toNat < S49216.size a)
theorem k0_idx59_inb : ∀ (v266 : IVec S16 32) (k0_hw61 : k0_chk61 v266), ∀ a x, ((![v266] : Fin 1 → IVec S16 32) a x).toNat < S49216.size a := fun v266 k0_hw61 => k0_hw61

def k0_chk62 (v281 : IVec S16 32) : Prop :=
  (∀ a x, ((![v281] : Fin 1 → IVec S16 32) a x).toNat < S49216.size a)
theorem k0_idx60_inb : ∀ (v281 : IVec S16 32) (k0_hw62 : k0_chk62 v281), ∀ a x, ((![v281] : Fin 1 → IVec S16 32) a x).toNat < S49216.size a := fun v281 k0_hw62 => k0_hw62
def k0_off47 (k0_t10 : Fin k0_t10_loop.trips) (c0_i32_118 : BitVec 32) : Fin 2 → Nat :=
  let c0_i32_119 : BitVec 32 := 0#32
  let v294 : Index := Scalar.indexCast c0_i32_119
  let c2_i32_115 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v285 : BitVec 32 := Scalar.muli c2_i32_115 v166
  let c0_i32_116 : BitVec 32 := 0#32
  let v286 : BitVec 32 := Scalar.addi v285 c0_i32_116
  let c32_i32_117 : BitVec 32 := 32#32
  let v287 : BitVec 32 := Scalar.muli v286 c32_i32_117
  let v288 : BitVec 32 := Scalar.addi v287 c0_i32_118
  let v295 : Index := Scalar.indexCast v288
  ![0, v295.toNat]
def k0_off48 (k0_t10 : Fin k0_t10_loop.trips) (c0_i32_118 : BitVec 32) : Fin 2 → Nat :=
  let c1_i32_120 : BitVec 32 := 1#32
  let v302 : Index := Scalar.indexCast c1_i32_120
  let c2_i32_115 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v285 : BitVec 32 := Scalar.muli c2_i32_115 v166
  let c0_i32_116 : BitVec 32 := 0#32
  let v286 : BitVec 32 := Scalar.addi v285 c0_i32_116
  let c32_i32_117 : BitVec 32 := 32#32
  let v287 : BitVec 32 := Scalar.muli v286 c32_i32_117
  let v288 : BitVec 32 := Scalar.addi v287 c0_i32_118
  let v303 : Index := Scalar.indexCast v288
  ![1, v303.toNat]

def k0_chk63 (v344 : IVec S16 32) : Prop :=
  (∀ a x, ((![v344] : Fin 1 → IVec S16 32) a x).toNat < S49216.size a)
theorem k0_idx61_inb : ∀ (v344 : IVec S16 32) (k0_hw63 : k0_chk63 v344), ∀ a x, ((![v344] : Fin 1 → IVec S16 32) a x).toNat < S49216.size a := fun v344 k0_hw63 => k0_hw63

def k0_chk64 (v359 : IVec S16 32) : Prop :=
  (∀ a x, ((![v359] : Fin 1 → IVec S16 32) a x).toNat < S49216.size a)
theorem k0_idx62_inb : ∀ (v359 : IVec S16 32) (k0_hw64 : k0_chk64 v359), ∀ a x, ((![v359] : Fin 1 → IVec S16 32) a x).toNat < S49216.size a := fun v359 k0_hw64 => k0_hw64

def k0_chk65 (v382 : IVec S16 32) : Prop :=
  (∀ a x, ((![v382] : Fin 1 → IVec S16 32) a x).toNat < S49216.size a)
theorem k0_idx63_inb : ∀ (v382 : IVec S16 32) (k0_hw65 : k0_chk65 v382), ∀ a x, ((![v382] : Fin 1 → IVec S16 32) a x).toNat < S49216.size a := fun v382 k0_hw65 => k0_hw65

def k0_chk66 (v397 : IVec S16 32) : Prop :=
  (∀ a x, ((![v397] : Fin 1 → IVec S16 32) a x).toNat < S49216.size a)
theorem k0_idx64_inb : ∀ (v397 : IVec S16 32) (k0_hw66 : k0_chk66 v397), ∀ a x, ((![v397] : Fin 1 → IVec S16 32) a x).toNat < S49216.size a := fun v397 k0_hw66 => k0_hw66
def k0_off49 (k0_t10 : Fin k0_t10_loop.trips) (c0_i32_156 : BitVec 32) : Fin 2 → Nat :=
  let c2_i32_157 : BitVec 32 := 2#32
  let v410 : Index := Scalar.indexCast c2_i32_157
  let c2_i32_153 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v401 : BitVec 32 := Scalar.muli c2_i32_153 v166
  let c0_i32_154 : BitVec 32 := 0#32
  let v402 : BitVec 32 := Scalar.addi v401 c0_i32_154
  let c32_i32_155 : BitVec 32 := 32#32
  let v403 : BitVec 32 := Scalar.muli v402 c32_i32_155
  let v404 : BitVec 32 := Scalar.addi v403 c0_i32_156
  let v411 : Index := Scalar.indexCast v404
  ![2, v411.toNat]
def k0_off50 (k0_t10 : Fin k0_t10_loop.trips) (c0_i32_156 : BitVec 32) : Fin 2 → Nat :=
  let c3_i32_158 : BitVec 32 := 3#32
  let v418 : Index := Scalar.indexCast c3_i32_158
  let c2_i32_153 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v401 : BitVec 32 := Scalar.muli c2_i32_153 v166
  let c0_i32_154 : BitVec 32 := 0#32
  let v402 : BitVec 32 := Scalar.addi v401 c0_i32_154
  let c32_i32_155 : BitVec 32 := 32#32
  let v403 : BitVec 32 := Scalar.muli v402 c32_i32_155
  let v404 : BitVec 32 := Scalar.addi v403 c0_i32_156
  let v419 : Index := Scalar.indexCast v404
  ![3, v419.toNat]

def k0_chk67 (v460 : IVec S16 32) : Prop :=
  (∀ a x, ((![v460] : Fin 1 → IVec S16 32) a x).toNat < S49216.size a)
theorem k0_idx65_inb : ∀ (v460 : IVec S16 32) (k0_hw67 : k0_chk67 v460), ∀ a x, ((![v460] : Fin 1 → IVec S16 32) a x).toNat < S49216.size a := fun v460 k0_hw67 => k0_hw67

def k0_chk68 (v475 : IVec S16 32) : Prop :=
  (∀ a x, ((![v475] : Fin 1 → IVec S16 32) a x).toNat < S49216.size a)
theorem k0_idx66_inb : ∀ (v475 : IVec S16 32) (k0_hw68 : k0_chk68 v475), ∀ a x, ((![v475] : Fin 1 → IVec S16 32) a x).toNat < S49216.size a := fun v475 k0_hw68 => k0_hw68

def k0_chk69 (v498 : IVec S16 32) : Prop :=
  (∀ a x, ((![v498] : Fin 1 → IVec S16 32) a x).toNat < S49216.size a)
theorem k0_idx67_inb : ∀ (v498 : IVec S16 32) (k0_hw69 : k0_chk69 v498), ∀ a x, ((![v498] : Fin 1 → IVec S16 32) a x).toNat < S49216.size a := fun v498 k0_hw69 => k0_hw69

def k0_chk70 (v513 : IVec S16 32) : Prop :=
  (∀ a x, ((![v513] : Fin 1 → IVec S16 32) a x).toNat < S49216.size a)
theorem k0_idx68_inb : ∀ (v513 : IVec S16 32) (k0_hw70 : k0_chk70 v513), ∀ a x, ((![v513] : Fin 1 → IVec S16 32) a x).toNat < S49216.size a := fun v513 k0_hw70 => k0_hw70
def k0_off51 (k0_t10 : Fin k0_t10_loop.trips) (c0_i32_194 : BitVec 32) : Fin 2 → Nat :=
  let c4_i32_195 : BitVec 32 := 4#32
  let v526 : Index := Scalar.indexCast c4_i32_195
  let c2_i32_191 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v517 : BitVec 32 := Scalar.muli c2_i32_191 v166
  let c0_i32_192 : BitVec 32 := 0#32
  let v518 : BitVec 32 := Scalar.addi v517 c0_i32_192
  let c32_i32_193 : BitVec 32 := 32#32
  let v519 : BitVec 32 := Scalar.muli v518 c32_i32_193
  let v520 : BitVec 32 := Scalar.addi v519 c0_i32_194
  let v527 : Index := Scalar.indexCast v520
  ![4, v527.toNat]
def k0_off52 (k0_t10 : Fin k0_t10_loop.trips) (c0_i32_194 : BitVec 32) : Fin 2 → Nat :=
  let c5_i32_196 : BitVec 32 := 5#32
  let v534 : Index := Scalar.indexCast c5_i32_196
  let c2_i32_191 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v517 : BitVec 32 := Scalar.muli c2_i32_191 v166
  let c0_i32_192 : BitVec 32 := 0#32
  let v518 : BitVec 32 := Scalar.addi v517 c0_i32_192
  let c32_i32_193 : BitVec 32 := 32#32
  let v519 : BitVec 32 := Scalar.muli v518 c32_i32_193
  let v520 : BitVec 32 := Scalar.addi v519 c0_i32_194
  let v535 : Index := Scalar.indexCast v520
  ![5, v535.toNat]

def k0_chk71 (v576 : IVec S16 32) : Prop :=
  (∀ a x, ((![v576] : Fin 1 → IVec S16 32) a x).toNat < S49216.size a)
theorem k0_idx69_inb : ∀ (v576 : IVec S16 32) (k0_hw71 : k0_chk71 v576), ∀ a x, ((![v576] : Fin 1 → IVec S16 32) a x).toNat < S49216.size a := fun v576 k0_hw71 => k0_hw71

def k0_chk72 (v591 : IVec S16 32) : Prop :=
  (∀ a x, ((![v591] : Fin 1 → IVec S16 32) a x).toNat < S49216.size a)
theorem k0_idx70_inb : ∀ (v591 : IVec S16 32) (k0_hw72 : k0_chk72 v591), ∀ a x, ((![v591] : Fin 1 → IVec S16 32) a x).toNat < S49216.size a := fun v591 k0_hw72 => k0_hw72

def k0_chk73 (v614 : IVec S16 32) : Prop :=
  (∀ a x, ((![v614] : Fin 1 → IVec S16 32) a x).toNat < S49216.size a)
theorem k0_idx71_inb : ∀ (v614 : IVec S16 32) (k0_hw73 : k0_chk73 v614), ∀ a x, ((![v614] : Fin 1 → IVec S16 32) a x).toNat < S49216.size a := fun v614 k0_hw73 => k0_hw73

def k0_chk74 (v629 : IVec S16 32) : Prop :=
  (∀ a x, ((![v629] : Fin 1 → IVec S16 32) a x).toNat < S49216.size a)
theorem k0_idx72_inb : ∀ (v629 : IVec S16 32) (k0_hw74 : k0_chk74 v629), ∀ a x, ((![v629] : Fin 1 → IVec S16 32) a x).toNat < S49216.size a := fun v629 k0_hw74 => k0_hw74
def k0_off53 (k0_t10 : Fin k0_t10_loop.trips) (c0_i32_232 : BitVec 32) : Fin 2 → Nat :=
  let c6_i32_233 : BitVec 32 := 6#32
  let v642 : Index := Scalar.indexCast c6_i32_233
  let c2_i32_229 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v633 : BitVec 32 := Scalar.muli c2_i32_229 v166
  let c0_i32_230 : BitVec 32 := 0#32
  let v634 : BitVec 32 := Scalar.addi v633 c0_i32_230
  let c32_i32_231 : BitVec 32 := 32#32
  let v635 : BitVec 32 := Scalar.muli v634 c32_i32_231
  let v636 : BitVec 32 := Scalar.addi v635 c0_i32_232
  let v643 : Index := Scalar.indexCast v636
  ![6, v643.toNat]
def k0_off54 (k0_t10 : Fin k0_t10_loop.trips) (c0_i32_232 : BitVec 32) : Fin 2 → Nat :=
  let c7_i32_234 : BitVec 32 := 7#32
  let v650 : Index := Scalar.indexCast c7_i32_234
  let c2_i32_229 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v633 : BitVec 32 := Scalar.muli c2_i32_229 v166
  let c0_i32_230 : BitVec 32 := 0#32
  let v634 : BitVec 32 := Scalar.addi v633 c0_i32_230
  let c32_i32_231 : BitVec 32 := 32#32
  let v635 : BitVec 32 := Scalar.muli v634 c32_i32_231
  let v636 : BitVec 32 := Scalar.addi v635 c0_i32_232
  let v651 : Index := Scalar.indexCast v636
  ![7, v651.toNat]

def k0_chk75 (v692 : IVec S16 32) : Prop :=
  (∀ a x, ((![v692] : Fin 1 → IVec S16 32) a x).toNat < S49216.size a)
theorem k0_idx73_inb : ∀ (v692 : IVec S16 32) (k0_hw75 : k0_chk75 v692), ∀ a x, ((![v692] : Fin 1 → IVec S16 32) a x).toNat < S49216.size a := fun v692 k0_hw75 => k0_hw75

def k0_chk76 (v707 : IVec S16 32) : Prop :=
  (∀ a x, ((![v707] : Fin 1 → IVec S16 32) a x).toNat < S49216.size a)
theorem k0_idx74_inb : ∀ (v707 : IVec S16 32) (k0_hw76 : k0_chk76 v707), ∀ a x, ((![v707] : Fin 1 → IVec S16 32) a x).toNat < S49216.size a := fun v707 k0_hw76 => k0_hw76

def k0_chk77 (v730 : IVec S16 32) : Prop :=
  (∀ a x, ((![v730] : Fin 1 → IVec S16 32) a x).toNat < S49216.size a)
theorem k0_idx75_inb : ∀ (v730 : IVec S16 32) (k0_hw77 : k0_chk77 v730), ∀ a x, ((![v730] : Fin 1 → IVec S16 32) a x).toNat < S49216.size a := fun v730 k0_hw77 => k0_hw77

def k0_chk78 (v745 : IVec S16 32) : Prop :=
  (∀ a x, ((![v745] : Fin 1 → IVec S16 32) a x).toNat < S49216.size a)
theorem k0_idx76_inb : ∀ (v745 : IVec S16 32) (k0_hw78 : k0_chk78 v745), ∀ a x, ((![v745] : Fin 1 → IVec S16 32) a x).toNat < S49216.size a := fun v745 k0_hw78 => k0_hw78
def k0_off55 (k0_t10 : Fin k0_t10_loop.trips) (c0_i32_270 : BitVec 32) : Fin 2 → Nat :=
  let c0_i32_271 : BitVec 32 := 0#32
  let v758 : Index := Scalar.indexCast c0_i32_271
  let c2_i32_267 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v749 : BitVec 32 := Scalar.muli c2_i32_267 v166
  let c1_i32_268 : BitVec 32 := 1#32
  let v750 : BitVec 32 := Scalar.addi v749 c1_i32_268
  let c32_i32_269 : BitVec 32 := 32#32
  let v751 : BitVec 32 := Scalar.muli v750 c32_i32_269
  let v752 : BitVec 32 := Scalar.addi v751 c0_i32_270
  let v759 : Index := Scalar.indexCast v752
  ![0, v759.toNat]
def k0_off56 (k0_t10 : Fin k0_t10_loop.trips) (c0_i32_270 : BitVec 32) : Fin 2 → Nat :=
  let c1_i32_272 : BitVec 32 := 1#32
  let v766 : Index := Scalar.indexCast c1_i32_272
  let c2_i32_267 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v749 : BitVec 32 := Scalar.muli c2_i32_267 v166
  let c1_i32_268 : BitVec 32 := 1#32
  let v750 : BitVec 32 := Scalar.addi v749 c1_i32_268
  let c32_i32_269 : BitVec 32 := 32#32
  let v751 : BitVec 32 := Scalar.muli v750 c32_i32_269
  let v752 : BitVec 32 := Scalar.addi v751 c0_i32_270
  let v767 : Index := Scalar.indexCast v752
  ![1, v767.toNat]

def k0_chk79 (v808 : IVec S16 32) : Prop :=
  (∀ a x, ((![v808] : Fin 1 → IVec S16 32) a x).toNat < S49216.size a)
theorem k0_idx77_inb : ∀ (v808 : IVec S16 32) (k0_hw79 : k0_chk79 v808), ∀ a x, ((![v808] : Fin 1 → IVec S16 32) a x).toNat < S49216.size a := fun v808 k0_hw79 => k0_hw79

def k0_chk80 (v823 : IVec S16 32) : Prop :=
  (∀ a x, ((![v823] : Fin 1 → IVec S16 32) a x).toNat < S49216.size a)
theorem k0_idx78_inb : ∀ (v823 : IVec S16 32) (k0_hw80 : k0_chk80 v823), ∀ a x, ((![v823] : Fin 1 → IVec S16 32) a x).toNat < S49216.size a := fun v823 k0_hw80 => k0_hw80

def k0_chk81 (v846 : IVec S16 32) : Prop :=
  (∀ a x, ((![v846] : Fin 1 → IVec S16 32) a x).toNat < S49216.size a)
theorem k0_idx79_inb : ∀ (v846 : IVec S16 32) (k0_hw81 : k0_chk81 v846), ∀ a x, ((![v846] : Fin 1 → IVec S16 32) a x).toNat < S49216.size a := fun v846 k0_hw81 => k0_hw81

def k0_chk82 (v861 : IVec S16 32) : Prop :=
  (∀ a x, ((![v861] : Fin 1 → IVec S16 32) a x).toNat < S49216.size a)
theorem k0_idx80_inb : ∀ (v861 : IVec S16 32) (k0_hw82 : k0_chk82 v861), ∀ a x, ((![v861] : Fin 1 → IVec S16 32) a x).toNat < S49216.size a := fun v861 k0_hw82 => k0_hw82
def k0_off57 (k0_t10 : Fin k0_t10_loop.trips) (c0_i32_308 : BitVec 32) : Fin 2 → Nat :=
  let c2_i32_309 : BitVec 32 := 2#32
  let v874 : Index := Scalar.indexCast c2_i32_309
  let c2_i32_305 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v865 : BitVec 32 := Scalar.muli c2_i32_305 v166
  let c1_i32_306 : BitVec 32 := 1#32
  let v866 : BitVec 32 := Scalar.addi v865 c1_i32_306
  let c32_i32_307 : BitVec 32 := 32#32
  let v867 : BitVec 32 := Scalar.muli v866 c32_i32_307
  let v868 : BitVec 32 := Scalar.addi v867 c0_i32_308
  let v875 : Index := Scalar.indexCast v868
  ![2, v875.toNat]
def k0_off58 (k0_t10 : Fin k0_t10_loop.trips) (c0_i32_308 : BitVec 32) : Fin 2 → Nat :=
  let c3_i32_310 : BitVec 32 := 3#32
  let v882 : Index := Scalar.indexCast c3_i32_310
  let c2_i32_305 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v865 : BitVec 32 := Scalar.muli c2_i32_305 v166
  let c1_i32_306 : BitVec 32 := 1#32
  let v866 : BitVec 32 := Scalar.addi v865 c1_i32_306
  let c32_i32_307 : BitVec 32 := 32#32
  let v867 : BitVec 32 := Scalar.muli v866 c32_i32_307
  let v868 : BitVec 32 := Scalar.addi v867 c0_i32_308
  let v883 : Index := Scalar.indexCast v868
  ![3, v883.toNat]

def k0_chk83 (v924 : IVec S16 32) : Prop :=
  (∀ a x, ((![v924] : Fin 1 → IVec S16 32) a x).toNat < S49216.size a)
theorem k0_idx81_inb : ∀ (v924 : IVec S16 32) (k0_hw83 : k0_chk83 v924), ∀ a x, ((![v924] : Fin 1 → IVec S16 32) a x).toNat < S49216.size a := fun v924 k0_hw83 => k0_hw83

def k0_chk84 (v939 : IVec S16 32) : Prop :=
  (∀ a x, ((![v939] : Fin 1 → IVec S16 32) a x).toNat < S49216.size a)
theorem k0_idx82_inb : ∀ (v939 : IVec S16 32) (k0_hw84 : k0_chk84 v939), ∀ a x, ((![v939] : Fin 1 → IVec S16 32) a x).toNat < S49216.size a := fun v939 k0_hw84 => k0_hw84

def k0_chk85 (v962 : IVec S16 32) : Prop :=
  (∀ a x, ((![v962] : Fin 1 → IVec S16 32) a x).toNat < S49216.size a)
theorem k0_idx83_inb : ∀ (v962 : IVec S16 32) (k0_hw85 : k0_chk85 v962), ∀ a x, ((![v962] : Fin 1 → IVec S16 32) a x).toNat < S49216.size a := fun v962 k0_hw85 => k0_hw85

def k0_chk86 (v977 : IVec S16 32) : Prop :=
  (∀ a x, ((![v977] : Fin 1 → IVec S16 32) a x).toNat < S49216.size a)
theorem k0_idx84_inb : ∀ (v977 : IVec S16 32) (k0_hw86 : k0_chk86 v977), ∀ a x, ((![v977] : Fin 1 → IVec S16 32) a x).toNat < S49216.size a := fun v977 k0_hw86 => k0_hw86
def k0_off59 (k0_t10 : Fin k0_t10_loop.trips) (c0_i32_346 : BitVec 32) : Fin 2 → Nat :=
  let c4_i32_347 : BitVec 32 := 4#32
  let v990 : Index := Scalar.indexCast c4_i32_347
  let c2_i32_343 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v981 : BitVec 32 := Scalar.muli c2_i32_343 v166
  let c1_i32_344 : BitVec 32 := 1#32
  let v982 : BitVec 32 := Scalar.addi v981 c1_i32_344
  let c32_i32_345 : BitVec 32 := 32#32
  let v983 : BitVec 32 := Scalar.muli v982 c32_i32_345
  let v984 : BitVec 32 := Scalar.addi v983 c0_i32_346
  let v991 : Index := Scalar.indexCast v984
  ![4, v991.toNat]
def k0_off60 (k0_t10 : Fin k0_t10_loop.trips) (c0_i32_346 : BitVec 32) : Fin 2 → Nat :=
  let c5_i32_348 : BitVec 32 := 5#32
  let v998 : Index := Scalar.indexCast c5_i32_348
  let c2_i32_343 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v981 : BitVec 32 := Scalar.muli c2_i32_343 v166
  let c1_i32_344 : BitVec 32 := 1#32
  let v982 : BitVec 32 := Scalar.addi v981 c1_i32_344
  let c32_i32_345 : BitVec 32 := 32#32
  let v983 : BitVec 32 := Scalar.muli v982 c32_i32_345
  let v984 : BitVec 32 := Scalar.addi v983 c0_i32_346
  let v999 : Index := Scalar.indexCast v984
  ![5, v999.toNat]

def k0_chk87 (v1040 : IVec S16 32) : Prop :=
  (∀ a x, ((![v1040] : Fin 1 → IVec S16 32) a x).toNat < S49216.size a)
theorem k0_idx85_inb : ∀ (v1040 : IVec S16 32) (k0_hw87 : k0_chk87 v1040), ∀ a x, ((![v1040] : Fin 1 → IVec S16 32) a x).toNat < S49216.size a := fun v1040 k0_hw87 => k0_hw87

def k0_chk88 (v1055 : IVec S16 32) : Prop :=
  (∀ a x, ((![v1055] : Fin 1 → IVec S16 32) a x).toNat < S49216.size a)
theorem k0_idx86_inb : ∀ (v1055 : IVec S16 32) (k0_hw88 : k0_chk88 v1055), ∀ a x, ((![v1055] : Fin 1 → IVec S16 32) a x).toNat < S49216.size a := fun v1055 k0_hw88 => k0_hw88

def k0_chk89 (v1078 : IVec S16 32) : Prop :=
  (∀ a x, ((![v1078] : Fin 1 → IVec S16 32) a x).toNat < S49216.size a)
theorem k0_idx87_inb : ∀ (v1078 : IVec S16 32) (k0_hw89 : k0_chk89 v1078), ∀ a x, ((![v1078] : Fin 1 → IVec S16 32) a x).toNat < S49216.size a := fun v1078 k0_hw89 => k0_hw89

def k0_chk90 (v1093 : IVec S16 32) : Prop :=
  (∀ a x, ((![v1093] : Fin 1 → IVec S16 32) a x).toNat < S49216.size a)
theorem k0_idx88_inb : ∀ (v1093 : IVec S16 32) (k0_hw90 : k0_chk90 v1093), ∀ a x, ((![v1093] : Fin 1 → IVec S16 32) a x).toNat < S49216.size a := fun v1093 k0_hw90 => k0_hw90
def k0_off61 (k0_t10 : Fin k0_t10_loop.trips) (c0_i32_384 : BitVec 32) : Fin 2 → Nat :=
  let c6_i32_385 : BitVec 32 := 6#32
  let v1106 : Index := Scalar.indexCast c6_i32_385
  let c2_i32_381 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v1097 : BitVec 32 := Scalar.muli c2_i32_381 v166
  let c1_i32_382 : BitVec 32 := 1#32
  let v1098 : BitVec 32 := Scalar.addi v1097 c1_i32_382
  let c32_i32_383 : BitVec 32 := 32#32
  let v1099 : BitVec 32 := Scalar.muli v1098 c32_i32_383
  let v1100 : BitVec 32 := Scalar.addi v1099 c0_i32_384
  let v1107 : Index := Scalar.indexCast v1100
  ![6, v1107.toNat]
def k0_off62 (k0_t10 : Fin k0_t10_loop.trips) (c0_i32_384 : BitVec 32) : Fin 2 → Nat :=
  let c7_i32_386 : BitVec 32 := 7#32
  let v1114 : Index := Scalar.indexCast c7_i32_386
  let c2_i32_381 : BitVec 32 := 2#32
  let c0_i32_81 : BitVec 32 := 0#32
  let c0_i32_76 : BitVec 32 := 0#32
  let c1_i32_78 : BitVec 32 := 1#32
  let arg14 : BitVec 32 := Scf.iv c0_i32_76 c1_i32_78 k0_t10
  let c1_i32_80 : BitVec 32 := 1#32
  let v165 : BitVec 32 := Scalar.muli arg14 c1_i32_80
  let v166 : BitVec 32 := Scalar.addi c0_i32_81 v165
  let v1097 : BitVec 32 := Scalar.muli c2_i32_381 v166
  let c1_i32_382 : BitVec 32 := 1#32
  let v1098 : BitVec 32 := Scalar.addi v1097 c1_i32_382
  let c32_i32_383 : BitVec 32 := 32#32
  let v1099 : BitVec 32 := Scalar.muli v1098 c32_i32_383
  let v1100 : BitVec 32 := Scalar.addi v1099 c0_i32_384
  let v1115 : Index := Scalar.indexCast v1100
  ![7, v1115.toNat]
def k0_mult4 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v17 : BitVec 32 := Scalar.muli v1 c480_i32
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v15 : BitVec 32 := Scalar.muli arg13 c1_i32_7
  let v16 : BitVec 32 := Scalar.addi c0_i32_8 v15
  let c8_i32 : BitVec 32 := 8#32
  let v18 : BitVec 32 := Scalar.muli v16 c8_i32
  let v19 : BitVec 32 := Scalar.addi v17 v18
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c1536_i32 : BitVec 32 := 1536#32
  let c0_i32_11 : BitVec 32 := 0#32
  let v26 : BitVec 1 := Scalar.cmpi .sgt c1536_i32 c0_i32_11
  let v27 : BitVec 32 := Scalar.extui v26
  let c0_i32_12 : BitVec 32 := 0#32
  let v28 : BitVec 1 := Scalar.cmpi .slt c1536_i32 c0_i32_12
  let v29 : BitVec 32 := Scalar.extui v28
  let v30 : BitVec 32 := Scalar.subi v27 v29
  let v31 : BitVec 1 := Scalar.cmpi .ne v25 v30
  let v32 : BitVec 32 := Scalar.remsi v19 c1536_i32
  let c0_i32_13 : BitVec 32 := 0#32
  let v33 : BitVec 1 := Scalar.cmpi .ne v32 c0_i32_13
  let v34 : BitVec 1 := Scalar.andi v31 v33
  let v20 : BitVec 32 := Scalar.divsi v19 c1536_i32
  let c1_i32_14 : BitVec 32 := 1#32
  let v35 : BitVec 32 := Scalar.subi v20 c1_i32_14
  let v36 : BitVec 32 := Scalar.select v34 v35 v20
  let c1536_i32_15 : BitVec 32 := 1536#32
  let v37 : BitVec 32 := Scalar.muli v36 c1536_i32_15
  let v38 : BitVec 32 := Scalar.subi v19 v37
  v38
def k0_off63 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c480_i32 : BitVec 32 := 480#32
  let v17 : BitVec 32 := Scalar.muli v1 c480_i32
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v15 : BitVec 32 := Scalar.muli arg13 c1_i32_7
  let v16 : BitVec 32 := Scalar.addi c0_i32_8 v15
  let c8_i32 : BitVec 32 := 8#32
  let v18 : BitVec 32 := Scalar.muli v16 c8_i32
  let v19 : BitVec 32 := Scalar.addi v17 v18
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c1536_i32 : BitVec 32 := 1536#32
  let c0_i32_11 : BitVec 32 := 0#32
  let v26 : BitVec 1 := Scalar.cmpi .sgt c1536_i32 c0_i32_11
  let v27 : BitVec 32 := Scalar.extui v26
  let c0_i32_12 : BitVec 32 := 0#32
  let v28 : BitVec 1 := Scalar.cmpi .slt c1536_i32 c0_i32_12
  let v29 : BitVec 32 := Scalar.extui v28
  let v30 : BitVec 32 := Scalar.subi v27 v29
  let v31 : BitVec 1 := Scalar.cmpi .ne v25 v30
  let v32 : BitVec 32 := Scalar.remsi v19 c1536_i32
  let c0_i32_13 : BitVec 32 := 0#32
  let v33 : BitVec 1 := Scalar.cmpi .ne v32 c0_i32_13
  let v34 : BitVec 1 := Scalar.andi v31 v33
  let v20 : BitVec 32 := Scalar.divsi v19 c1536_i32
  let c1_i32_14 : BitVec 32 := 1#32
  let v35 : BitVec 32 := Scalar.subi v20 c1_i32_14
  let v36 : BitVec 32 := Scalar.select v34 v35 v20
  let c1536_i32_15 : BitVec 32 := 1536#32
  let v37 : BitVec 32 := Scalar.muli v36 c1536_i32_15
  let v38 : BitVec 32 := Scalar.subi v19 v37
  let v164 : BitVec 32 := v38
  let c2304_i32_r3 : BitVec 32 := 2304#32
  ![v36.toNat, v164.toNat, 2304]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S79626240 : Shape := ⟨1, ![79626240]⟩
abbrev S10x1536x144 : Shape := ⟨3, ![10, 1536, 144]⟩
abbrev S10x1536 : Shape := ⟨2, ![10, 1536]⟩
abbrev S10x1536x144x1 : Shape := ⟨4, ![10, 1536, 144, 1]⟩
abbrev S4 : Shape := ⟨1, ![4]⟩
abbrev S1x1x1x4 : Shape := ⟨4, ![1, 1, 1, 4]⟩
abbrev S10x1536x144x4 : Shape := ⟨4, ![10, 1536, 144, 4]⟩
abbrev S_ : Shape := ⟨0, ![]⟩
abbrev S10x1536x144x4x1 : Shape := ⟨5, ![10, 1536, 144, 4, 1]⟩
abbrev S8 : Shape := ⟨1, ![8]⟩
abbrev S1x1x1x1x8 : Shape := ⟨5, ![1, 1, 1, 1, 8]⟩
abbrev S10x1536x144x4x8 : Shape := ⟨5, ![10, 1536, 144, 4, 8]⟩
abbrev S10x1536x144x32 : Shape := ⟨4, ![10, 1536, 144, 32]⟩
abbrev S10x1536x144x32x1 : Shape := ⟨5, ![10, 1536, 144, 32, 1]⟩
abbrev S10x1536x4608 : Shape := ⟨3, ![10, 1536, 4608]⟩
abbrev S10x1536x1 : Shape := ⟨3, ![10, 1536, 1]⟩

abbrev nBuf : Space → Nat
  | .hbm => 60
  | .vmem => 3
  | .smem => 0
  | _ => 0

abbrev bufTy : (tb : Table) → Fin (tcTables nBuf tb) → BufTy
  | .hbm, ⟨0, _⟩ => ⟨S79626240, .i8⟩
  | .hbm, ⟨1, _⟩ => ⟨S10x1536x144, .i32⟩
  | .hbm, ⟨2, _⟩ => ⟨S10x1536, .f32⟩
  | .hbm, ⟨3, _⟩ => ⟨S10x1536x144x1, .i32⟩
  | .hbm, ⟨4, _⟩ => ⟨S4, .i32⟩
  | .hbm, ⟨5, _⟩ => ⟨S1x1x1x4, .i32⟩
  | .hbm, ⟨6, _⟩ => ⟨S10x1536x144x4, .i32⟩
  | .hbm, ⟨7, _⟩ => ⟨S10x1536x144x4, .i32⟩
  | .hbm, ⟨8, _⟩ => ⟨S10x1536x144x4, .i32⟩
  | .hbm, ⟨9, _⟩ => ⟨S_, .i32⟩
  | .hbm, ⟨10, _⟩ => ⟨S10x1536x144x4, .i32⟩
  | .hbm, ⟨11, _⟩ => ⟨S10x1536x144x4, .i1⟩
  | .hbm, ⟨12, _⟩ => ⟨S_, .i32⟩
  | .hbm, ⟨13, _⟩ => ⟨S10x1536x144x4, .i32⟩
  | .hbm, ⟨14, _⟩ => ⟨S10x1536x144x4, .i32⟩
  | .hbm, ⟨15, _⟩ => ⟨S10x1536x144x4, .i32⟩
  | .hbm, ⟨16, _⟩ => ⟨S10x1536x144x4x1, .i32⟩
  | .hbm, ⟨17, _⟩ => ⟨S10x1536x144x4, .i8⟩
  | .hbm, ⟨18, _⟩ => ⟨S8, .i32⟩
  | .hbm, ⟨19, _⟩ => ⟨S10x1536x144x4, .i32⟩
  | .hbm, ⟨20, _⟩ => ⟨S10x1536x144x4x1, .i32⟩
  | .hbm, ⟨21, _⟩ => ⟨S1x1x1x1x8, .i32⟩
  | .hbm, ⟨22, _⟩ => ⟨S10x1536x144x4x8, .i32⟩
  | .hbm, ⟨23, _⟩ => ⟨S10x1536x144x4x8, .i32⟩
  | .hbm, ⟨24, _⟩ => ⟨S10x1536x144x4x8, .i32⟩
  | .hbm, ⟨25, _⟩ => ⟨S_, .i32⟩
  | .hbm, ⟨26, _⟩ => ⟨S10x1536x144x4x8, .i32⟩
  | .hbm, ⟨27, _⟩ => ⟨S10x1536x144x4x8, .i32⟩
  | .hbm, ⟨28, _⟩ => ⟨S10x1536x144x32, .i32⟩
  | .hbm, ⟨29, _⟩ => ⟨S_, .i32⟩
  | .hbm, ⟨30, _⟩ => ⟨S_, .i32⟩
  | .hbm, ⟨31, _⟩ => ⟨S10x1536x144x32, .i32⟩
  | .hbm, ⟨32, _⟩ => ⟨S10x1536x144x32, .i32⟩
  | .hbm, ⟨33, _⟩ => ⟨S10x1536x144x1, .i32⟩
  | .hbm, ⟨34, _⟩ => ⟨S_, .i32⟩
  | .hbm, ⟨35, _⟩ => ⟨S10x1536x144x1, .i32⟩
  | .hbm, ⟨36, _⟩ => ⟨S10x1536x144x1, .i32⟩
  | .hbm, ⟨37, _⟩ => ⟨S10x1536x144x32, .i32⟩
  | .hbm, ⟨38, _⟩ => ⟨S10x1536x144x32, .i32⟩
  | .hbm, ⟨39, _⟩ => ⟨S_, .i32⟩
  | .hbm, ⟨40, _⟩ => ⟨S10x1536x144x32, .i32⟩
  | .hbm, ⟨41, _⟩ => ⟨S10x1536x144x32, .i32⟩
  | .hbm, ⟨42, _⟩ => ⟨S_, .i32⟩
  | .hbm, ⟨43, _⟩ => ⟨S10x1536x144x32, .i32⟩
  | .hbm, ⟨44, _⟩ => ⟨S10x1536x144x32, .i1⟩
  | .hbm, ⟨45, _⟩ => ⟨S_, .i32⟩
  | .hbm, ⟨46, _⟩ => ⟨S10x1536x144x32, .i32⟩
  | .hbm, ⟨47, _⟩ => ⟨S10x1536x144x32, .i32⟩
  | .hbm, ⟨48, _⟩ => ⟨S10x1536x144x32, .i32⟩
  | .hbm, ⟨49, _⟩ => ⟨S10x1536x144x32x1, .i32⟩
  | .hbm, ⟨50, _⟩ => ⟨S10x1536x144x32, .i8⟩
  | .hbm, ⟨51, _⟩ => ⟨S_, .i32⟩
  | .hbm, ⟨52, _⟩ => ⟨S10x1536x144x32, .i32⟩
  | .hbm, ⟨53, _⟩ => ⟨S10x1536x144x32, .i1⟩
  | .hbm, ⟨54, _⟩ => ⟨S_, .i8⟩
  | .hbm, ⟨55, _⟩ => ⟨S10x1536x144x32, .i8⟩
  | .hbm, ⟨56, _⟩ => ⟨S10x1536x144x32, .i8⟩
  | .hbm, ⟨57, _⟩ => ⟨S10x1536x4608, .i8⟩
  | .hbm, ⟨58, _⟩ => ⟨S10x1536x1, .f32⟩
  | .hbm, ⟨59, _⟩ => ⟨S10x1536x4608, .bf16⟩
  | .local _ .vmem, ⟨0, _⟩ => ⟨S10x1536x4608, .i8⟩
  | .local _ .vmem, ⟨1, _⟩ => ⟨S10x1536x1, .f32⟩
  | .local _ .vmem, ⟨2, _⟩ => ⟨S10x1536x4608, .bf16⟩
  | _, _ => ⟨S79626240, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_call0_c : Ref sig .tc := ⟨.hbm, 29, rfl⟩
abbrev main_call0_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_call1_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S10x1536x4608 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x1536x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Body.lean ====
/-
  The decode loop's body, written once.  The printed body is 1396 statements: one prefix that gathers the
  window starts and mask bytes of sixteen (window, token) pairs, then eight times the same step on two of
  those lanes.  Here the step is one program of the lane numbers, and the printed body of each of the two
  decode loops is shown to be the prefix followed by that step at the eight pairs.
-/
module

public import proofs.«01_k».proof.Proof.Gen.KernelIdeal
public import Idealize.ShloMosaic.Lib.SparseCore.Quiescent
public import Idealize.ShloMosaic.Lib.Tactic

@[expose] public section

noncomputable section

namespace Cert.Proof.Unpack

open Cert.KernelIdeal Cert.KernelIdeal.Gen
open Idealize.ShloMosaic Idealize.SL.Sem

variable {F : FTy → Type} [FloatOps F]

abbrev TP (L : grid0.Coords) (α : Type) : Type _ :=
  Prog (TpuEff nD τ sig (Elt F) Λ₀ (.scVector ((L 0).castLE hcore0) ((L 1).castLE hsub0))) α

/-- The kernel's memory: the packed words, the window starts, the scales, the result; a tile's scratches. -/
abbrev wM : Memref sig .scVector .hbm S155520x128 .i32 := Memref.whole main_v19_scv
abbrev fM : Memref sig .scVector .hbm S10x144x1536 .i32 := Memref.whole main_v0_scv
abbrev cM : Memref sig .scVector .hbm S10x1536 .f32 := Memref.whole main_arg2_scv
abbrev oM : Memref sig .scVector .hbm S10x1536x4608 .f32 := Memref.whole main_v20_scv
abbrev rawM : Memref sig .scVector .vmem S96x128 .i32 := Memref.whole cc0_scratch0
abbrev expM : Memref sig .scVector .vmem S49216 .i32 := Memref.whole cc0_scratch1
abbrev offM : Memref sig .scVector .vmem S144x128 .i32 := Memref.whole cc0_scratch2
abbrev sclM : Memref sig .scVector .vmem S128 .f32 := Memref.whole cc0_scratch3
abbrev popM : Memref sig .scVector .vmem S256 .i32 := Memref.whole cc0_scratch4
abbrev outM : Memref sig .scVector .vmem S8x2304 .f32 := Memref.whole cc0_scratch5

/-- A gather from the expanded bytes, with the check the body makes of its indices. -/
def gexp (L : grid0.Coords) (v : IVec S16 32) : TP (F := F) L (Vec F S16 .i32) := do
  have h : k0_chk20 v := (← Prog.lift (TpuEff.assume (k0_chk20 v) (k0_chk20.dec v))).down
  SparseCore.vectorLoadIdx expM ![v] (k0_idx18_inb v h) (View.loads_vmem h_S49216)

/-- The lanes of half a window whose mask bit is set. -/
abbrev keepV (bit : IVec S16 32) (mk : BitVec 32) : IVec S16 1 := cmpi .ne (andi bit (broadcast S16 mk)) (broadcast S16 0#32)
abbrev onesV (bit : IVec S16 32) (mk : BitVec 32) : IVec S16 32 := select (keepV bit mk) (broadcast S16 1#32) (broadcast S16 0#32)
abbrev idxV (bit : IVec S16 32) (mk p : BitVec 32) : IVec S16 32 :=
  subi (addi (broadcast S16 p) (scan .sum (onesV bit mk))) (onesV bit mk)

/-- Half a window: each kept lane reads the byte at its rank past `p`, the others read zero. -/
def halfW (L : grid0.Coords) (bit : IVec S16 32) (mk p : BitVec 32) : TP (F := F) L (Vec F S16 .i32) := do
  let v ← gexp L (idxV bit mk p)
  pure (select (keepV bit mk) v (broadcast S16 0#32))

abbrev laneAt (x : IVec S16 32) (o : ℕ) (ho : S16.Slices ![o] S1) : BitVec 32 :=
  extractAt ![0] (extractStridedSlice S1 ![o] x ho) inpos_S1_p0
abbrev posLo (pk : BitVec 32) : BitVec 32 := Scalar.addi (Scalar.andi pk 1048575#32) 4#32
abbrev posHi (pk : BitVec 32) : BitVec 32 := Scalar.addi (posLo pk) (Scalar.shrsi pk 20#32)

/-- A window of one token: its two halves. -/
def tokenW (L : grid0.Coords) (lo hi m p : IVec S16 32) (o : ℕ) (ho : S16.Slices ![o] S1) :
    TP (F := F) L (Vec F S16 .i32 × Vec F S16 .i32) := do
  let a ← halfW L lo (laneAt m o ho) (posLo (laneAt p o ho))
  let b ← halfW L hi (laneAt m o ho) (posHi (laneAt p o ho))
  pure (a, b)

/-- The value stored for sixteen codes at one scale. -/
abbrev valV (r : Vec F S16 .i32) (sc : FVec F S16 .bf16) : FVec F S16 .f32 :=
  extf .f32 (mulf (extf .bf16 (bitcastToFloat .fp8e4m3 (trunci 8 (show IVec S16 32 from r) natLt_8_32)) bitsLt_fp8e4m3_bf16) sc) bitsLt_bf16_f32

/-- One store of sixteen results (the body reads the place first, and drops what it read). -/
def putW (L : grid0.Coords) (off : Fin 2 → ℕ) (hoff : ∀ a, off a + S1x16.size a ≤ S8x2304.size a) (r : Vec F S16 .i32) (sc : FVec F S16 .bf16) :
    TP (F := F) L PUnit := do
  let _ ← Prog.lift (.load outM (Rect.unit (s := S8x2304) off S1x16.size hoff).toLoadRect (View.loadsAt_vmem h_S1x16))
  Prog.lift (.store outM (Rect.unit (s := S8x2304) off S1x16.size hoff) (shapeCast S1x16 (valV r sc) shapeCasts_S16_S1x16) Finset.univ
    (View.stores_vmem_bits_univ h_S1x16 rfl) (.inl rfl))

/-- The trip number as the body computes it, and the column its window `win`, half `h` goes to. -/
abbrev tripW (t : ℕ) : BitVec 32 := Scalar.addi 0#32 (Scalar.muli (Scf.iv 0#32 1#32 t) 1#32)
abbrev colW (t : ℕ) (win h : BitVec 32) : BitVec 32 := Scalar.addi (Scalar.muli (Scalar.addi (Scalar.muli 2#32 (tripW t)) win) 32#32) h
abbrev offW (t r : ℕ) (win h : BitVec 32) : Fin 2 → ℕ := ![r, (Scalar.indexCast (colW t win h)).toNat]

/-- The step on lanes `o` and `o + 1`: two tokens of one window decoded, then stored half by half. -/
def pairW (L : grid0.Coords) (lo hi m p : IVec S16 32) (s0 s1 : FVec F S16 .bf16) (t : ℕ) (o r : ℕ) (win : BitVec 32)
    (ho : S16.Slices ![o] S1) (ho' : S16.Slices ![o + 1] S1)
    (h : ∀ x : Fin 2, ∀ y : Fin 2, ∀ a, offW t (r + x.val) win (BitVec.ofNat 32 (16 * y.val)) a + S1x16.size a ≤ S8x2304.size a) : TP (F := F) L PUnit := do
  let a ← tokenW L lo hi m p o ho
  let b ← tokenW L lo hi m p (o + 1) ho'
  putW L (offW t r win 0#32) (h 0 0) a.1 s0
  putW L (offW t (r + 1) win 0#32) (h 1 0) b.1 s1
  putW L (offW t r win 16#32) (h 0 1) a.2 s0
  putW L (offW t (r + 1) win 16#32) (h 1 1) b.2 s1

/-- The prefix: the sixteen masks and the sixteen packed (position, count) words. -/
abbrev wrowV (v10 : IVec S16 32) (half : BitVec 32) (t : ℕ) : IVec S16 32 := addi v10 (broadcast S16 (Scalar.addi half (Scalar.muli 2#32 (tripW t))))
abbrev byteV (x : Vec F S16 .i32) : IVec S16 32 := andi (show IVec S16 32 from x) (broadcast S16 255#32)
abbrev relV (rel : IVec S16 32) (j : BitVec 32) : IVec S16 32 := addi rel (broadcast S16 j)

def masksW (L : grid0.Coords) (v10 v12 : IVec S16 32) (v39 v62 half : BitVec 32) (t : ℕ) : TP (F := F) L (IVec S16 32 × IVec S16 32) := do
  have h13 : k0_chk13 (wrowV v10 half t) (addi v12 (broadcast S16 v39)) :=
    (← Prog.lift (TpuEff.assume (k0_chk13 (wrowV v10 half t) (addi v12 (broadcast S16 v39))) (k0_chk13.dec _ _))).down
  let v173 : Vec F S16 .i32 ← SparseCore.vectorLoadIdx offM ![wrowV v10 half t, addi v12 (broadcast S16 v39)] (k0_idx11_inb _ _ h13) (View.loads_vmem h_S144x128)
  have rel : IVec S16 32 := subi v173 (broadcast S16 v62)
  let g0 ← gexp L (relV rel 0#32)
  have x0 : IVec S16 32 := byteV (F := F) g0
  have h18 : k0_chk18 x0 := (← Prog.lift (TpuEff.assume (k0_chk18 x0) (k0_chk18.dec x0))).down
  let g1 ← gexp L (relV rel 1#32)
  have x1 : IVec S16 32 := byteV (F := F) g1
  have h19 : k0_chk18 x1 := (← Prog.lift (TpuEff.assume (k0_chk18 x1) (k0_chk18.dec x1))).down
  let g2 ← gexp L (relV rel 2#32)
  let g3 ← gexp L (relV rel 3#32)
  let c0 : Vec F S16 .i32 ← SparseCore.vectorLoadIdx popM ![x0] (k0_idx16_inb x0 h18) (View.loads_vmem h_S256)
  let c1 : Vec F S16 .i32 ← SparseCore.vectorLoadIdx popM ![x1] (k0_idx16_inb x1 h19) (View.loads_vmem h_S256)
  pure (ori (ori (ori x0 (shli x1 (broadcast S16 8#32))) (shli (byteV (F := F) g2) (broadcast S16 16#32))) (shli (byteV (F := F) g3) (broadcast S16 24#32)),
    addi (addi rel c0) c1)

/-- The whole body of a decode loop. -/
def tripP (L : grid0.Coords) (v4 v8 v10 v12 : IVec S16 32) (v39 v62 half : BitVec 32) (s : Fin 8 → FVec F S16 .bf16) (t : ℕ)
    (h : ∀ (win : Fin 2) (r : Fin 8) (y : Fin 2), ∀ a, offW t r.val (BitVec.ofNat 32 win.val) (BitVec.ofNat 32 (16 * y.val)) a + S1x16.size a ≤ S8x2304.size a) :
    TP (F := F) L PUnit := do
  let mp ← masksW L v10 v12 v39 v62 half t
  pairW L v4 v8 mp.1 mp.2 (s 0) (s 1) t 0 0 0#32 slices_S16_o0_S1 slices_S16_o1_S1 (fun x y => h 0 ⟨0 + x.val, by omega⟩ y)
  pairW L v4 v8 mp.1 mp.2 (s 2) (s 3) t 2 2 0#32 slices_S16_o2_S1 slices_S16_o3_S1 (fun x y => h 0 ⟨2 + x.val, by omega⟩ y)
  pairW L v4 v8 mp.1 mp.2 (s 4) (s 5) t 4 4 0#32 slices_S16_o4_S1 slices_S16_o5_S1 (fun x y => h 0 ⟨4 + x.val, by omega⟩ y)
  pairW L v4 v8 mp.1 mp.2 (s 6) (s 7) t 6 6 0#32 slices_S16_o6_S1 slices_S16_o7_S1 (fun x y => h 0 ⟨6 + x.val, by omega⟩ y)
  pairW L v4 v8 mp.1 mp.2 (s 0) (s 1) t 8 0 1#32 slices_S16_o8_S1 slices_S16_o9_S1 (fun x y => h 1 ⟨0 + x.val, by omega⟩ y)
  pairW L v4 v8 mp.1 mp.2 (s 2) (s 3) t 10 2 1#32 slices_S16_o10_S1 slices_S16_o11_S1 (fun x y => h 1 ⟨2 + x.val, by omega⟩ y)
  pairW L v4 v8 mp.1 mp.2 (s 4) (s 5) t 12 4 1#32 slices_S16_o12_S1 slices_S16_o13_S1 (fun x y => h 1 ⟨4 + x.val, by omega⟩ y)
  pairW L v4 v8 mp.1 mp.2 (s 6) (s 7) t 14 6 1#32 slices_S16_o14_S1 slices_S16_o15_S1 (fun x y => h 1 ⟨6 + x.val, by omega⟩ y)

/-- The set-bit counts of sixteen bytes, shifted to the upper field, as one trip of the table's loop stores them. -/
abbrev popX (t : ℕ) : BitVec 32 := tripW t
abbrev bitV (x : IVec S16 32) (j : BitVec 32) : IVec S16 32 := andi (shrsi x (broadcast S16 j)) (broadcast S16 1#32)
abbrev lanes16 : IVec S16 32 := iota .scVector S16 32 [0] iota_S16_d0_w32_scVector
abbrev byteX (t : ℕ) : IVec S16 32 := addi lanes16 (broadcast S16 (Scalar.muli (tripW t) 16#32))
abbrev cntV (x : IVec S16 32) : IVec S16 32 :=
  addi (addi (addi (addi (addi (addi (addi (addi (broadcast S16 0#32) (bitV x 0#32)) (bitV x 1#32)) (bitV x 2#32)) (bitV x 3#32)) (bitV x 4#32)) (bitV x 5#32)) (bitV x 6#32)) (bitV x 7#32)

def popP (L : grid0.Coords) (t : Fin k0_t1_loop.trips) : TP (F := F) L PUnit := do
  let _ ← Prog.lift (.load popM (Rect.unit (s := S256) (k0_off1 t) S16.size (k0_off1_inb t)).toLoadRect (View.loadsAt_vmem h_S16))
  Prog.lift (.store popM (Rect.unit (s := S256) (k0_off1 t) S16.size (k0_off1_inb t)) (show Vec F S16 .i32 from shli (cntV (byteX t)) (broadcast S16 20#32)) Finset.univ (View.stores_vmem_bits_univ h_S16 rfl) (.inl rfl))
  pure ⟨⟩

/-- The two pieces a group's fetch reads, and the two pieces it writes. -/
abbrev srcOff (L : grid0.Coords) (g : Fin k0_t2_loop.trips) (h : k0_cond1 L g = 1#1) : Memref sig .scVector .hbm S144x128 .i32 :=
  (fM.slice (Rect.unit (s := S10x144x1536) (k0_off2 L g) S1x144x128.size (k0_off2_inb L g h)) (fun _ => rfl)).squeeze S144x128 squeezes_S1x144x128_S144x128
abbrev srcScl (L : grid0.Coords) (g : Fin k0_t2_loop.trips) (h : k0_cond1 L g = 1#1) : Memref sig .scVector .hbm S128 .f32 :=
  (cM.slice (Rect.unit (s := S10x1536) (k0_off3 L g) S1x128.size (k0_off3_inb L g h)) (fun _ => rfl)).squeeze S128 squeezes_S1x128_S128
abbrev outA (L : grid0.Coords) (g : Fin k0_t2_loop.trips) : Memref sig .scVector .hbm S8x2304 .f32 :=
  (oM.slice (Rect.unit (s := S10x1536x4608) (k0_off46 L g) S1x8x2304.size (k0_off46_inb L g)) (fun _ => rfl)).squeeze S8x2304 squeezes_S1x8x2304_S8x2304
abbrev outB (L : grid0.Coords) (g : Fin k0_t2_loop.trips) : Memref sig .scVector .hbm S8x2304 .f32 :=
  (oM.slice (Rect.unit (s := S10x1536x4608) (k0_off63 L g) S1x8x2304.size (k0_off63_inb L g)) (fun _ => rfl)).squeeze S8x2304 squeezes_S1x8x2304_S8x2304

theorem offE : (offM).view.WordExact := (Memref.isWhole_whole cc0_scratch2).wordExact
theorem sclE : (sclM).view.WordExact := (Memref.isWhole_whole cc0_scratch3).wordExact
theorem outE : (outM).view.WordExact := (Memref.isWhole_whole cc0_scratch5).wordExact

/-- The block of window starts and scales, fetched when the group is the first of a block or of the tile. -/
def fetchP (L : grid0.Coords) (g : Fin k0_t2_loop.trips) : TP (F := F) L PUnit :=
  if h : k0_cond1 L g = 1#1 then do
    Prog.lift (.enqueueDma (srcOff L g h) (.here offM) (.dma cc0_scoped0.sem) ((View.wordExact_bits rfl).reshape _ _) offE ⟨Or.inl rfl, trivial⟩)
    Prog.lift (.waitDma2 cc0_scoped0.sem (srcOff L g h) offM ((View.wordExact_bits rfl).reshape _ _) offE)
    Prog.lift (.enqueueDma (srcScl L g h) (.here sclM) (.dma cc0_scoped1.sem) ((View.wordExact_bits rfl).reshape _ _) sclE ⟨Or.inl rfl, trivial⟩)
    Prog.lift (.waitDma2 cc0_scoped1.sem (srcScl L g h) sclM ((View.wordExact_bits rfl).reshape _ _) sclE)
    pure ⟨⟩
  else do pure ⟨⟩

/-- One entry of the block of window starts, by a gather that reads it sixteen times. -/
def startP (L : grid0.Coords) (w ln : BitVec 32) : TP (F := F) L (BitVec 32) := do
  have h : k0_chk1 (broadcast S16 w) (broadcast S16 ln) :=
    (← Prog.lift (TpuEff.assume (k0_chk1 (broadcast S16 w) (broadcast S16 ln)) (k0_chk1.dec _ _))).down
  let v : Vec F S16 .i32 ← SparseCore.vectorLoadIdx offM ![broadcast S16 w, broadcast S16 ln] (k0_idx1_inb _ _ h) (View.loads_vmem h_S144x128)
  pure (laneAt (show IVec S16 32 from v) 0 slices_S16_o0_S1)

/-- One chunk: eight rows of words, started or awaited. -/
abbrev rawAt (o : Fin 2 → ℕ) (h : ∀ a, o a + S8x128.size a ≤ S96x128.size a) : Memref sig .scVector .vmem S8x128 .i32 :=
  rawM.slice (Rect.unit (s := S96x128) o S8x128.size h) (fun _ => rfl)
abbrev wordsAt (o : Fin 2 → ℕ) (h : ∀ a, o a + S8x128.size a ≤ S155520x128.size a) : Memref sig .scVector .hbm S8x128 .i32 :=
  wM.slice (Rect.unit (s := S155520x128) o S8x128.size h) (fun _ => rfl)

def chunkP (L : grid0.Coords) (o : Fin 2 → ℕ) (h : ∀ a, o a + S8x128.size a ≤ S96x128.size a) (o' : Fin 2 → ℕ) (h' : ∀ a, o' a + S8x128.size a ≤ S155520x128.size a) :
    TP (F := F) L PUnit := do
  Prog.lift (.enqueueDma (wordsAt o' h') (.here (rawAt o h)) (.dma cc0_scratch6.sem) (View.wordExact_bits rfl) (View.wordExact_bits rfl) ⟨Or.inl rfl, trivial⟩)
  pure ⟨⟩
def awaitP (L : grid0.Coords) (o : Fin 2 → ℕ) (h : ∀ a, o a + S8x128.size a ≤ S96x128.size a) (o' : Fin 2 → ℕ) (h' : ∀ a, o' a + S8x128.size a ≤ S155520x128.size a) :
    TP (F := F) L PUnit := do
  Prog.lift (.waitDma2 cc0_scratch6.sem (wordsAt o' h') (rawAt o h) (View.wordExact_bits rfl) (View.wordExact_bits rfl))
  pure ⟨⟩

/-- Sixteen words of a row, and their four bytes stored at the four planes. -/
def bytesP (L : grid0.Coords) (o : Fin 2 → ℕ) (h : ∀ a, o a + S1x16.size a ≤ S96x128.size a)
    (e : Fin 4 → Fin 1 → ℕ) (he : ∀ c a, e c a + S16.size a ≤ S49216.size a) : TP (F := F) L PUnit := do
  let w ← Prog.lift (.load rawM (Rect.unit (s := S96x128) o S1x16.size h).toLoadRect (View.loadsAt_vmem h_S1x16))
  let x : IVec S16 32 := show IVec S16 32 from shapeCast S16 (show Vec F S1x16 .i32 from w) shapeCasts_S1x16_S16
  let _ ← Prog.lift (.load expM (Rect.unit (s := S49216) (e 0) S16.size (he 0)).toLoadRect (View.loadsAt_vmem h_S16))
  Prog.lift (.store expM (Rect.unit (s := S49216) (e 0) S16.size (he 0)) (show Vec F S16 .i32 from shrui x (broadcast S16 0#32)) Finset.univ (View.stores_vmem_bits_univ h_S16 rfl) (.inl rfl))
  let _ ← Prog.lift (.load expM (Rect.unit (s := S49216) (e 1) S16.size (he 1)).toLoadRect (View.loadsAt_vmem h_S16))
  Prog.lift (.store expM (Rect.unit (s := S49216) (e 1) S16.size (he 1)) (show Vec F S16 .i32 from shrui x (broadcast S16 8#32)) Finset.univ (View.stores_vmem_bits_univ h_S16 rfl) (.inl rfl))
  let _ ← Prog.lift (.load expM (Rect.unit (s := S49216) (e 2) S16.size (he 2)).toLoadRect (View.loadsAt_vmem h_S16))
  Prog.lift (.store expM (Rect.unit (s := S49216) (e 2) S16.size (he 2)) (show Vec F S16 .i32 from shrui x (broadcast S16 16#32)) Finset.univ (View.stores_vmem_bits_univ h_S16 rfl) (.inl rfl))
  let _ ← Prog.lift (.load expM (Rect.unit (s := S49216) (e 3) S16.size (he 3)).toLoadRect (View.loadsAt_vmem h_S16))
  Prog.lift (.store expM (Rect.unit (s := S49216) (e 3) S16.size (he 3)) (show Vec F S16 .i32 from shrui x (broadcast S16 24#32)) Finset.univ (View.stores_vmem_bits_univ h_S16 rfl) (.inl rfl))

/-- A row of words expanded, sixteen words at a time. -/
def expandP (L : grid0.Coords) (o : Fin 8 → Fin 2 → ℕ) (h : ∀ j a, o j a + S1x16.size a ≤ S96x128.size a)
    (e : Fin 8 → Fin 4 → Fin 1 → ℕ) (he : ∀ j c a, e j c a + S16.size a ≤ S49216.size a) : TP (F := F) L PUnit := do
  bytesP L (o 0) (h 0) (e 0) (he 0)
  bytesP L (o 1) (h 1) (e 1) (he 1)
  bytesP L (o 2) (h 2) (e 2) (he 2)
  bytesP L (o 3) (h 3) (e 3) (he 3)
  bytesP L (o 4) (h 4) (e 4) (he 4)
  bytesP L (o 5) (h 5) (e 5) (he 5)
  bytesP L (o 6) (h 6) (e 6) (he 6)
  bytesP L (o 7) (h 7) (e 7) (he 7)
  pure ⟨⟩

def rows7 (a b : BitVec 32) (t : Fin (k0_t7_loop a b).trips) : Fin 8 → Fin 2 → ℕ :=
  ![k0_off12 a b t, k0_off14 a b t, k0_off15 a b t, k0_off16 a b t, k0_off17 a b t, k0_off18 a b t, k0_off19 a b t, k0_off20 a b t]
def rows8 (a b : BitVec 32) (t : Fin (k0_t8_loop a b).trips) : Fin 8 → Fin 2 → ℕ :=
  ![k0_off21 a b t, k0_off23 a b t, k0_off24 a b t, k0_off25 a b t, k0_off26 a b t, k0_off27 a b t, k0_off28 a b t, k0_off29 a b t]
theorem rows7_inb (a b : BitVec 32) (hw : k0_chk4 a b) (t : Fin (k0_t7_loop a b).trips) :
    ∀ j x, rows7 a b t j x + S1x16.size x ≤ S96x128.size x := by
  intro j
  match j with
  | 0 => exact k0_off12_inb a b hw t
  | 1 => exact k0_off14_inb a b hw t
  | 2 => exact k0_off15_inb a b hw t
  | 3 => exact k0_off16_inb a b hw t
  | 4 => exact k0_off17_inb a b hw t
  | 5 => exact k0_off18_inb a b hw t
  | 6 => exact k0_off19_inb a b hw t
  | 7 => exact k0_off20_inb a b hw t
theorem rows8_inb (a b : BitVec 32) (hw : k0_chk4 a b) (t : Fin (k0_t8_loop a b).trips) :
    ∀ j x, rows8 a b t j x + S1x16.size x ≤ S96x128.size x := by
  intro j
  match j with
  | 0 => exact k0_off21_inb a b hw t
  | 1 => exact k0_off23_inb a b hw t
  | 2 => exact k0_off24_inb a b hw t
  | 3 => exact k0_off25_inb a b hw t
  | 4 => exact k0_off26_inb a b hw t
  | 5 => exact k0_off27_inb a b hw t
  | 6 => exact k0_off28_inb a b hw t
  | 7 => exact k0_off29_inb a b hw t

/-- A token's scale, broadcast and narrowed. -/
def scaleP (L : grid0.Coords) (ln j : BitVec 32) : TP (F := F) L (FVec F S16 .bf16) := do
  have h : k0_chk5 (broadcast S16 (Scalar.addi ln j)) := (← Prog.lift (TpuEff.assume (k0_chk5 (broadcast S16 (Scalar.addi ln j))) (k0_chk5.dec _))).down
  let v : Vec F S16 .f32 ← SparseCore.vectorLoadIdx sclM ![broadcast S16 (Scalar.addi ln j)] (k0_idx3_inb _ h) (View.loads_vmem h_S128)
  pure (truncf .bf16 v bitsLt_bf16_f32)

/-- Half of a group's results, sent out. -/
def sendP (L : grid0.Coords) (o : Memref sig .scVector .hbm S8x2304 .f32) (ho : o.view.WordExact) (s : DmaSems sig S_) : TP (F := F) L PUnit := do
  Prog.lift (.enqueueDma outM (.here o) (.dma s.sem) outE ho ⟨Or.inl rfl, trivial⟩)
  Prog.lift (.waitDma2 s.sem outM o outE ho)

theorem out9_inb (t : Fin k0_t9_loop.trips) : ∀ (win : Fin 2) (r : Fin 8) (y : Fin 2), ∀ a,
    offW t r.val (BitVec.ofNat 32 win.val) (BitVec.ofNat 32 (16 * y.val)) a + S1x16.size a ≤ S8x2304.size a := by
  intro win r
  match win, r with
  | 0, 0 => exact k0_off30_inb t
  | 0, 1 => exact k0_off31_inb t
  | 0, 2 => exact k0_off32_inb t
  | 0, 3 => exact k0_off33_inb t
  | 0, 4 => exact k0_off34_inb t
  | 0, 5 => exact k0_off35_inb t
  | 0, 6 => exact k0_off36_inb t
  | 0, 7 => exact k0_off37_inb t
  | 1, 0 => exact k0_off38_inb t
  | 1, 1 => exact k0_off39_inb t
  | 1, 2 => exact k0_off40_inb t
  | 1, 3 => exact k0_off41_inb t
  | 1, 4 => exact k0_off42_inb t
  | 1, 5 => exact k0_off43_inb t
  | 1, 6 => exact k0_off44_inb t
  | 1, 7 => exact k0_off45_inb t
theorem out10_inb (t : Fin k0_t10_loop.trips) : ∀ (win : Fin 2) (r : Fin 8) (y : Fin 2), ∀ a,
    offW t r.val (BitVec.ofNat 32 win.val) (BitVec.ofNat 32 (16 * y.val)) a + S1x16.size a ≤ S8x2304.size a := out9_inb t

/-- The tile's group number, its first token, that token's row of its tile plane and its lane of its block. -/
abbrev widW (L : grid0.Coords) : BitVec 32 := Scalar.addi (Scalar.muli (BitVec.ofNat 32 (L 1).val) 2#32) (BitVec.ofNat 32 (L 0).val)
abbrev tokB (L : grid0.Coords) (g : ℕ) : BitVec 32 := Scalar.addi (Scalar.muli (widW L) 480#32) (Scalar.muli (tripW g) 8#32)
/-- A division that rounds down, as the kernel spells it. -/
abbrev sgnB (x : BitVec 32) : BitVec 32 := Scalar.subi (Scalar.extui (Scalar.cmpi .sgt x 0#32)) (Scalar.extui (Scalar.cmpi .slt x 0#32))
abbrev floorB (x d : BitVec 32) : BitVec 32 :=
  Scalar.select (Scalar.andi (Scalar.cmpi .ne (sgnB x) (sgnB d)) (Scalar.cmpi .ne (Scalar.remsi x d) 0#32)) (Scalar.subi (Scalar.divsi x d) 1#32) (Scalar.divsi x d)
abbrev rowB (L : grid0.Coords) (g : ℕ) : BitVec 32 := Scalar.subi (tokB L g) (Scalar.muli (floorB (tokB L g) 1536#32) 1536#32)
abbrev laneB (L : grid0.Coords) (g : ℕ) : BitVec 32 := Scalar.andi (rowB L g) 127#32
/-- The first window start rounded down to a chunk. -/
abbrev baseB (a : BitVec 32) : BitVec 32 := Scalar.andi a 4294963200#32

/-- The chunks of a span, started, awaited and expanded. -/
def spanP (L : grid0.Coords) (a b : BitVec 32) (hw : k0_chk4 a b) : TP (F := F) L PUnit := do
  Scf.Loop.for (k0_t3_loop a b) (k0_t3_ok a b hw) ⟨⟩ fun t _ => chunkP L (k0_off4 a b t) (k0_off4_inb a b hw t) (k0_off5 a b t) (k0_off5_inb a b hw t)
  Scf.Loop.for (k0_t4_loop a b) (k0_t4_ok a b hw) ⟨⟩ fun t _ => chunkP L (k0_off6 a b t) (k0_off6_inb a b hw t) (k0_off7 a b t) (k0_off7_inb a b hw t)
  Scf.Loop.for (k0_t5_loop a b) (k0_t5_ok a b hw) ⟨⟩ fun t _ => awaitP L (k0_off8 a b t) (k0_off8_inb a b hw t) (k0_off9 a b t) (k0_off9_inb a b hw t)
  Scf.Loop.for (k0_t6_loop a b) (k0_t6_ok a b hw) ⟨⟩ fun t _ => awaitP L (k0_off10 a b t) (k0_off10_inb a b hw t) (k0_off11 a b t) (k0_off11_inb a b hw t)
  Scf.Loop.for (k0_t7_loop a b) (k0_t7_ok a b hw) ⟨⟩ fun t _ => expandP L (rows7 a b t) (rows7_inb a b hw t)
    (fun j c => k0_off13 a b t (BitVec.ofNat 32 (128 * c.val)) (BitVec.ofNat 32 (16 * j.val))) (fun j c => k0_off13_inb a b hw t c j)
  Scf.Loop.for (k0_t8_loop a b) (k0_t8_ok a b hw) ⟨⟩ fun t _ => expandP L (rows8 a b t) (rows8_inb a b hw t)
    (fun j c => k0_off22 a b t (BitVec.ofNat 32 (128 * c.val)) (BitVec.ofNat 32 (16 * j.val))) (fun j c => k0_off22_inb a b hw t c j)

abbrev bitLo : IVec S16 32 := shli (broadcast S16 1#32) lanes16
abbrev bitHi : IVec S16 32 := shli (broadcast S16 1#32) (addi lanes16 (broadcast S16 16#32))
abbrev winV : IVec S16 32 := shrsi lanes16 (broadcast S16 3#32)
abbrev tokV : IVec S16 32 := andi lanes16 (broadcast S16 7#32)

/-- A half of the group's windows: thirty-six trips of two windows. -/
def halfP (L : grid0.Coords) (half : BitVec 32) (ln base : BitVec 32) (s : Fin 8 → FVec F S16 .bf16) : TP (F := F) L PUnit :=
  Scf.Loop.for k0_t9_loop k0_t9_ok ⟨⟩ fun t _ => do
    tripP L bitLo bitHi winV tokV ln base half s t (out9_inb t)
    pure ⟨⟩

/-- One group of eight tokens. -/
def groupP (L : grid0.Coords) (g : Fin k0_t2_loop.trips) : TP (F := F) L PUnit := do
  fetchP L g
  let a ← startP L 0#32 (laneB L g)
  let _ ← Prog.lift (TpuEff.assume (k0_chk3 a) (k0_chk3.dec a))
  let b ← startP L 143#32 (Scalar.subi (Scalar.addi (laneB L g) 8#32) 1#32)
  have hw : k0_chk4 a b := (← Prog.lift (TpuEff.assume (k0_chk4 a b) (k0_chk4.dec a b))).down
  spanP L a b hw
  let s0 ← scaleP L (laneB L g) 0#32
  let s1 ← scaleP L (laneB L g) 1#32
  let s2 ← scaleP L (laneB L g) 2#32
  let s3 ← scaleP L (laneB L g) 3#32
  let s4 ← scaleP L (laneB L g) 4#32
  let s5 ← scaleP L (laneB L g) 5#32
  let s6 ← scaleP L (laneB L g) 6#32
  let s7 ← scaleP L (laneB L g) 7#32
  halfP L 0#32 (laneB L g) (baseB a) ![s0, s1, s2, s3, s4, s5, s6, s7]
  sendP L (outA L g) ((View.wordExact_bits rfl).reshape _ _) cc0_scoped2
  halfP L 72#32 (laneB L g) (baseB a) ![s0, s1, s2, s3, s4, s5, s6, s7]
  sendP L (outB L g) ((View.wordExact_bits rfl).reshape _ _) cc0_scoped3
  pure ⟨⟩

/-- The whole kernel. -/
def kernelP (L : grid0.Coords) : TP (F := F) L PUnit := do
  Scf.Loop.for k0_t1_loop k0_t1_ok ⟨⟩ fun t _ => popP L t
  Scf.Loop.for k0_t2_loop k0_t2_ok ⟨⟩ fun g _ => groupP L g
  pure ⟨⟩

end Cert.Proof.Unpack
end
-- ==== Proof.Spec.lean ====
/-
  The pure facts of the decode: a window's mask bits, the rank of each element among the kept ones, its code;
  and what the kernel's vector expressions compute of them.
-/
module

public import proofs.«01_k».proof.Proof.Body

@[expose] public section

noncomputable section

namespace Cert.Proof.Unpack

open Cert.KernelIdeal Cert.KernelIdeal.Gen
open Idealize.ShloMosaic

variable {F : FTy → Type} [FloatOps F]

/-- Mask bit `e` of the window starting at byte `r`, the number of kept elements before `e`, and the code of element `e`. -/
def mbitE (E : ℕ → BitVec 8) (r e : ℕ) : Bool := (E (r + e / 8)).getLsbD (e % 8)
def bitsE (E : ℕ → BitVec 8) (r e : ℕ) : ℕ := if mbitE E r e then 1 else 0
def rankE (E : ℕ → BitVec 8) (r e : ℕ) : ℕ := ∑ i ∈ Finset.range e, bitsE E r i
def codeE (E : ℕ → BitVec 8) (r e : ℕ) : BitVec 8 := if mbitE E r e then E (r + 4 + rankE E r e) else 0#8

theorem bitsE_le (E : ℕ → BitVec 8) (r e : ℕ) : bitsE E r e ≤ 1 := by unfold bitsE; split <;> omega
theorem rankE_succ (E : ℕ → BitVec 8) (r e : ℕ) : rankE E r (e + 1) = rankE E r e + bitsE E r e := Finset.sum_range_succ _ _
theorem rankE_le (E : ℕ → BitVec 8) (r e : ℕ) : rankE E r e ≤ e := by
  induction e with
  | zero => simp [rankE]
  | succ e ih => rw [rankE_succ]; have := bitsE_le E r e; omega

/-- All of it reads only the bytes it is given, so bytes shifted along give the same codes. -/
theorem mbitE_shift (E E' : ℕ → BitVec 8) (b r : ℕ) (h : ∀ i, r ≤ i → i < r + 36 → E i = E' (b + i)) (e : ℕ) (he : e < 32) :
    mbitE E r e = mbitE E' (b + r) e := by
  unfold mbitE; rw [h _ (by omega) (by omega), Nat.add_assoc]
theorem rankE_shift (E E' : ℕ → BitVec 8) (b r : ℕ) (h : ∀ i, r ≤ i → i < r + 36 → E i = E' (b + i)) (e : ℕ) (he : e ≤ 32) :
    rankE E r e = rankE E' (b + r) e := by
  unfold rankE
  refine Finset.sum_congr rfl fun i hi => ?_
  unfold bitsE; rw [mbitE_shift E E' b r h i (by have := Finset.mem_range.1 hi; omega)]
theorem codeE_shift (E E' : ℕ → BitVec 8) (b r : ℕ) (h : ∀ i, r ≤ i → i < r + 36 → E i = E' (b + i)) (e : ℕ) (he : e < 32) :
    codeE E r e = codeE E' (b + r) e := by
  have h1 := rankE_le E r e
  unfold codeE; rw [mbitE_shift E E' b r h e he, h _ (by omega) (by omega), rankE_shift E E' b r h e (by omega)]
  congr 2; omega

/-- A lane of a vector of sixteen. -/
abbrev lane (k : ℕ) (hk : k < 16) : S16.Idx := fun | 0 => ⟨k, hk⟩
theorem lane_eta (x : S16.Idx) : ∃ k hk, x = lane k hk :=
  ⟨(x 0).val, (x 0).isLt, by funext a; obtain rfl : a = 0 := Subsingleton.elim _ _; rfl⟩

theorem laneAt_eq (x : IVec S16 32) (o : ℕ) (ho : S16.Slices ![o] S1) (h : o < 16) : laneAt x o ho = x (lane o h) := by
  show x _ = x _
  congr 1
  funext a
  obtain rfl : a = 0 := Subsingleton.elim _ _
  apply Fin.ext
  show _ + _ = o
  simp

/-- The running sum of a vector of small numbers. -/
theorem scan_sum (v : IVec S16 32) (a : ℕ → ℕ) (h : ∀ k hk, v (lane k hk) = BitVec.ofNat 32 (a k)) :
    ∀ k hk, scan .sum v (lane k hk) = BitVec.ofNat 32 (∑ j ∈ Finset.range (k + 1), a j) := by
  obtain ⟨u, hu, sc⟩ : ∃ u : Fin 16 → BitVec 32, (∀ k : Fin 16, u k = BitVec.ofNat 32 (a k.val)) ∧
      ∀ k hk, scan .sum v (lane k hk) = ((List.finRange 16).filter fun q : Fin 16 => decide (0 < q.val ∧ q.val ≤ k)).foldl (fun r q => r + u q) (u 0) :=
    ⟨fun q => v (Shape.ofLane (d := ![16]) q), fun k => by
      show v _ = _
      rw [← h k.val k.isLt]; congr 1; funext x; obtain rfl : x = 0 := Subsingleton.elim _ _; rfl, fun _ _ => rfl⟩
  intro k
  induction k with
  | zero =>
    intro hk
    have e : (List.finRange 16).filter (fun k : Fin 16 => decide (0 < k.val ∧ k.val ≤ 0)) = [] := by decide
    rw [sc, e, List.foldl_nil, hu]; simp
  | succ k ih =>
    intro hk
    have e : ∀ n : Fin 15, (List.finRange 16).filter (fun k : Fin 16 => decide (0 < k.val ∧ k.val ≤ n.val + 1))
        = (List.finRange 16).filter (fun k : Fin 16 => decide (0 < k.val ∧ k.val ≤ n.val)) ++ [(⟨n.val + 1, Nat.succ_lt_succ n.isLt⟩ : Fin 16)] := by decide
    have i := ih (by omega)
    rw [sc] at i
    rw [sc, e ⟨k, by omega⟩, List.foldl_append, i, Finset.sum_range_succ _ (k + 1), BitVec.ofNat_add, List.foldl_cons, List.foldl_nil, hu]

/-- The bits a half of a window's lanes test. -/
def BitsAt (bit : IVec S16 32) (s : ℕ) : Prop := ∀ k hk, bit (lane k hk) = BitVec.twoPow 32 (s + k)
theorem bitLo_at : BitsAt bitLo 0 := by
  have : ∀ k : Fin 16, bitLo (lane k.val k.isLt) = BitVec.twoPow 32 (0 + k.val) := by decide +kernel
  exact fun k hk => this ⟨k, hk⟩
theorem bitHi_at : BitsAt bitHi 16 := by
  have : ∀ k : Fin 16, bitHi (lane k.val k.isLt) = BitVec.twoPow 32 (16 + k.val) := by decide +kernel
  exact fun k hk => this ⟨k, hk⟩

theorem keepV_eq (bit : IVec S16 32) (s : ℕ) (hb : BitsAt bit s) (mk : BitVec 32) (k : ℕ) (hk : k < 16) (hs : s ≤ 16) :
    keepV bit mk (lane k hk) = BitVec.ofBool (mk.getLsbD (s + k)) := by
  show BitVec.ofBool (bit (lane k hk) &&& mk != 0#32) = _
  rw [hb k hk, BitVec.and_comm, BitVec.and_twoPow]
  by_cases h : mk.getLsbD (s + k)
  · rw [if_pos h, h]
    congr 1
    have : BitVec.twoPow 32 (s + k) ≠ 0#32 := by
      intro e
      have := congrArg BitVec.toNat e
      rw [BitVec.toNat_twoPow, Nat.mod_eq_of_lt (Nat.pow_lt_pow_right (by omega) (by omega))] at this
      simp at this
    simpa using this
  · rw [if_neg h]; simp at h; rw [h]; rfl

section half

variable (E : ℕ → BitVec 8) (r : ℕ) (bit : IVec S16 32) (s : ℕ) (hb : BitsAt bit s) (hs : s ≤ 16) (mk p : BitVec 32)
  (hm : ∀ e < 32, mk.getLsbD e = mbitE E r e) (hp : p.toNat = r + 4 + rankE E r s) (hr : r + 36 ≤ 49216)
include hb hs hm

theorem onesV_eq (k : ℕ) (hk : k < 16) : onesV bit mk (lane k hk) = BitVec.ofNat 32 (bitsE E r (s + k)) := by
  show Scalar.select (keepV bit mk (lane k hk)) 1#32 0#32 = _
  rw [keepV_eq bit s hb mk k hk hs, hm _ (by omega)]
  unfold bitsE Scalar.select
  cases mbitE E r (s + k) <;> rfl

theorem keep_eq (k : ℕ) (hk : k < 16) : keepV bit mk (lane k hk) = BitVec.ofBool (mbitE E r (s + k)) := by
  rw [keepV_eq bit s hb mk k hk hs, hm _ (by omega)]

theorem rank_split (k : ℕ) : rankE E r (s + k) = rankE E r s + ∑ j ∈ Finset.range k, bitsE E r (s + j) := by
  unfold rankE; exact Finset.sum_range_add _ _ _

include hp hr
theorem idxV_toNat (k : ℕ) (hk : k < 16) : (idxV bit mk p (lane k hk)).toNat = r + 4 + rankE E r (s + k) := by
  have h1 := scan_sum (onesV bit mk) (fun j => bitsE E r (s + j)) (fun k hk => onesV_eq E r bit s hb hs mk hm k hk) k hk
  show (p + scan .sum (onesV bit mk) (lane k hk) - onesV bit mk (lane k hk)).toNat = _
  rw [h1, onesV_eq E r bit s hb hs mk hm k hk, Finset.sum_range_succ, rank_split E r bit s hb hs mk hm k]
  have h2 := rankE_le E r (s + k)
  rw [rank_split E r bit s hb hs mk hm k] at h2
  have h3 := bitsE_le E r (s + k)
  generalize ∑ j ∈ Finset.range k, bitsE E r (s + j) = A at *
  have e : p + BitVec.ofNat 32 (A + bitsE E r (s + k)) - BitVec.ofNat 32 (bitsE E r (s + k)) = p + BitVec.ofNat 32 A := by
    rw [BitVec.ofNat_add, ← BitVec.add_assoc, BitVec.add_sub_cancel]
  rw [e, BitVec.toNat_add, hp, BitVec.toNat_ofNat]
  omega

theorem idxV_lt (x : S16.Idx) : (idxV bit mk p x).toNat < 49216 := by
  obtain ⟨k, hk, rfl⟩ := lane_eta x
  rw [idxV_toNat E r bit s hb hs mk p hm hp hr]
  have := rankE_le E r (s + k)
  omega

/-- What a half of a window's lanes hold: the codes. -/
theorem half_code (f : ℕ → BitVec 32) (hf : ∀ i, r ≤ i → i < r + 36 → (f i).setWidth 8 = E i) (k : ℕ) (hk : k < 16) :
    (select (keepV bit mk) (fun x => f (idxV bit mk p x).toNat) (broadcast S16 0#32) (lane k hk)).setWidth 8 = codeE E r (s + k) := by
  show (Scalar.select (keepV bit mk (lane k hk)) (f (idxV bit mk p (lane k hk)).toNat) 0#32).setWidth 8 = _
  rw [keep_eq E r bit s hb hs mk hm, idxV_toNat E r bit s hb hs mk p hm hp hr]
  have := rankE_le E r (s + k)
  unfold codeE Scalar.select
  cases mbitE E r (s + k)
  · rfl
  · exact hf _ (by omega) (by omega)

end half

/-- The set bits of a byte, and the table of them. -/
def popC (n : ℕ) : ℕ := ∑ j ∈ Finset.range 8, if n.testBit j then 1 else 0

theorem popC_le (n : ℕ) : popC n ≤ 8 := by
  unfold popC
  calc _ ≤ ∑ j ∈ Finset.range 8, 1 := Finset.sum_le_sum fun i _ => by split <;> omega
    _ = 8 := by simp

theorem popC_byte (E : ℕ → BitVec 8) (r : ℕ) : popC (E r).toNat + popC (E (r + 1)).toNat = rankE E r 16 := by
  unfold rankE
  rw [show (16 : ℕ) = 8 + 8 from rfl, Finset.sum_range_add]
  unfold popC
  refine congrArg₂ (· + ·) (Finset.sum_congr rfl fun i hi => ?_) (Finset.sum_congr rfl fun i hi => ?_) <;>
    have := Finset.mem_range.1 hi <;> unfold bitsE mbitE
  · rw [show i / 8 = 0 by omega, show i % 8 = i by omega, Nat.add_zero]; simp [BitVec.getLsbD]
  · rw [show (8 + i) / 8 = 1 by omega, show (8 + i) % 8 = i by omega]; simp [BitVec.getLsbD]

theorem byteX_toNat (t k : ℕ) (ht : t < 16) (hk : k < 16) : (byteX t (lane k hk)).toNat = 16 * t + k := by
  have : ∀ t k : Fin 16, (byteX t.val (lane k.val k.isLt)).toNat = 16 * t.val + k.val := by decide +kernel
  exact this ⟨t, ht⟩ ⟨k, hk⟩

theorem pop_table (t k : ℕ) (ht : t < 16) (hk : k < 16) :
    shli (cntV (byteX t)) (broadcast S16 20#32) (lane k hk) = BitVec.ofNat 32 (popC (16 * t + k) * 2 ^ 20) := by
  have : ∀ t k : Fin 16, shli (cntV (byteX t.val)) (broadcast S16 20#32) (lane k.val k.isLt) = BitVec.ofNat 32 (popC (16 * t.val + k.val) * 2 ^ 20) := by
    decide +kernel
  exact this ⟨t, ht⟩ ⟨k, hk⟩

/-- The packed word (position, count of the low half) taken apart. -/
theorem posLo_eq (p : BitVec 32) (r c : ℕ) (hp : p.toNat = r + c * 2 ^ 20) (hr : r + 36 ≤ 49216) (hc : c ≤ 16) : (posLo p).toNat = r + 4 := by
  show ((p &&& 1048575#32) + 4#32).toNat = _
  have e : (p &&& 1048575#32).toNat = r := by
    rw [BitVec.toNat_and, hp, show (1048575#32).toNat = 2 ^ 20 - 1 from rfl, Nat.and_two_pow_sub_one_eq_mod]; omega
  rw [BitVec.toNat_add, e]
  show (r + 4) % 2 ^ 32 = _
  omega

theorem posHi_eq (p : BitVec 32) (r c : ℕ) (hp : p.toNat = r + c * 2 ^ 20) (hr : r + 36 ≤ 49216) (hc : c ≤ 16) : (posHi p).toNat = r + 4 + c := by
  have e : Scalar.shrsi p 20#32 = BitVec.ofNat 32 c := by
    unfold Scalar.shrsi IntOp.shrsi
    rw [if_pos (show (20#32).toNat < 32 by decide), BitVec.sshiftRight']
    apply BitVec.eq_of_toNat_eq
    rw [BitVec.toNat_sshiftRight_of_msb_false (by rw [BitVec.msb_eq_false_iff_two_mul_lt, hp]; omega), hp, Nat.shiftRight_eq_div_pow]
    show _ / 2 ^ 20 = _
    rw [BitVec.toNat_ofNat]; omega
  show (posLo p + Scalar.shrsi p 20#32).toNat = _
  rw [e, BitVec.toNat_add, posLo_eq p r c hp hr hc, BitVec.toNat_ofNat]; omega

/-- Four bytes put together, bit by bit. -/
theorem mask_bit (x0 x1 x2 x3 : BitVec 32) (E : ℕ → BitVec 8) (r : ℕ)
    (h0 : x0 = (E r).setWidth 32) (h1 : x1 = (E (r + 1)).setWidth 32) (h2 : x2 = (E (r + 2)).setWidth 32) (h3 : x3 = (E (r + 3)).setWidth 32)
    (e : ℕ) (he : e < 32) :
    (x0 ||| x1 <<< 8 ||| x2 <<< 16 ||| x3 <<< 24).getLsbD e = mbitE E r e := by
  subst h0 h1 h2 h3
  unfold mbitE
  simp only [BitVec.getLsbD_or, BitVec.getLsbD_shiftLeft, BitVec.getLsbD_setWidth]
  have hz : ∀ (b : BitVec 8) (i : ℕ), 8 ≤ i → b.getLsbD i = false := fun b i h => BitVec.getLsbD_of_ge _ _ h
  rcases (by omega : e < 8 ∨ (8 ≤ e ∧ e < 16) ∨ (16 ≤ e ∧ e < 24) ∨ (24 ≤ e)) with h | h | h | h
  · rw [show e / 8 = 0 by omega, show e % 8 = e by omega]
    simp [he, h, show e < 16 by omega, show e < 24 by omega]
  · rw [show e / 8 = 1 by omega, show e % 8 = e - 8 by omega, hz _ e (by omega)]
    simp [he, show ¬ e < 8 by omega, show e < 16 by omega, show e < 24 by omega, show e - 8 < 32 by omega]
  · rw [show e / 8 = 2 by omega, show e % 8 = e - 16 by omega, hz _ e (by omega), hz _ (e - 8) (by omega)]
    simp [he, show ¬ e < 16 by omega, show e < 24 by omega, show e - 16 < 32 by omega]
  · rw [show e / 8 = 3 by omega, show e % 8 = e - 24 by omega, hz _ e (by omega), hz _ (e - 8) (by omega), hz _ (e - 16) (by omega)]
    simp [he, show ¬ e < 24 by omega, show e - 24 < 32 by omega]

theorem byte_of (y : BitVec 32) (b : BitVec 8) (h : y.setWidth 8 = b) : y &&& 255#32 = b.setWidth 32 := by
  subst h
  apply BitVec.eq_of_toNat_eq
  rw [BitVec.toNat_and, show (255#32).toNat = 2 ^ 8 - 1 from rfl, Nat.and_two_pow_sub_one_eq_mod, BitVec.toNat_setWidth, BitVec.toNat_setWidth]
  omega

end Cert.Proof.Unpack
end
-- ==== Proof.Rules.lean ====
/-
  One rule per memory step of the kernel's tile: a gather, a load, a store of each scratch, over the scratch's
  contents read as functions of natural numbers.
-/
module

public import proofs.«01_k».proof.Proof.Spec
public import Idealize.ShloMosaic.Lib.SparseCore.Ops
public import Idealize.ShloMosaic.Lib.Transfers

@[expose] public section

noncomputable section

namespace Cert.Proof.Unpack

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UH : Type := URounds (GSem nD τ sig) ℕ
abbrev UU : Type := UH × Counters

local notation "𝕄" => MT nD τ sig (HIx 1) (Elt F) ℕ UU ℕ

abbrev 𝒱₀ : Variants := Variants.none
abbrev cV (L : grid0.Coords) : Fin τ.nSC := (L 0).castLE hcore0
abbrev jV (L : grid0.Coords) : Fin τ.nSub := (L 1).castLE hsub0

variable (d : Dev nD) (L : grid0.Coords)

/-- The weakest precondition of a program of the tile. -/
abbrev WP {α : Type} (p : TP (F := F) L α) (Q : α → sProp 𝕄) : sProp 𝕄 :=
  wp frame (wpE (defs₀ (F := F)) 𝒱₀ (V d (cV L) (jV L)) none) Set.univ p Q

/-- A tile's scratch, as locations and as assertions. -/
abbrev rawL : Loc nD τ sig := (V d (cV L) (jV L)).loc cc0_scratch0
abbrev expL : Loc nD τ sig := (V d (cV L) (jV L)).loc cc0_scratch1
abbrev offL : Loc nD τ sig := (V d (cV L) (jV L)).loc cc0_scratch2
abbrev sclL : Loc nD τ sig := (V d (cV L) (jV L)).loc cc0_scratch3
abbrev popL : Loc nD τ sig := (V d (cV L) (jV L)).loc cc0_scratch4
abbrev outL : Loc nD τ sig := (V d (cV L) (jV L)).loc cc0_scratch5

/-- Contents, as functions of natural numbers. -/
def expN (f : S49216.Idx → BitVec 32) (n : ℕ) : BitVec 32 := if h : n < 49216 then f (fun | 0 => ⟨n, h⟩) else 0#32
def popN (f : S256.Idx → BitVec 32) (n : ℕ) : BitVec 32 := if h : n < 256 then f (fun | 0 => ⟨n, h⟩) else 0#32
def offN (f : S144x128.Idx → BitVec 32) (w l : ℕ) : BitVec 32 :=
  if h : w < 144 ∧ l < 128 then f (fun | 0 => ⟨w, h.1⟩ | 1 => ⟨l, h.2⟩) else 0#32
def rawN (f : S96x128.Idx → BitVec 32) (r l : ℕ) : BitVec 32 :=
  if h : r < 96 ∧ l < 128 then f (fun | 0 => ⟨r, h.1⟩ | 1 => ⟨l, h.2⟩) else 0#32

theorem wp_gexp {α : Type} (v : IVec S16 32) (hv : ∀ x, (v x).toNat < 49216) (f : S49216.Idx → BitVec 32)
    (k : Vec F S16 .i32 → TP (F := F) L α) (Q : α → sProp 𝕄) :
    (expL d L ↦{fullShare} f : sProp 𝕄) ⊢ iprop(((expL d L ↦{fullShare} f) -∗ WP d L (k (fun x => expN f (v x).toNat)) Q) -∗ WP d L (gexp L v >>= k) Q) := by
  have h : k0_chk20 v := fun a x => by
    obtain rfl : a = 0 := Subsingleton.elim _ _
    exact hv x
  have e : (fun x => expN f (v x).toNat) = loadIdx (F := F) (((expM).access (.whole S49216)).read (Elt F) f) ![v] (k0_idx18_inb v h) := by
    funext x
    show (if h : (v x).toNat < 49216 then f (fun | 0 => ⟨(v x).toNat, h⟩) else 0#32) = _
    rw [dif_pos (hv x)]
    show f _ = f _
    congr 1
    funext a
    obtain rfl : a = 0 := Subsingleton.elim _ _
    apply Fin.ext
    show _ = 0 + 1 * _
    simp [idxAt]
  rw [e]
  show _ ⊢ iprop(_ -∗ wp frame (wpE (defs₀ (F := F)) 𝒱₀ (V d (cV L) (jV L)) none) Set.univ
    (.op (.assume (k0_chk20 v) (k0_chk20.dec v)) fun h => SparseCore.vectorLoadIdx expM ![v] (k0_idx18_inb v h.down) (View.loads_vmem h_S49216) >>= k) Q)
  rw [wp_assume_of _ _ _ _ h]
  exact SparseCore.wp_vectorLoadIdx 𝒱₀ (V d (cV L) (jV L)) none Set.univ (base := expM) (S := Finset.univ) (q := fullShare) (Finset.subset_univ _)

theorem wp_goff {α : Type} (a b : IVec S16 32) (ha : ∀ x, (a x).toNat < 144) (hb : ∀ x, (b x).toNat < 128) (f : S144x128.Idx → BitVec 32)
    (h : ∀ c x, ((![a, b] : Fin 2 → IVec S16 32) c x).toNat < S144x128.size c)
    (k : Vec F S16 .i32 → TP (F := F) L α) (Q : α → sProp 𝕄) :
    (offL d L ↦{fullShare} f : sProp 𝕄) ⊢ iprop(((offL d L ↦{fullShare} f) -∗ WP d L (k (fun x => offN f (a x).toNat (b x).toNat)) Q)
      -∗ WP d L (SparseCore.vectorLoadIdx offM ![a, b] h (View.loads_vmem h_S144x128) >>= k) Q) := by
  have e : (fun x => offN f (a x).toNat (b x).toNat) = loadIdx (F := F) (((offM).access (.whole S144x128)).read (Elt F) f) ![a, b] h := by
    funext x
    show (if h : (a x).toNat < 144 ∧ (b x).toNat < 128 then f (fun | 0 => ⟨(a x).toNat, h.1⟩ | 1 => ⟨(b x).toNat, h.2⟩) else 0#32) = _
    rw [dif_pos ⟨ha x, hb x⟩]
    show f _ = f _
    congr 1
    funext c
    apply Fin.ext
    match c with
    | 0 => show _ = 0 + 1 * _; simp [idxAt]
    | 1 => show _ = 0 + 1 * _; simp [idxAt]
  rw [e]
  exact SparseCore.wp_vectorLoadIdx 𝒱₀ (V d (cV L) (jV L)) none Set.univ (base := offM) (S := Finset.univ) (q := fullShare) (Finset.subset_univ _)

theorem wp_gpop {α : Type} (a : IVec S16 32) (ha : ∀ x, (a x).toNat < 256) (f : S256.Idx → BitVec 32)
    (h : ∀ c x, ((![a] : Fin 1 → IVec S16 32) c x).toNat < S256.size c)
    (k : Vec F S16 .i32 → TP (F := F) L α) (Q : α → sProp 𝕄) :
    (popL d L ↦{fullShare} f : sProp 𝕄) ⊢ iprop(((popL d L ↦{fullShare} f) -∗ WP d L (k (fun x => popN f (a x).toNat)) Q)
      -∗ WP d L (SparseCore.vectorLoadIdx popM ![a] h (View.loads_vmem h_S256) >>= k) Q) := by
  have e : (fun x => popN f (a x).toNat) = loadIdx (F := F) (((popM).access (.whole S256)).read (Elt F) f) ![a] h := by
    funext x
    show (if h : (a x).toNat < 256 then f (fun | 0 => ⟨(a x).toNat, h⟩) else 0#32) = _
    rw [dif_pos (ha x)]
    show f _ = f _
    congr 1
    funext c
    obtain rfl : c = 0 := Subsingleton.elim _ _
    apply Fin.ext
    show _ = 0 + 1 * _; simp [idxAt]
  rw [e]
  exact SparseCore.wp_vectorLoadIdx 𝒱₀ (V d (cV L) (jV L)) none Set.univ (base := popM) (S := Finset.univ) (q := fullShare) (Finset.subset_univ _)

def sclN (f : S128.Idx → F .f32) (l : ℕ) : F .f32 := if h : l < 128 then f (fun | 0 => ⟨l, h⟩) else f (fun | 0 => ⟨0, by decide⟩)

theorem wp_gscl {α : Type} (a : IVec S16 32) (ha : ∀ x, (a x).toNat < 128) (f : S128.Idx → F .f32)
    (h : ∀ c x, ((![a] : Fin 1 → IVec S16 32) c x).toNat < S128.size c)
    (k : Vec F S16 .f32 → TP (F := F) L α) (Q : α → sProp 𝕄) :
    (sclL d L ↦{fullShare} f : sProp 𝕄) ⊢ iprop(((sclL d L ↦{fullShare} f) -∗ WP d L (k (fun x => sclN f (a x).toNat)) Q)
      -∗ WP d L (SparseCore.vectorLoadIdx sclM ![a] h (View.loads_vmem h_S128) >>= k) Q) := by
  have e : (fun x => sclN f (a x).toNat) = loadIdx (F := F) (((sclM).access (.whole S128)).read (Elt F) f) ![a] h := by
    funext x
    show (if h : (a x).toNat < 128 then f (fun | 0 => ⟨(a x).toNat, h⟩) else _) = _
    rw [dif_pos (ha x)]
    show f _ = f _
    congr 1
    funext c
    obtain rfl : c = 0 := Subsingleton.elim _ _
    apply Fin.ext
    show _ = 0 + 1 * _; simp [idxAt]
  rw [e]
  exact SparseCore.wp_vectorLoadIdx 𝒱₀ (V d (cV L) (jV L)) none Set.univ (base := sclM) (S := Finset.univ) (q := fullShare) (Finset.subset_univ _)

/-- What a store of sixteen words leaves, element by element. -/
theorem write_out (off : Fin 2 → ℕ) (hoff : ∀ a, off a + S1x16.size a ≤ S8x2304.size a) (g : S8x2304.Idx → F .f32) (w : S1x16.Idx → F .f32)
    (v : ℕ → F .f32) (hv : ∀ x : S1x16.Idx, w x = v (x 1).val) (i : S8x2304.Idx) :
    ((outM).access (Rect.unit (s := S8x2304) off S1x16.size hoff)).write (Elt F) g w Finset.univ i
      = if (i 0).val = off 0 ∧ off 1 ≤ (i 1).val ∧ (i 1).val < off 1 + 16 then v ((i 1).val - off 1) else g i := by
  split
  · rename_i h
    let x : S1x16.Idx := fun | 0 => ⟨0, by decide⟩ | 1 => ⟨(i 1).val - off 1, show _ < 16 by omega⟩
    have e : ((outM).access (Rect.unit (s := S8x2304) off S1x16.size hoff)).emb x = i := by
      funext a
      apply Fin.ext
      match a with
      | 0 => show off 0 + 1 * 0 = (i 0).val; omega
      | 1 => show off 1 + 1 * ((i 1).val - off 1) = (i 1).val; omega
    have := View.write_emb_of_mem (Val := Elt F) (v := (outM).access (Rect.unit (s := S8x2304) off S1x16.size hoff)) g w (Finset.mem_univ x)
    rw [e] at this
    rw [this]
    exact hv x
  · rename_i h
    refine View.write_of_not_mem _ _ _ (fun hi => h ?_)
    obtain ⟨x, -, rfl⟩ := Finset.mem_map.mp hi
    have h0 : (x 0).val < 1 := (x 0).isLt
    have h1 : (x 1).val < 16 := (x 1).isLt
    refine ⟨?_, ?_, ?_⟩
    · show off 0 + 1 * (x 0).val = _; omega
    · show _ ≤ off 1 + 1 * (x 1).val; omega
    · show off 1 + 1 * (x 1).val < _; omega

theorem write_exp (off : Fin 1 → ℕ) (hoff : ∀ a, off a + S16.size a ≤ S49216.size a) (g : S49216.Idx → BitVec 32) (w : S16.Idx → BitVec 32)
    (n : ℕ) :
    expN (((expM).access (Rect.unit (s := S49216) off S16.size hoff)).write (Elt F) g w Finset.univ) n
      = if h : off 0 ≤ n ∧ n < off 0 + 16 then w (lane (n - off 0) (by have := h.1; have := h.2; omega)) else expN g n := by
  have hb := hoff 0
  change off 0 + 16 ≤ 49216 at hb
  unfold expN
  split
  · rename_i hn
    split
    · rename_i h
      let x : S16.Idx := lane (n - off 0) (by omega)
      have e : ((expM).access (Rect.unit (s := S49216) off S16.size hoff)).emb x = (fun | 0 => ⟨n, hn⟩) := by
        funext a
        apply Fin.ext
        match a with
        | 0 => show off 0 + 1 * (n - off 0) = n; omega
      have := View.write_emb_of_mem (Val := Elt F) (v := (expM).access (Rect.unit (s := S49216) off S16.size hoff)) g w (Finset.mem_univ x)
      rw [e] at this
      refine Eq.trans ?_ (this.trans (cast_eq _ _))
      congr 1
      funext a
      match a with
      | 0 => rfl
    · rename_i h
      refine View.write_of_not_mem _ _ _ (fun hi => h ?_)
      obtain ⟨x, -, hx⟩ := Finset.mem_map.mp hi
      have h1 : (x 0).val < 16 := (x 0).isLt
      have h2 : off 0 + 1 * (x 0).val = n := congrArg (fun i : S49216.Idx => (i 0).val) hx
      omega
  · rename_i hn
    rw [dif_neg (by omega)]

theorem write_pop (off : Fin 1 → ℕ) (hoff : ∀ a, off a + S16.size a ≤ S256.size a) (g : S256.Idx → BitVec 32) (w : S16.Idx → BitVec 32)
    (n : ℕ) :
    popN (((popM).access (Rect.unit (s := S256) off S16.size hoff)).write (Elt F) g w Finset.univ) n
      = if h : off 0 ≤ n ∧ n < off 0 + 16 then w (lane (n - off 0) (by have := h.1; have := h.2; omega)) else popN g n := by
  have hb := hoff 0
  change off 0 + 16 ≤ 256 at hb
  unfold popN
  split
  · rename_i hn
    split
    · rename_i h
      let x : S16.Idx := lane (n - off 0) (by omega)
      have e : ((popM).access (Rect.unit (s := S256) off S16.size hoff)).emb x = (fun | 0 => ⟨n, hn⟩) := by
        funext a
        apply Fin.ext
        match a with
        | 0 => show off 0 + 1 * (n - off 0) = n; omega
      have := View.write_emb_of_mem (Val := Elt F) (v := (popM).access (Rect.unit (s := S256) off S16.size hoff)) g w (Finset.mem_univ x)
      rw [e] at this
      refine Eq.trans ?_ (this.trans (cast_eq _ _))
      congr 1
      funext a
      match a with
      | 0 => rfl
    · rename_i h
      refine View.write_of_not_mem _ _ _ (fun hi => h ?_)
      obtain ⟨x, -, hx⟩ := Finset.mem_map.mp hi
      have h1 : (x 0).val < 16 := (x 0).isLt
      have h2 : off 0 + 1 * (x 0).val = n := congrArg (fun i : S256.Idx => (i 0).val) hx
      omega
  · rename_i hn
    rw [dif_neg (by omega)]

theorem wp_sout' {α : Type} (off : Fin 2 → ℕ) (hoff : ∀ a, off a + S1x16.size a ≤ S8x2304.size a) (w : Vec F S1x16 .f32) (g : S8x2304.Idx → F .f32)
    (k : PUnit → TP (F := F) L α) (Q : α → sProp 𝕄) (hx : _) (hm) :
    (((outM).access (Rect.unit (s := S8x2304) off S1x16.size hoff)).loc (V d (cV L) (jV L)) ↦[Finset.univ]{fullShare} g : sProp 𝕄)
      ⊢ iprop(((((outM).access (Rect.unit (s := S8x2304) off S1x16.size hoff)).loc (V d (cV L) (jV L)) ↦[Finset.univ]{fullShare} ((outM).access (Rect.unit (s := S8x2304) off S1x16.size hoff)).write (Elt F) g w Finset.univ)
        -∗ WP d L (k ⟨⟩) Q)
      -∗ WP d L (.op (.store outM (Rect.unit (s := S8x2304) off S1x16.size hoff) w Finset.univ hx hm) k) Q) :=
  wp_store 𝒱₀ (V d (cV L) (jV L)) none Set.univ (m := outM) (S := Finset.univ) (Finset.subset_univ _)

theorem wp_sout {α : Type} (off : Fin 2 → ℕ) (hoff : ∀ a, off a + S1x16.size a ≤ S8x2304.size a) (w : Vec F S1x16 .f32) (g : S8x2304.Idx → F .f32)
    (k : PUnit → TP (F := F) L α) (Q : α → sProp 𝕄) :
    (outL d L ↦{fullShare} g : sProp 𝕄)
      ⊢ iprop(((outL d L ↦{fullShare} ((outM).access (Rect.unit (s := S8x2304) off S1x16.size hoff)).write (Elt F) g w Finset.univ) -∗ WP d L (k ⟨⟩) Q)
      -∗ WP d L (.op (.store outM (Rect.unit (s := S8x2304) off S1x16.size hoff) w Finset.univ (View.stores_vmem_bits_univ h_S1x16 rfl) (.inl rfl)) k) Q) :=
  wp_sout' d L off hoff w g k Q _ _

theorem wp_sexp' {α : Type} (off : Fin 1 → ℕ) (hoff : ∀ a, off a + S16.size a ≤ S49216.size a) (w : Vec F S16 .i32) (g : S49216.Idx → BitVec 32)
    (k : PUnit → TP (F := F) L α) (Q : α → sProp 𝕄) (hx : _) (hm) :
    (((expM).access (Rect.unit (s := S49216) off S16.size hoff)).loc (V d (cV L) (jV L)) ↦[Finset.univ]{fullShare} g : sProp 𝕄)
      ⊢ iprop(((((expM).access (Rect.unit (s := S49216) off S16.size hoff)).loc (V d (cV L) (jV L)) ↦[Finset.univ]{fullShare} ((expM).access (Rect.unit (s := S49216) off S16.size hoff)).write (Elt F) g w Finset.univ)
        -∗ WP d L (k ⟨⟩) Q)
      -∗ WP d L (.op (.store expM (Rect.unit (s := S49216) off S16.size hoff) w Finset.univ hx hm) k) Q) :=
  wp_store 𝒱₀ (V d (cV L) (jV L)) none Set.univ (m := expM) (S := Finset.univ) (Finset.subset_univ _)

theorem wp_sexp {α : Type} (off : Fin 1 → ℕ) (hoff : ∀ a, off a + S16.size a ≤ S49216.size a) (w : Vec F S16 .i32) (g : S49216.Idx → BitVec 32)
    (k : PUnit → TP (F := F) L α) (Q : α → sProp 𝕄) :
    (expL d L ↦{fullShare} g : sProp 𝕄)
      ⊢ iprop(((expL d L ↦{fullShare} ((expM).access (Rect.unit (s := S49216) off S16.size hoff)).write (Elt F) g w Finset.univ) -∗ WP d L (k ⟨⟩) Q)
      -∗ WP d L (.op (.store expM (Rect.unit (s := S49216) off S16.size hoff) w Finset.univ (View.stores_vmem_bits_univ h_S16 rfl) (.inl rfl)) k) Q) :=
  wp_sexp' d L off hoff w g k Q _ _

theorem wp_spop' {α : Type} (off : Fin 1 → ℕ) (hoff : ∀ a, off a + S16.size a ≤ S256.size a) (w : Vec F S16 .i32) (g : S256.Idx → BitVec 32)
    (k : PUnit → TP (F := F) L α) (Q : α → sProp 𝕄) (hx : _) (hm) :
    (((popM).access (Rect.unit (s := S256) off S16.size hoff)).loc (V d (cV L) (jV L)) ↦[Finset.univ]{fullShare} g : sProp 𝕄)
      ⊢ iprop(((((popM).access (Rect.unit (s := S256) off S16.size hoff)).loc (V d (cV L) (jV L)) ↦[Finset.univ]{fullShare} ((popM).access (Rect.unit (s := S256) off S16.size hoff)).write (Elt F) g w Finset.univ)
        -∗ WP d L (k ⟨⟩) Q)
      -∗ WP d L (.op (.store popM (Rect.unit (s := S256) off S16.size hoff) w Finset.univ hx hm) k) Q) :=
  wp_store 𝒱₀ (V d (cV L) (jV L)) none Set.univ (m := popM) (S := Finset.univ) (Finset.subset_univ _)

theorem wp_spop {α : Type} (off : Fin 1 → ℕ) (hoff : ∀ a, off a + S16.size a ≤ S256.size a) (w : Vec F S16 .i32) (g : S256.Idx → BitVec 32)
    (k : PUnit → TP (F := F) L α) (Q : α → sProp 𝕄) :
    (popL d L ↦{fullShare} g : sProp 𝕄)
      ⊢ iprop(((popL d L ↦{fullShare} ((popM).access (Rect.unit (s := S256) off S16.size hoff)).write (Elt F) g w Finset.univ) -∗ WP d L (k ⟨⟩) Q)
      -∗ WP d L (.op (.store popM (Rect.unit (s := S256) off S16.size hoff) w Finset.univ (View.stores_vmem_bits_univ h_S16 rfl) (.inl rfl)) k) Q) :=
  wp_spop' d L off hoff w g k Q _ _

/-- A row's sixteen words, as a load reads them. -/
theorem read_raw (off : Fin 2 → ℕ) (hoff : ∀ a, off a + S1x16.size a ≤ S96x128.size a) (f : S96x128.Idx → BitVec 32) (x : S1x16.Idx) :
    View.readAt (Elt F) (rawM).view (Rect.unit (s := S96x128) off S1x16.size hoff).toLoadRect f x = rawN f (off 0) (off 1 + (x 1).val) := by
  have h0 := hoff 0; have h1 := hoff 1
  change off 0 + 1 ≤ 96 at h0; change off 1 + 16 ≤ 128 at h1
  have hx0 : (x 0).val < 1 := (x 0).isLt
  have hx1 : (x 1).val < 16 := (x 1).isLt
  unfold rawN
  rw [dif_pos ⟨by omega, by omega⟩]
  show f _ = f _
  congr 1
  funext a
  apply Fin.ext
  match a with
  | 0 => show off 0 + 1 * (x 0).val = off 0; omega
  | 1 => show off 1 + 1 * (x 1).val = off 1 + (x 1).val; omega

end Cert.Proof.Unpack
end
-- ==== Proof.Decode.lean ====
/-
  One trip of a decode loop: the sixteen (window, token) pairs it reads become the results of two windows of
  eight tokens, and nothing else of the result block changes.
-/
module

public import proofs.«01_k».proof.Proof.Rules

@[expose] public section

noncomputable section

namespace Cert.Proof.Unpack

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The value of one code at one scale. -/
def valB (b : BitVec 8) (s : F .bf16) : F .f32 :=
  FloatOps.extf .f32 bitsLt_bf16_f32 (FloatOps.mulf (FloatOps.extf .bf16 bitsLt_fp8e4m3_bf16 (FloatOps.ofBits .fp8e4m3 b)) s)

/-- Where a window starts, in the expanded bytes. -/
def relOf (fo : S144x128.Idx → BitVec 32) (base : BitVec 32) (ln w j : ℕ) : ℕ := (offN fo w (ln + j) - base).toNat

/-- What the decode of a group relies on. -/
structure DecOk (fo : S144x128.Idx → BitVec 32) (fe : S49216.Idx → BitVec 32) (fp : S256.Idx → BitVec 32) (lnB base : BitVec 32) (E : ℕ → BitVec 8) : Prop where
  ln : lnB.toNat + 8 ≤ 128
  pop : ∀ x < 256, popN fp x = BitVec.ofNat 32 (popC x * 2 ^ 20)
  rel : ∀ w < 144, ∀ j < 8, relOf fo base lnB.toNat w j + 36 ≤ 49216
  exp : ∀ w < 144, ∀ j < 8, ∀ i, relOf fo base lnB.toNat w j ≤ i → i < relOf fo base lnB.toNat w j + 36 → (expN fe i).setWidth 8 = E i

/-- The four masks and packed words of a trip are those of its sixteen windows. -/
def MaskOk (E : ℕ → BitVec 8) (R : ℕ → ℕ) (m p : IVec S16 32) : Prop :=
  ∀ k hk, R k + 36 ≤ 49216 ∧ (∀ e < 32, (m (lane k hk)).getLsbD e = mbitE E (R k) e) ∧ (p (lane k hk)).toNat = R k + rankE E (R k) 16 * 2 ^ 20

variable (d : Dev nD) (L : grid0.Coords)

/-- What a decode loop holds. -/
def St (fo : S144x128.Idx → BitVec 32) (fe : S49216.Idx → BitVec 32) (fp : S256.Idx → BitVec 32) (g : S8x2304.Idx → F .f32) : sProp 𝕄 :=
  iprop((offL d L ↦{fullShare} fo) ∗ (expL d L ↦{fullShare} fe) ∗ (popL d L ↦{fullShare} fp) ∗ (outL d L ↦{fullShare} g))

section

variable {d L}
variable {fo : S144x128.Idx → BitVec 32} {fe : S49216.Idx → BitVec 32} {fp : S256.Idx → BitVec 32} {g : S8x2304.Idx → F .f32}

theorem wp_assumeP {α : Type} {Q : α → sProp 𝕄} {R : sProp 𝕄} {P : Prop} {dec : Decidable P} (h : P) {k : PLift P → TP (F := F) L α} (H : R ⊢ WP d L (k ⟨h⟩) Q) :
    R ⊢ WP d L (Prog.lift (.assume P dec) >>= k) Q := by
  show R ⊢ wp frame (wpE (defs₀ (F := F)) 𝒱₀ (V d (cV L) (jV L)) none) Set.univ (.op (.assume P dec) k) Q
  rw [wp_assume_of _ _ _ _ h]
  exact H

theorem st_gexp {α : Type} {Q : α → sProp 𝕄} (v : IVec S16 32) (hv : ∀ x, (v x).toNat < 49216) {k : Vec F S16 .i32 → TP (F := F) L α}
    (H : St d L fo fe fp g ⊢ WP d L (k (fun x => expN fe (v x).toNat)) Q) : St d L fo fe fp g ⊢ WP d L (gexp L v >>= k) Q := by
  unfold St at *
  iintro ⟨H1, H2, H3, H4⟩
  iapply (wp_gexp d L v hv fe k Q) $$ H2
  iintro H2
  iapply H
  isplitl [H1]; · iexact H1
  isplitl [H2]; · iexact H2
  isplitl [H3] <;> iassumption

theorem st_goff {α : Type} {Q : α → sProp 𝕄} (a b : IVec S16 32) (ha : ∀ x, (a x).toNat < 144) (hb : ∀ x, (b x).toNat < 128)
    {h : ∀ c x, ((![a, b] : Fin 2 → IVec S16 32) c x).toNat < S144x128.size c} {k : Vec F S16 .i32 → TP (F := F) L α}
    (H : St d L fo fe fp g ⊢ WP d L (k (fun x => offN fo (a x).toNat (b x).toNat)) Q) :
    St d L fo fe fp g ⊢ WP d L (SparseCore.vectorLoadIdx offM ![a, b] h (View.loads_vmem h_S144x128) >>= k) Q := by
  unfold St at *
  iintro ⟨H1, H2, H3, H4⟩
  iapply (wp_goff d L a b ha hb fo h k Q) $$ H1
  iintro H1
  iapply H
  isplitl [H1]; · iexact H1
  isplitl [H2]; · iexact H2
  isplitl [H3] <;> iassumption

theorem st_gpop {α : Type} {Q : α → sProp 𝕄} (a : IVec S16 32) (ha : ∀ x, (a x).toNat < 256)
    {h : ∀ c x, ((![a] : Fin 1 → IVec S16 32) c x).toNat < S256.size c} {k : Vec F S16 .i32 → TP (F := F) L α}
    (H : St d L fo fe fp g ⊢ WP d L (k (fun x => popN fp (a x).toNat)) Q) :
    St d L fo fe fp g ⊢ WP d L (SparseCore.vectorLoadIdx popM ![a] h (View.loads_vmem h_S256) >>= k) Q := by
  unfold St at *
  iintro ⟨H1, H2, H3, H4⟩
  iapply (wp_gpop d L a ha fp h k Q) $$ H3
  iintro H3
  iapply H
  isplitl [H1]; · iexact H1
  isplitl [H2]; · iexact H2
  isplitl [H3] <;> iassumption

/-- A store of sixteen results: row `row`, columns from `col`. -/
def Put (g g' : S8x2304.Idx → F .f32) (row col : ℕ) (v : ℕ → F .f32) : Prop :=
  ∀ i, g' i = if (i 0).val = row ∧ col ≤ (i 1).val ∧ (i 1).val < col + 16 then v ((i 1).val - col) else g i

theorem st_put {α : Type} {Q : α → sProp 𝕄} (off : Fin 2 → ℕ) (hoff : ∀ a, off a + S1x16.size a ≤ S8x2304.size a) (r : Vec F S16 .i32) (sc : FVec F S16 .bf16) (v : ℕ → F .f32)
    (hv : ∀ k hk, valV r sc (lane k hk) = v k) {k : PUnit → TP (F := F) L α}
    (H : ∀ g', Put g g' (off 0) (off 1) v → St d L fo fe fp g' ⊢ WP d L (k ⟨⟩) Q) :
    St d L fo fe fp g ⊢ WP d L (putW L off hoff r sc >>= k) Q := by
  have H' := H _ (write_out off hoff g (shapeCast S1x16 (valV r sc) shapeCasts_S16_S1x16) v (fun x => by
    rw [← hv _ (x 1).isLt]
    show valV r sc _ = valV r sc _
    congr 1
    refine Shape.reshapeEquiv_eq_of_rowMajor _ ?_
    rw [Shape.rowMajor_val_two, Shape.rowMajor_val_one]
    have : (x 0).val < 1 := (x 0).isLt
    show (x 1).val = (x 0).val * 16 + (x 1).val
    omega))
  unfold putW
  unfold St at *
  rw [bind_assoc]
  show _ ⊢ wp frame (wpE (defs₀ (F := F)) 𝒱₀ (V d (cV L) (jV L)) none) Set.univ (.op (.load outM _ _) fun _ => .op (.store outM _ _ _ _ _) k) Q
  iintro ⟨H1, H2, H3, H4⟩
  iapply (wp_load 𝒱₀ (V d (cV L) (jV L)) none Set.univ (m := outM) (S := Finset.univ) (Finset.subset_univ _)) $$ H4
  iintro H4
  iapply (wp_sout d L off hoff (shapeCast S1x16 (valV r sc) shapeCasts_S16_S1x16) g k Q) $$ H4
  iintro H4
  iapply H'
  isplitl [H1]; · iexact H1
  isplitl [H2]; · iexact H2
  isplitl [H3] <;> iassumption

/-- The vectors of window and token numbers a trip reads. -/
theorem wrow_toNat (half : BitVec 32) (hh : half = 0#32 ∨ half = 72#32) (t : ℕ) (ht : t < 36) (k : ℕ) (hk : k < 16) :
    (wrowV winV half t (lane k hk)).toNat = half.toNat + 2 * t + k / 8 := by
  have : ∀ h : Fin 2, ∀ t : Fin 36, ∀ k : Fin 16, (wrowV winV (BitVec.ofNat 32 (72 * h.val)) t.val (lane k.val k.isLt)).toNat = (BitVec.ofNat 32 (72 * h.val)).toNat + 2 * t.val + k.val / 8 := by
    decide +kernel
  rcases hh with rfl | rfl
  · exact this 0 ⟨t, ht⟩ ⟨k, hk⟩
  · exact this 1 ⟨t, ht⟩ ⟨k, hk⟩

theorem tok_toNat (lnB : BitVec 32) (h : lnB.toNat + 8 ≤ 128) (k : ℕ) (hk : k < 16) :
    (addi tokV (broadcast S16 lnB) (lane k hk)).toNat = lnB.toNat + k % 8 := by
  have : ∀ k : Fin 16, tokV (lane k.val k.isLt) = BitVec.ofNat 32 (k.val % 8) := by decide +kernel
  show (tokV (lane k hk) + lnB).toNat = _
  rw [this ⟨k, hk⟩, BitVec.toNat_add, BitVec.toNat_ofNat]
  show (k % 8 % 2 ^ 32 + lnB.toNat) % 2 ^ 32 = _
  omega

theorem st_masks {α : Type} {Q : α → sProp 𝕄} {lnB base : BitVec 32} {E : ℕ → BitVec 8} (hD : DecOk fo fe fp lnB base E) (half : BitVec 32) (hh : half = 0#32 ∨ half = 72#32) (t : ℕ) (ht : t < 36)
    {k : IVec S16 32 × IVec S16 32 → TP (F := F) L α}
    (H : ∀ m p, MaskOk E (fun l => relOf fo base lnB.toNat (half.toNat + 2 * t + l / 8) (l % 8)) m p → St d L fo fe fp g ⊢ WP d L (k (m, p)) Q) :
    St d L fo fe fp g ⊢ WP d L (masksW L winV tokV lnB base half t >>= k) Q := by
  have hhn : half.toNat ≤ 72 := by rcases hh with rfl | rfl <;> decide
  have ha : ∀ x, (wrowV winV half t x).toNat < 144 := fun x => by
    obtain ⟨k, hk, rfl⟩ := lane_eta x
    rw [wrow_toNat half hh t ht k hk]; omega
  have hb : ∀ x, (addi tokV (broadcast S16 lnB) x).toNat < 128 := fun x => by
    obtain ⟨k, hk, rfl⟩ := lane_eta x
    rw [tok_toNat lnB hD.ln k hk]; have := hD.ln; omega
  generalize hR : (fun l => relOf fo base lnB.toNat (half.toNat + 2 * t + l / 8) (l % 8)) = R at H
  have hrel : ∀ k hk, (subi (fun x => offN fo (wrowV winV half t x).toNat (addi tokV (broadcast S16 lnB) x).toNat) (broadcast S16 base) (lane k hk)).toNat = R k := by
    intro k hk
    subst hR
    show (offN fo (wrowV winV half t (lane k hk)).toNat (addi tokV (broadcast S16 lnB) (lane k hk)).toNat - base).toNat = _
    rw [wrow_toNat half hh t ht, tok_toNat lnB hD.ln]
    rfl
  have hRb : ∀ k < 16, R k + 36 ≤ 49216 := fun k hk => by subst hR; exact hD.rel _ (by omega) _ (by omega)
  have hRe : ∀ k < 16, ∀ i, R k ≤ i → i < R k + 36 → (expN fe i).setWidth 8 = E i := fun k hk => by
    subst hR; exact hD.exp _ (by omega) _ (by omega)
  unfold masksW
  simp only [bind_assoc, pure_bind]
  refine wp_assumeP (show k0_chk13 _ _ from fun c x => ?_) ?_
  · match c with
    | 0 => exact ha x
    | 1 => exact hb x
  refine st_goff _ _ ha hb ?_
  generalize subi (fun x => offN fo (wrowV winV half t x).toNat (addi tokV (broadcast S16 lnB) x).toNat) (broadcast S16 base) = rel at hrel ⊢
  have hj : ∀ (j : ℕ), j < 4 → ∀ k hk, (relV rel (BitVec.ofNat 32 j) (lane k hk)).toNat = R k + j := by
    intro j hj k hk
    show (rel (lane k hk) + BitVec.ofNat 32 j).toNat = _
    have := hRb k hk
    rw [BitVec.toNat_add, hrel, BitVec.toNat_ofNat]; omega
  have hjl : ∀ (j : ℕ), j < 4 → ∀ x, (relV rel (BitVec.ofNat 32 j) x).toNat < 49216 := by
    intro j hj' x
    obtain ⟨k, hk, rfl⟩ := lane_eta x
    rw [hj j hj' k hk]
    have := hRb k hk
    omega
  have hbyte : ∀ (j : ℕ), j < 4 → ∀ k hk, byteV (F := F) (fun x => expN fe (relV rel (BitVec.ofNat 32 j) x).toNat) (lane k hk) = (E (R k + j)).setWidth 32 := by
    intro j hj' k hk
    show expN fe (relV rel (BitVec.ofNat 32 j) (lane k hk)).toNat &&& 255#32 = _
    rw [hj j hj' k hk]
    exact byte_of _ _ (hRe k hk _ (by omega) (by omega))
  have hbl : ∀ (j : ℕ), j < 4 → ∀ x, (byteV (F := F) (fun x => expN fe (relV rel (BitVec.ofNat 32 j) x).toNat) x).toNat < 256 := by
    intro j hj' x
    obtain ⟨k, hk, rfl⟩ := lane_eta x
    rw [hbyte j hj' k hk, BitVec.toNat_setWidth]
    have := (E (R k + j)).isLt
    omega
  refine st_gexp _ (hjl 0 (by omega)) ?_
  refine wp_assumeP (show k0_chk18 _ from fun c x => ?_) ?_
  · obtain rfl : c = 0 := Subsingleton.elim _ _
    exact hbl 0 (by omega) x
  refine st_gexp _ (hjl 1 (by omega)) ?_
  refine wp_assumeP (show k0_chk18 _ from fun c x => ?_) ?_
  · obtain rfl : c = 0 := Subsingleton.elim _ _
    exact hbl 1 (by omega) x
  refine st_gexp _ (hjl 2 (by omega)) ?_
  refine st_gexp _ (hjl 3 (by omega)) ?_
  refine st_gpop _ (hbl 0 (by omega)) ?_
  refine st_gpop _ (hbl 1 (by omega)) ?_
  refine H _ _ fun k hk => ⟨hRb k hk, fun e he => ?_, ?_⟩
  · exact mask_bit _ _ _ _ E (R k) (hbyte 0 (by omega) k hk) (hbyte 1 (by omega) k hk) (hbyte 2 (by omega) k hk) (hbyte 3 (by omega) k hk) e he
  · have h0 := hbyte 0 (by omega) k hk
    have h1 := hbyte 1 (by omega) k hk
    show (rel (lane k hk) + popN fp (byteV (F := F) (fun x => expN fe (relV rel 0#32 x).toNat) (lane k hk)).toNat + popN fp (byteV (F := F) (fun x => expN fe (relV rel 1#32 x).toNat) (lane k hk)).toNat).toNat = _
    rw [h0, h1, BitVec.toNat_setWidth, BitVec.toNat_setWidth]
    have e0 := (E (R k + 0)).isLt
    have e1 := (E (R k + 1)).isLt
    rw [Nat.mod_eq_of_lt (by omega), Nat.mod_eq_of_lt (by omega), hD.pop _ e0, hD.pop _ e1, BitVec.toNat_add, BitVec.toNat_add, hrel, BitVec.toNat_ofNat, BitVec.toNat_ofNat]
    have c0 := popC_le (E (R k + 0)).toNat
    have c1 := popC_le (E (R k + 1)).toNat
    have := popC_byte E (R k)
    have := hRb k hk
    rw [Nat.add_zero] at *
    omega

end

end Cert.Proof.Unpack
end
-- ==== Proof.Trip.lean ====
/-
  A decode trip and the decode loop: half windows, tokens, pairs of tokens, the eight pairs of a trip, thirty-six
  trips.
-/
module

public import proofs.«01_k».proof.Proof.Decode

@[expose] public section

noncomputable section

namespace Cert.Proof.Unpack

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {L : grid0.Coords}
variable {fo : S144x128.Idx → BitVec 32} {fe : S49216.Idx → BitVec 32} {fp : S256.Idx → BitVec 32} {g : S8x2304.Idx → F .f32}

theorem st_half {α : Type} {Q : α → sProp 𝕄} (E : ℕ → BitVec 8) (r : ℕ) (bit : IVec S16 32) (s : ℕ) (hb : BitsAt bit s) (hs : s ≤ 16) (mk p : BitVec 32)
    (hm : ∀ e < 32, mk.getLsbD e = mbitE E r e) (hp : p.toNat = r + 4 + rankE E r s) (hr : r + 36 ≤ 49216)
    (hf : ∀ i, r ≤ i → i < r + 36 → (expN fe i).setWidth 8 = E i) {k : Vec F S16 .i32 → TP (F := F) L α}
    (H : ∀ c : Vec F S16 .i32, (∀ l hl, (show BitVec 32 from c (lane l hl)).setWidth 8 = codeE E r (s + l)) → St d L fo fe fp g ⊢ WP d L (k c) Q) :
    St d L fo fe fp g ⊢ WP d L (halfW L bit mk p >>= k) Q := by
  unfold halfW
  rw [bind_assoc]
  refine st_gexp _ (idxV_lt E r bit s hb hs mk p hm hp hr) ?_
  rw [pure_bind]
  exact H _ fun l hl => half_code E r bit s hb hs mk p hm hp hr (expN fe) hf l hl

theorem st_token {α : Type} {Q : α → sProp 𝕄} (E : ℕ → BitVec 8) (R : ℕ → ℕ) (m p : IVec S16 32) (hM : MaskOk E R m p) (o : ℕ) (ho : S16.Slices ![o] S1) (h16 : o < 16)
    (hf : ∀ i, R o ≤ i → i < R o + 36 → (expN fe i).setWidth 8 = E i) {k : Vec F S16 .i32 × Vec F S16 .i32 → TP (F := F) L α}
    (H : ∀ a b : Vec F S16 .i32, (∀ l hl, (show BitVec 32 from a (lane l hl)).setWidth 8 = codeE E (R o) l) → (∀ l hl, (show BitVec 32 from b (lane l hl)).setWidth 8 = codeE E (R o) (16 + l)) →
      St d L fo fe fp g ⊢ WP d L (k (a, b)) Q) :
    St d L fo fe fp g ⊢ WP d L (tokenW L bitLo bitHi m p o ho >>= k) Q := by
  obtain ⟨hr, hm, hp⟩ := hM o h16
  have h16' := rankE_le E (R o) 16
  unfold tokenW
  simp only [bind_assoc]
  rw [laneAt_eq m o ho h16, laneAt_eq p o ho h16]
  refine st_half E (R o) bitLo 0 bitLo_at (by omega) _ _ hm ?_ hr hf fun a ha => ?_
  · rw [posLo_eq _ _ _ hp hr h16']; simp [rankE]
  refine st_half E (R o) bitHi 16 bitHi_at (by omega) _ _ hm ?_ hr hf fun b hb => ?_
  · rw [posHi_eq _ _ _ hp hr h16']
  rw [pure_bind]
  refine H a b (fun l hl => ?_) hb
  rw [ha l hl, Nat.zero_add]

theorem off_col (t : ℕ) (ht : t < 36) (r w y : ℕ) (hw : w < 2) (hy : y < 2) : offW t r (BitVec.ofNat 32 w) (BitVec.ofNat 32 (16 * y)) 1 = (2 * t + w) * 32 + 16 * y := by
  have : ∀ t : Fin 36, ∀ w y : Fin 2, (Scalar.indexCast (colW t.val (BitVec.ofNat 32 w.val) (BitVec.ofNat 32 (16 * y.val)))).toNat = (2 * t.val + w.val) * 32 + 16 * y.val := by
    decide +kernel
  exact this ⟨t, ht⟩ ⟨w, hw⟩ ⟨y, hy⟩

/-- What the result block holds at the end of a half: the value of every element of seventy-two windows of eight tokens. -/
def tgt (fo : S144x128.Idx → BitVec 32) (base : BitVec 32) (ln hN : ℕ) (E : ℕ → BitVec 8) (sc : ℕ → F .bf16) (row col : ℕ) : F .f32 :=
  valB (codeE E (relOf fo base ln (hN + col / 32) row) (col % 32)) (sc row)

/-- The first `n` (window, pair of tokens) of a half are done. -/
def Good (T : ℕ → ℕ → F .f32) (n : ℕ) (g : S8x2304.Idx → F .f32) : Prop :=
  ∀ i : S8x2304.Idx, 4 * ((i 1).val / 32) + (i 0).val / 2 < n → g i = T (i 0).val (i 1).val

theorem st_pair {α : Type} {Q : α → sProp 𝕄} {lnB base : BitVec 32} {E : ℕ → BitVec 8} (hD : DecOk fo fe fp lnB base E) (half : BitVec 32) (hh : half = 0#32 ∨ half = 72#32)
    (t : ℕ) (ht : t < 36) (m p : IVec S16 32) (hM : MaskOk E (fun l => relOf fo base lnB.toNat (half.toNat + 2 * t + l / 8) (l % 8)) m p)
    (sc : ℕ → F .bf16) (q o r : ℕ) (win : BitVec 32) (hq : q < 8) (hoq : o = 2 * q) (hrq : r = 2 * (q % 4)) (hwin : win = BitVec.ofNat 32 (q / 4))
    (s0 s1 : FVec F S16 .bf16) (hs0 : ∀ x, s0 x = sc r) (hs1 : ∀ x, s1 x = sc (r + 1))
    (ho : S16.Slices ![o] S1) (ho' : S16.Slices ![o + 1] S1)
    (h : ∀ x : Fin 2, ∀ y : Fin 2, ∀ a, offW t (r + x.val) win (BitVec.ofNat 32 (16 * y.val)) a + S1x16.size a ≤ S8x2304.size a)
    (hG : Good (tgt fo base lnB.toNat half.toNat E sc) (8 * t + q) g) {k : PUnit → TP (F := F) L α}
    (H : ∀ g', Good (tgt fo base lnB.toNat half.toNat E sc) (8 * t + q + 1) g' → St d L fo fe fp g' ⊢ WP d L (k ⟨⟩) Q) :
    St d L fo fe fp g ⊢ WP d L (pairW L bitLo bitHi m p s0 s1 t o r win ho ho' h >>= k) Q := by
  have hhn : half.toNat ≤ 72 := by rcases hh with rfl | rfl <;> decide
  have e0 : relOf fo base lnB.toNat (half.toNat + 2 * t + o / 8) (o % 8) = relOf fo base lnB.toNat (half.toNat + 2 * t + q / 4) r := by
    congr 1 <;> omega
  have e1 : relOf fo base lnB.toNat (half.toNat + 2 * t + (o + 1) / 8) ((o + 1) % 8) = relOf fo base lnB.toNat (half.toNat + 2 * t + q / 4) (r + 1) := by
    congr 1 <;> omega
  unfold pairW
  simp only [bind_assoc]
  refine st_token E _ m p hM o ho (by omega) (hD.exp _ (by omega) _ (by omega)) fun a0 b0 ha0 hb0 => ?_
  refine st_token E _ m p hM (o + 1) ho' (by omega) (hD.exp _ (by omega) _ (by omega)) fun a1 b1 ha1 hb1 => ?_
  simp only [e0, e1] at ha0 hb0 ha1 hb1
  subst hwin
  have hc : ∀ ρ y, y < 2 → offW t ρ (BitVec.ofNat 32 (q / 4)) (BitVec.ofNat 32 (16 * y)) 1 = (2 * t + q / 4) * 32 + 16 * y :=
    fun ρ y hy => off_col t ht ρ (q / 4) y (by omega) hy
  have hv : ∀ (c : Vec F S16 .i32) (s : FVec F S16 .bf16) (ρ y : ℕ), y < 2 → (∀ x, s x = sc ρ) →
      (∀ l hl, (show BitVec 32 from c (lane l hl)).setWidth 8 = codeE E (relOf fo base lnB.toNat (half.toNat + 2 * t + q / 4) ρ) (16 * y + l)) →
      ∀ l hl, valV c s (lane l hl) = tgt fo base lnB.toNat half.toNat E sc ρ (offW t ρ (BitVec.ofNat 32 (q / 4)) (BitVec.ofNat 32 (16 * y)) 1 + l) := by
    intro c s ρ y hy hs hcode l hl
    rw [hc ρ y hy]
    unfold tgt
    rw [show half.toNat + ((2 * t + q / 4) * 32 + 16 * y + l) / 32 = half.toNat + 2 * t + q / 4 by omega,
      show ((2 * t + q / 4) * 32 + 16 * y + l) % 32 = 16 * y + l by omega, ← hcode l hl, ← hs (lane l hl)]
    rfl
  refine st_put _ _ a0 s0 _ (hv a0 s0 r 0 (by omega) hs0 (fun l hl => by rw [ha0 l hl]; congr 1; omega)) fun g1 hg1 => ?_
  refine st_put _ _ a1 s1 _ (hv a1 s1 (r + 1) 0 (by omega) hs1 (fun l hl => by rw [ha1 l hl]; congr 1; omega)) fun g2 hg2 => ?_
  refine st_put _ _ b0 s0 _ (hv b0 s0 r 1 (by omega) hs0 (fun l hl => by rw [hb0 l hl])) fun g3 hg3 => ?_
  refine st_put _ _ b1 s1 _ (hv b1 s1 (r + 1) 1 (by omega) hs1 (fun l hl => by rw [hb1 l hl])) fun g4 hg4 => ?_
  refine H g4 fun i hi => ?_
  have hput : ∀ {g g' : S8x2304.Idx → F .f32} {ρ y : ℕ}, y < 2 → Put g g' (offW t ρ (BitVec.ofNat 32 (q / 4)) (BitVec.ofNat 32 (16 * y)) 0)
      (offW t ρ (BitVec.ofNat 32 (q / 4)) (BitVec.ofNat 32 (16 * y)) 1)
      (fun l => tgt fo base lnB.toNat half.toNat E sc ρ (offW t ρ (BitVec.ofNat 32 (q / 4)) (BitVec.ofNat 32 (16 * y)) 1 + l)) →
      (¬ ((i 0).val = ρ ∧ (2 * t + q / 4) * 32 + 16 * y ≤ (i 1).val ∧ (i 1).val < (2 * t + q / 4) * 32 + 16 * y + 16) → g i = tgt fo base lnB.toNat half.toNat E sc (i 0).val (i 1).val) →
      g' i = tgt fo base lnB.toNat half.toNat E sc (i 0).val (i 1).val := by
    intro g g' ρ y hy hP hg
    refine (hP i).trans ?_
    rw [hc ρ y hy]
    by_cases hin : (i 0).val = ρ ∧ (2 * t + q / 4) * 32 + 16 * y ≤ (i 1).val ∧ (i 1).val < (2 * t + q / 4) * 32 + 16 * y + 16
    · refine (if_pos hin).trans ?_
      show tgt fo base lnB.toNat half.toNat E sc ρ ((2 * t + q / 4) * 32 + 16 * y + ((i 1).val - ((2 * t + q / 4) * 32 + 16 * y))) = _
      rw [hin.1, show (2 * t + q / 4) * 32 + 16 * y + ((i 1).val - ((2 * t + q / 4) * 32 + 16 * y)) = (i 1).val by omega]
    · exact (if_neg hin).trans (hg hin)
  have hi0 : (i 0).val < 8 := (i 0).isLt
  refine hput (y := 1) (by omega) hg4 fun n4 => hput (y := 1) (by omega) hg3 fun n3 => hput (y := 0) (by omega) hg2 fun n2 => hput (y := 0) (by omega) hg1 fun n1 => hG i ?_
  omega

theorem st_trip {α : Type} {Q : α → sProp 𝕄} {lnB base : BitVec 32} {E : ℕ → BitVec 8} (hD : DecOk fo fe fp lnB base E) (half : BitVec 32) (hh : half = 0#32 ∨ half = 72#32)
    (t : ℕ) (ht : t < 36) (sc : ℕ → F .bf16) (s : Fin 8 → FVec F S16 .bf16) (hs : ∀ j x, s j x = sc j.val)
    (h : ∀ (win : Fin 2) (r : Fin 8) (y : Fin 2), ∀ a, offW t r.val (BitVec.ofNat 32 win.val) (BitVec.ofNat 32 (16 * y.val)) a + S1x16.size a ≤ S8x2304.size a)
    (hG : Good (tgt fo base lnB.toNat half.toNat E sc) (8 * t) g) {k : PUnit → TP (F := F) L α}
    (H : ∀ g', Good (tgt fo base lnB.toNat half.toNat E sc) (8 * (t + 1)) g' → St d L fo fe fp g' ⊢ WP d L (k ⟨⟩) Q) :
    St d L fo fe fp g ⊢ WP d L (tripP L bitLo bitHi winV tokV lnB base half s t h >>= k) Q := by
  unfold tripP
  simp only [bind_assoc]
  refine st_masks hD half hh t ht fun m p hM => ?_
  refine st_pair hD half hh t ht m p hM sc 0 0 0 0#32 (by omega) rfl rfl rfl _ _ (hs 0) (hs 1) _ _ _ hG fun g1 h1 => ?_
  refine st_pair hD half hh t ht m p hM sc 1 2 2 0#32 (by omega) rfl rfl rfl _ _ (hs 2) (hs 3) _ _ _ h1 fun g2 h2 => ?_
  refine st_pair hD half hh t ht m p hM sc 2 4 4 0#32 (by omega) rfl rfl rfl _ _ (hs 4) (hs 5) _ _ _ h2 fun g3 h3 => ?_
  refine st_pair hD half hh t ht m p hM sc 3 6 6 0#32 (by omega) rfl rfl rfl _ _ (hs 6) (hs 7) _ _ _ h3 fun g4 h4 => ?_
  refine st_pair hD half hh t ht m p hM sc 4 8 0 1#32 (by omega) rfl rfl rfl _ _ (hs 0) (hs 1) _ _ _ h4 fun g5 h5 => ?_
  refine st_pair hD half hh t ht m p hM sc 5 10 2 1#32 (by omega) rfl rfl rfl _ _ (hs 2) (hs 3) _ _ _ h5 fun g6 h6 => ?_
  refine st_pair hD half hh t ht m p hM sc 6 12 4 1#32 (by omega) rfl rfl rfl _ _ (hs 4) (hs 5) _ _ _ h6 fun g7 h7 => ?_
  refine st_pair hD half hh t ht m p hM sc 7 14 6 1#32 (by omega) rfl rfl rfl _ _ (hs 6) (hs 7) _ _ _ h7 fun g8 h8 => ?_
  exact H g8 h8

/-- The decode loop of a half: the block of results, in full. -/
theorem st_halfP {α : Type} {Q : α → sProp 𝕄} {lnB base : BitVec 32} {E : ℕ → BitVec 8} (hD : DecOk fo fe fp lnB base E) (half : BitVec 32) (hh : half = 0#32 ∨ half = 72#32)
    (sc : ℕ → F .bf16) (s : Fin 8 → FVec F S16 .bf16) (hs : ∀ j x, s j x = sc j.val) {k : PUnit → TP (F := F) L α} {R : sProp 𝕄}
    (H : ∀ g', (∀ i : S8x2304.Idx, g' i = tgt fo base lnB.toNat half.toNat E sc (i 0).val (i 1).val) → iprop(St d L fo fe fp g' ∗ R) ⊢ WP d L (k ⟨⟩) Q) :
    iprop(St d L fo fe fp g ∗ R) ⊢ WP d L (halfP L half lnB base s >>= k) Q := by
  iintro ⟨HS, HR⟩
  iapply (Scf.wp_for_bind frame (wpE (defs₀ (F := F)) 𝒱₀ (V d (cV L) (jV L)) none) Set.univ _ _ _ k0_t9_ok _ _
    (fun n _ => iprop(∃ g', ⌜Good (tgt fo base lnB.toNat half.toNat E sc) (8 * n) g'⌝ ∗ St d L fo fe fp g')) ?_) $$ [HS]
  · intro t _
    iintro ⟨%g', %hG, HS⟩
    have ht : t.val < 36 := t.isLt
    iapply (st_trip hD half hh t.val ht sc s hs (out9_inb t) hG fun g'' hG' => ?_) $$ HS
    show _ ⊢ wp frame (wpE (defs₀ (F := F)) 𝒱₀ (V d (cV L) (jV L)) none) Set.univ (.ret PUnit.unit) _
    rw [wp_ret]
    iintro HS
    imodintro
    iexists g''
    isplitr; · ipureintro; exact hG'
    iexact HS
  · iexists g
    isplitr; · ipureintro; intro i hi; omega
    iexact HS
  iintro %_ ⟨%g', %hG, HS⟩
  iapply (H g' fun i => hG i ?_)
  · have h0 : (i 0).val < 8 := (i 0).isLt
    have h1 : (i 1).val < 2304 := (i 1).isLt
    show _ < 8 * 36
    omega
  isplitl [HS] <;> iassumption

end Cert.Proof.Unpack
end
-- ==== Proof.Expand.lean ====
/-
  The table of bit counts, filled once per tile; and the expansion of a span's words into bytes, one word of
  memory each, sixteen words of a row at a time.
-/
module

public import proofs.«01_k».proof.Proof.Trip

@[expose] public section

noncomputable section

namespace Cert.Proof.Unpack

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section

variable {d : Dev nD} {L : grid0.Coords}

/-- The first `n` entries of the table are the bit counts, twenty bits up. -/
def PopTo (n : ℕ) (fp : S256.Idx → BitVec 32) : Prop := ∀ x < n, popN fp x = BitVec.ofNat 32 (popC x * 2 ^ 20)

theorem st_popP {α : Type} {Q : α → sProp 𝕄} {fp : S256.Idx → BitVec 32} (t : Fin k0_t1_loop.trips) (h : PopTo (16 * t.val) fp) {k : PUnit → TP (F := F) L α}
    (H : ∀ fp', PopTo (16 * (t.val + 1)) fp' → (popL d L ↦{fullShare} fp' : sProp 𝕄) ⊢ WP d L (k ⟨⟩) Q) :
    (popL d L ↦{fullShare} fp : sProp 𝕄) ⊢ WP d L (popP L t >>= k) Q := by
  have ht : t.val < 16 := t.isLt
  unfold popP
  rw [bind_assoc]
  show _ ⊢ wp frame (wpE (defs₀ (F := F)) 𝒱₀ (V d (cV L) (jV L)) none) Set.univ (.op (.load popM _ _) fun _ => .op (.store popM _ _ _ _ _) k) Q
  iintro H4
  iapply (wp_load 𝒱₀ (V d (cV L) (jV L)) none Set.univ (m := popM) (S := Finset.univ) (Finset.subset_univ _)) $$ H4
  iintro H4
  iapply (wp_spop d L (k0_off1 t) (k0_off1_inb t) (shli (cntV (byteX t)) (broadcast S16 20#32)) fp k Q) $$ H4
  iintro H4
  iapply (H _ fun x hx => ?_) $$ H4
  rw [write_pop]
  have e : k0_off1 t 0 = 16 * t.val := by rw [k0_off1_eq]; rfl
  split
  · rename_i hx
    rw [pop_table t.val _ ht (by omega)]
    congr 3
    omega
  · exact h x (by omega)

theorem st_pops {α : Type} {Q : α → sProp 𝕄} {fp : S256.Idx → BitVec 32} {k : PUnit → TP (F := F) L α} {R : sProp 𝕄}
    (H : ∀ fp', PopTo 256 fp' → iprop((popL d L ↦{fullShare} fp') ∗ R) ⊢ WP d L (k ⟨⟩) Q) :
    iprop((popL d L ↦{fullShare} fp) ∗ R) ⊢ WP d L ((Scf.Loop.for k0_t1_loop k0_t1_ok ⟨⟩ fun t _ => popP L t) >>= k) Q := by
  iintro ⟨HS, HR⟩
  iapply (Scf.wp_for_bind frame (wpE (defs₀ (F := F)) 𝒱₀ (V d (cV L) (jV L)) none) Set.univ _ _ _ k0_t1_ok _ _
    (fun n _ => iprop(∃ f', ⌜PopTo (16 * n) f'⌝ ∗ (popL d L ↦{fullShare} f'))) ?_) $$ [HS]
  · intro t _
    iintro ⟨%f', %hP, HS⟩
    rw [← bind_pure (popP L t)]
    iapply (st_popP t hP fun f'' hP' => ?_) $$ HS
    show _ ⊢ wp frame (wpE (defs₀ (F := F)) 𝒱₀ (V d (cV L) (jV L)) none) Set.univ (.ret PUnit.unit) _
    rw [wp_ret]
    iintro HS
    imodintro
    iexists f''
    isplitr; · ipureintro; exact hP'
    iexact HS
  · iexists fp
    isplitr; · ipureintro; intro i hi; omega
    iexact HS
  iintro %_ ⟨%f', %hP, HS⟩
  iapply (H f' hP)
  isplitl [HS] <;> iassumption

/-- The word of memory an expanded byte is read from. -/
def wantB (fr : S96x128.Idx → BitVec 32) (i : ℕ) : BitVec 32 := rawN fr (i / 512) (i % 128) >>> (8 * (i % 512 / 128))

/-- The first `n` pieces of sixteen words are expanded. -/
def ExpTo (fr : S96x128.Idx → BitVec 32) (n : ℕ) (fe : S49216.Idx → BitVec 32) : Prop :=
  ∀ i, 8 * (i / 512) + i % 128 / 16 < n → i < 49152 → expN fe i = wantB fr i

/-- What the expansion holds. -/
def Ex (d : Dev nD) (L : grid0.Coords) (fr : S96x128.Idx → BitVec 32) (fe : S49216.Idx → BitVec 32) : sProp 𝕄 :=
  iprop((rawL d L ↦{fullShare} fr) ∗ (expL d L ↦{fullShare} fe))

theorem shr_at (x : IVec S16 32) (s : ℕ) (hs : s < 32) (i : S16.Idx) : shrui x (broadcast S16 (BitVec.ofNat 32 s)) i = x i >>> s := by
  show (if (BitVec.ofNat 32 s).toNat < 32 then x i >>> (BitVec.ofNat 32 s) else _) = _
  have e : (BitVec.ofNat 32 s).toNat = s := by rw [BitVec.toNat_ofNat]; omega
  rw [e, if_pos hs]
  show x i >>> (BitVec.ofNat 32 s).toNat = _
  rw [e]

theorem st_bytes {α : Type} {Q : α → sProp 𝕄} {fr : S96x128.Idx → BitVec 32} {fe : S49216.Idx → BitVec 32} (o : Fin 2 → ℕ) (h : ∀ a, o a + S1x16.size a ≤ S96x128.size a)
    (e : Fin 4 → Fin 1 → ℕ) (he : ∀ c a, e c a + S16.size a ≤ S49216.size a) (r j : ℕ) (hr : r < 96) (hj : j < 8)
    (ho0 : o 0 = r) (ho1 : o 1 = 16 * j) (hec : ∀ c, e c 0 = 512 * r + 128 * c.val + 16 * j) (hE : ExpTo fr (8 * r + j) fe) {k : PUnit → TP (F := F) L α}
    (H : ∀ fe', ExpTo fr (8 * r + j + 1) fe' → Ex d L fr fe' ⊢ WP d L (k ⟨⟩) Q) :
    Ex d L fr fe ⊢ WP d L (bytesP L o h e he >>= k) Q := by
  unfold bytesP
  simp only [bind_assoc]
  show _ ⊢ wp frame (wpE (defs₀ (F := F)) 𝒱₀ (V d (cV L) (jV L)) none) Set.univ (.op (.load rawM _ _) fun _ => .op (.load expM _ _) fun _ => .op (.store expM _ _ _ _ _) fun _ =>
    .op (.load expM _ _) fun _ => .op (.store expM _ _ _ _ _) fun _ => .op (.load expM _ _) fun _ => .op (.store expM _ _ _ _ _) fun _ => .op (.load expM _ _) fun _ => .op (.store expM _ _ _ _ _) k) Q
  unfold Ex at *
  iintro ⟨H1, H2⟩
  iapply (wp_load 𝒱₀ (V d (cV L) (jV L)) none Set.univ (m := rawM) (S := Finset.univ) (Finset.subset_univ _)) $$ H1
  iintro H1
  iapply (wp_load 𝒱₀ (V d (cV L) (jV L)) none Set.univ (m := expM) (S := Finset.univ) (Finset.subset_univ _)) $$ H2
  iintro H2
  iapply (wp_sexp d L (e 0) (he 0) _ _ _ Q) $$ H2
  iintro H2
  iapply (wp_load 𝒱₀ (V d (cV L) (jV L)) none Set.univ (m := expM) (S := Finset.univ) (Finset.subset_univ _)) $$ H2
  iintro H2
  iapply (wp_sexp d L (e 1) (he 1) _ _ _ Q) $$ H2
  iintro H2
  iapply (wp_load 𝒱₀ (V d (cV L) (jV L)) none Set.univ (m := expM) (S := Finset.univ) (Finset.subset_univ _)) $$ H2
  iintro H2
  iapply (wp_sexp d L (e 2) (he 2) _ _ _ Q) $$ H2
  iintro H2
  iapply (wp_load 𝒱₀ (V d (cV L) (jV L)) none Set.univ (m := expM) (S := Finset.univ) (Finset.subset_univ _)) $$ H2
  iintro H2
  iapply (wp_sexp d L (e 3) (he 3) _ _ _ Q) $$ H2
  iintro H2
  iapply (H _ fun i hi hi' => ?_)
  rotate_left
  · isplitl [H1] <;> iassumption
  have hx : ∀ l hl, shapeCast S16 (show Vec F S1x16 .i32 from View.readAt (Elt F) (rawM).view (Rect.unit (s := S96x128) o S1x16.size h).toLoadRect fr) shapeCasts_S1x16_S16 (lane l hl) = rawN fr r (16 * j + l) := by
    intro l hl
    refine Eq.trans ?_ ((read_raw (F := F) o h fr (fun | 0 => ⟨0, by decide⟩ | 1 => ⟨l, hl⟩)).trans ?_)
    · show View.readAt (Elt F) (rawM).view _ fr _ = View.readAt (Elt F) (rawM).view _ fr _
      congr 1
      refine Shape.reshapeEquiv_eq_of_rowMajor _ ?_
      rw [Shape.rowMajor_val_two, Shape.rowMajor_val_one]
      show 0 * 16 + l = l
      omega
    · rw [ho0, ho1]
  rw [write_exp, write_exp, write_exp, write_exp]
  have h0 := hec 0; have h1 := hec 1; have h2 := hec 2; have h3 := hec 3
  simp only [Fin.val_zero, Fin.val_one, Fin.val_two, show ((3 : Fin 4).val) = 3 from rfl] at h0 h1 h2 h3
  have key : ∀ (c : ℕ) (hc : c < 4) (n : ℕ), n = 512 * r + 128 * c + 16 * j → ∀ (hin : n ≤ i ∧ i < n + 16) (hl : i - n < 16) (s : ℕ) (_ : s = 8 * c),
      shrui (shapeCast S16 (show Vec F S1x16 .i32 from View.readAt (Elt F) (rawM).view (Rect.unit (s := S96x128) o S1x16.size h).toLoadRect fr) shapeCasts_S1x16_S16) (broadcast S16 (BitVec.ofNat 32 s)) (lane (i - n) hl) = wantB fr i := by
    intro c hc n hn hin hl s hs
    rw [shr_at _ _ (by omega), hx]
    unfold wantB
    rw [show i / 512 = r by omega, show i % 128 = 16 * j + (i - n) by omega, show i % 512 / 128 = c by omega, hs]
  split
  · rename_i hin; exact key 3 (by omega) _ h3 hin _ 24 rfl
  split
  · rename_i hin; exact key 2 (by omega) _ h2 hin _ 16 rfl
  split
  · rename_i hin; exact key 1 (by omega) _ h1 hin _ 8 rfl
  split
  · rename_i hin; exact key 0 (by omega) _ h0 hin _ 0 rfl
  exact hE i (by omega) hi'

theorem row_off (t : ℕ) (ht : t < 96) : (Scalar.indexCast (tripW t)).toNat = t := by
  have : ∀ t : Fin 96, (Scalar.indexCast (tripW t.val)).toNat = t.val := by decide +kernel
  exact this ⟨t, ht⟩
theorem byte_off (t : ℕ) (ht : t < 96) (c : Fin 4) (j : Fin 8) :
    (Scalar.indexCast (Scalar.addi (Scalar.addi (Scalar.muli (tripW t) 512#32) (BitVec.ofNat 32 (128 * c.val))) (BitVec.ofNat 32 (16 * j.val)))).toNat = 512 * t + 128 * c.val + 16 * j.val := by
  have : ∀ t : Fin 96, ∀ c : Fin 4, ∀ j : Fin 8, (Scalar.indexCast (Scalar.addi (Scalar.addi (Scalar.muli (tripW t.val) 512#32) (BitVec.ofNat 32 (128 * c.val))) (BitVec.ofNat 32 (16 * j.val)))).toNat = 512 * t.val + 128 * c.val + 16 * j.val := by
    decide +kernel
  exact this ⟨t, ht⟩ c j

theorem st_expand {α : Type} {Q : α → sProp 𝕄} {fr : S96x128.Idx → BitVec 32} {fe : S49216.Idx → BitVec 32} (o : Fin 8 → Fin 2 → ℕ) (h : ∀ j a, o j a + S1x16.size a ≤ S96x128.size a)
    (e : Fin 8 → Fin 4 → Fin 1 → ℕ) (he : ∀ j c a, e j c a + S16.size a ≤ S49216.size a) (r : ℕ) (hr : r < 96)
    (ho0 : ∀ j, o j 0 = r) (ho1 : ∀ j, o j 1 = 16 * j.val) (hec : ∀ j c, e j c 0 = 512 * r + 128 * c.val + 16 * j.val) (hE : ExpTo fr (8 * r) fe) {k : PUnit → TP (F := F) L α}
    (H : ∀ fe', ExpTo fr (8 * (r + 1)) fe' → Ex d L fr fe' ⊢ WP d L (k ⟨⟩) Q) :
    Ex d L fr fe ⊢ WP d L (expandP L o h e he >>= k) Q := by
  unfold expandP
  simp only [bind_assoc]
  refine st_bytes (o 0) (h 0) (e 0) (he 0) r 0 hr (by omega) (ho0 0) (ho1 0) (hec 0) hE fun f1 h1 => ?_
  refine st_bytes (o 1) (h 1) (e 1) (he 1) r 1 hr (by omega) (ho0 1) (ho1 1) (hec 1) h1 fun f2 h2 => ?_
  refine st_bytes (o 2) (h 2) (e 2) (he 2) r 2 hr (by omega) (ho0 2) (ho1 2) (hec 2) h2 fun f3 h3 => ?_
  refine st_bytes (o 3) (h 3) (e 3) (he 3) r 3 hr (by omega) (ho0 3) (ho1 3) (hec 3) h3 fun f4 h4 => ?_
  refine st_bytes (o 4) (h 4) (e 4) (he 4) r 4 hr (by omega) (ho0 4) (ho1 4) (hec 4) h4 fun f5 h5 => ?_
  refine st_bytes (o 5) (h 5) (e 5) (he 5) r 5 hr (by omega) (ho0 5) (ho1 5) (hec 5) h5 fun f6 h6 => ?_
  refine st_bytes (o 6) (h 6) (e 6) (he 6) r 6 hr (by omega) (ho0 6) (ho1 6) (hec 6) h6 fun f7 h7 => ?_
  refine st_bytes (o 7) (h 7) (e 7) (he 7) r 7 hr (by omega) (ho0 7) (ho1 7) (hec 7) h7 fun f8 h8 => ?_
  exact H f8 h8

/-- The expansion loop of a span of `n ≤ 96` rows. -/
theorem st_expands {α : Type} {Q : α → sProp 𝕄} {fr : S96x128.Idx → BitVec 32} {fe : S49216.Idx → BitVec 32} (a b : BitVec 32) (hw : k0_chk4 a b)
    (hn : (k0_t7_loop a b).trips ≤ 96) {k : PUnit → TP (F := F) L α} {R : sProp 𝕄}
    (H : ∀ fe', ExpTo fr (8 * (k0_t7_loop a b).trips) fe' → iprop(Ex d L fr fe' ∗ R) ⊢ WP d L (k ⟨⟩) Q) :
    iprop(Ex d L fr fe ∗ R) ⊢ WP d L ((Scf.Loop.for (k0_t7_loop a b) (k0_t7_ok a b hw) ⟨⟩ fun t _ => expandP L (rows7 a b t) (rows7_inb a b hw t)
      (fun j c => k0_off13 a b t (BitVec.ofNat 32 (128 * c.val)) (BitVec.ofNat 32 (16 * j.val))) (fun j c => k0_off13_inb a b hw t c j)) >>= k) Q := by
  iintro ⟨HS, HR⟩
  iapply (Scf.wp_for_bind frame (wpE (defs₀ (F := F)) 𝒱₀ (V d (cV L) (jV L)) none) Set.univ _ _ _ (k0_t7_ok a b hw) _ _
    (fun n _ => iprop(∃ f', ⌜ExpTo fr (8 * n) f'⌝ ∗ Ex d L fr f')) ?_) $$ [HS]
  · intro t _
    have ht : t.val < 96 := lt_of_lt_of_le t.isLt hn
    iintro ⟨%f', %hP, HS⟩
    rw [← bind_pure (expandP L _ _ _ _)]
    iapply (st_expand _ _ _ _ t.val ht (fun j => ?_) (fun j => ?_) (fun j c => byte_off t.val ht c j) hP fun f'' hP' => ?_) $$ HS
    · match j with
      | 0 => exact row_off t.val ht
      | 1 => exact row_off t.val ht
      | 2 => exact row_off t.val ht
      | 3 => exact row_off t.val ht
      | 4 => exact row_off t.val ht
      | 5 => exact row_off t.val ht
      | 6 => exact row_off t.val ht
      | 7 => exact row_off t.val ht
    · match j with
      | 0 => rfl
      | 1 => rfl
      | 2 => rfl
      | 3 => rfl
      | 4 => rfl
      | 5 => rfl
      | 6 => rfl
      | 7 => rfl
    show _ ⊢ wp frame (wpE (defs₀ (F := F)) 𝒱₀ (V d (cV L) (jV L)) none) Set.univ (.ret PUnit.unit) _
    rw [wp_ret]
    iintro HS
    imodintro
    iexists f''
    isplitr; · ipureintro; exact hP'
    iexact HS
  · iexists fe
    isplitr; · ipureintro; intro i hi; omega
    iexact HS
  iintro %_ ⟨%f', %hP, HS⟩
  iapply (H f' hP)
  isplitl [HS] <;> iassumption

end

end Cert.Proof.Unpack
end
-- ==== Proof.Bounds.lean ====
/-
  The numbers of a span, from its two ends: where it starts, how many chunks and rows it has, and that every
  access the span makes is inside its buffer.
-/
module

public import proofs.«01_k».proof.Proof.Expand

@[expose] public section

namespace Cert.Proof.Unpack

open Cert.KernelIdeal Cert.KernelIdeal.Gen
open Idealize.ShloMosaic

/-- What the precondition gives of a group: its first and its last window start. -/
structure Span (a b : BitVec 32) : Prop where
  le : a.toNat ≤ b.toNat
  near : b.toNat ≤ a.toNat + 41436
  fits : b.toNat + 36 ≤ 79626240

/-- How many chunks a span has. -/
def chunks (a b : BitVec 32) : ℕ := (b.toNat + 36 - a.toNat / 4096 * 4096 + 4095) / 4096

theorem toInt_small (x : BitVec 32) (h : x.toNat < 2147483648) : x.toInt = x.toNat := by
  rw [BitVec.toInt_eq_toNat_cond]; split <;> omega

theorem divsi_small (x y : BitVec 32) (hx : x.toNat < 2147483648) (hy : y.toNat < 2147483648) (h0 : y.toNat ≠ 0) :
    (Scalar.divsi x y).toNat = x.toNat / y.toNat := by
  have hc : ¬ IntOp.SDivCorner x y := by
    rintro (rfl | ⟨-, rfl⟩)
    · exact h0 rfl
    · exact absurd hy (by decide)
  unfold Scalar.divsi IntOp.divsi
  rw [if_neg hc, BitVec.sdiv_eq, BitVec.msb_eq_false_iff_two_mul_lt.mpr (by omega), BitVec.msb_eq_false_iff_two_mul_lt.mpr (by omega)]
  exact BitVec.toNat_udiv
theorem remsi_small (x y : BitVec 32) (hx : x.toNat < 2147483648) (hy : y.toNat < 2147483648) (h0 : y.toNat ≠ 0) :
    (Scalar.remsi x y).toNat = x.toNat % y.toNat := by
  have hc : ¬ IntOp.SDivCorner x y := by
    rintro (rfl | ⟨-, rfl⟩)
    · exact h0 rfl
    · exact absurd hy (by decide)
  unfold Scalar.remsi IntOp.remsi
  rw [if_neg hc, BitVec.srem_eq, BitVec.msb_eq_false_iff_two_mul_lt.mpr (by omega), BitVec.msb_eq_false_iff_two_mul_lt.mpr (by omega)]
  exact BitVec.toNat_umod

theorem sgn_pos (x : BitVec 32) (hx : x.toNat < 2147483648) (h0 : x.toNat ≠ 0) : sgnB x = 1#32 := by
  have h1 : (0#32 : BitVec 32).slt x = true := by
    rw [BitVec.slt_eq_decide, decide_eq_true_eq, toInt_small x hx]
    simp
    omega
  have h2 : x.slt 0#32 = false := by
    rw [BitVec.slt_eq_decide, decide_eq_false_iff_not, toInt_small x hx]
    simp
  show Scalar.subi (Scalar.extui (BitVec.ofBool ((0#32 : BitVec 32).slt x))) (Scalar.extui (BitVec.ofBool (x.slt 0#32))) = _
  rw [h1, h2]
  decide

/-- A division that rounds down, of a word that is not negative, is the division of naturals. -/
theorem floorB_small (x y : BitVec 32) (hx : x.toNat < 2147483648) (hy : y.toNat < 2147483648) (h0 : y.toNat ≠ 0) :
    (floorB x y).toNat = x.toNat / y.toNat := by
  rw [← divsi_small x y hx hy h0]
  congr 1
  have hs : Scalar.andi (Scalar.cmpi .ne (sgnB x) (sgnB y)) (Scalar.cmpi .ne (Scalar.remsi x y) 0#32) = 0#1 := by
    by_cases hz : x.toNat = 0
    · have : Scalar.remsi x y = 0#32 := BitVec.eq_of_toNat_eq (by rw [remsi_small x y hx hy h0, hz]; simp)
      rw [this]
      show _ &&& Scalar.cmpi .ne 0#32 0#32 = _
      rw [show Scalar.cmpi .ne (0#32) (0#32) = 0#1 by decide]
      exact BitVec.and_zero
    · rw [sgn_pos x hx hz, sgn_pos y hy h0]
      show Scalar.cmpi .ne 1#32 1#32 &&& _ = _
      rw [show Scalar.cmpi .ne (1#32) (1#32) = 0#1 by decide]
      exact BitVec.zero_and
  show Scalar.select _ _ _ = _
  rw [hs]
  rfl

theorem divsi_one (x : BitVec 32) : Scalar.divsi x 1#32 = x := by
  unfold Scalar.divsi IntOp.divsi
  rw [if_neg]
  · exact BitVec.sdiv_one
  · rintro (h | ⟨-, h⟩) <;> exact absurd h (by decide)

/-- A loop's two bounds, as the kernel spells them of a trip count. -/
abbrev cntB (x : BitVec 32) : BitVec 32 := Scalar.subi (Scalar.divsi (Scalar.addi (Scalar.subi x 0#32) (Scalar.subi 1#32 1#32)) 1#32) 0#32
abbrev ubB (x : BitVec 32) : BitVec 32 := Scalar.addi 0#32 (Scalar.muli (Scalar.divsi (cntB x) 1#32) 1#32)
theorem cntB_eq (x : BitVec 32) : cntB x = x := by
  unfold cntB
  rw [divsi_one]
  show x - 0#32 + (1#32 - 1#32) - 0#32 = x
  simp
theorem ubB_eq (x : BitVec 32) : ubB x = x := by
  unfold ubB
  rw [divsi_one, cntB_eq]
  show 0#32 + x * 1#32 = x
  simp

/-- A span's chunk count, as the kernel computes it. -/
abbrev nB (a b : BitVec 32) : BitVec 32 :=
  floorB (Scalar.subi (Scalar.addi (Scalar.subi (Scalar.minsi (Scalar.addi (Scalar.addi b 4#32) 32#32) 79626240#32) (baseB a)) 4096#32) 1#32) 4096#32

section

variable {a b : BitVec 32}

theorem baseB_toNat (a : BitVec 32) : (baseB a).toNat = a.toNat / 4096 * 4096 := by
  show (a &&& 4294963200#32).toNat = _
  have h := BitVec.toNat_and a 4294963200#32
  have : a &&& 4294963200#32 = (a >>> 12) <<< 12 := by
    apply BitVec.eq_of_getLsbD_eq
    intro i hi
    rw [BitVec.getLsbD_and, BitVec.getLsbD_shiftLeft, BitVec.getLsbD_ushiftRight]
    have hk : ∀ i : Fin 32, (4294963200#32).getLsbD i.val = decide (12 ≤ i.val) := by decide
    rw [hk ⟨i, hi⟩]
    by_cases h12 : 12 ≤ i
    · simp [h12, hi, show ¬ i < 12 by omega]
    · simp [h12, show i < 12 by omega]
  rw [this, BitVec.toNat_shiftLeft, BitVec.toNat_ushiftRight, Nat.shiftLeft_eq, Nat.shiftRight_eq_div_pow]
  have := a.isLt
  omega

theorem Span.nB_toNat (h : Span a b) : (nB a b).toNat = chunks a b := by
  obtain ⟨h1, h2, h3⟩ := h
  have hb := baseB_toNat a
  have ha : (Scalar.addi (Scalar.addi b 4#32) 32#32).toNat = b.toNat + 36 := by
    show (b + 4#32 + 32#32).toNat = _
    rw [BitVec.toNat_add, BitVec.toNat_add]
    simp
    omega
  have hm : Scalar.minsi (Scalar.addi (Scalar.addi b 4#32) 32#32) 79626240#32 = Scalar.addi (Scalar.addi b 4#32) 32#32 := by
    show (if _ then _ else _) = _
    split
    · rfl
    · rename_i hn
      rw [BitVec.slt_eq_decide, decide_eq_true_eq, toInt_small _ (by rw [ha]; omega), toInt_small _ (by decide), ha] at hn
      apply BitVec.eq_of_toNat_eq
      rw [ha]
      simp at hn ⊢
      omega
  have hx : (Scalar.subi (Scalar.addi (Scalar.subi (Scalar.minsi (Scalar.addi (Scalar.addi b 4#32) 32#32) 79626240#32) (baseB a)) 4096#32) 1#32).toNat
      = b.toNat + 36 - a.toNat / 4096 * 4096 + 4095 := by
    rw [hm]
    show (Scalar.addi (Scalar.addi b 4#32) 32#32 - baseB a + 4096#32 - 1#32).toNat = _
    rw [BitVec.toNat_sub, BitVec.toNat_add, BitVec.toNat_sub, ha, hb]
    simp
    omega
  rw [nB, floorB_small _ _ (by rw [hx]; omega) (by decide) (by decide), hx]
  rfl

theorem Span.chunks_le (h : Span a b) : chunks a b ≤ 12 := by
  obtain ⟨h1, h2, h3⟩ := h
  unfold chunks
  omega
theorem Span.chunks_pos (h : Span a b) : 0 < chunks a b := by
  obtain ⟨h1, h2, h3⟩ := h
  unfold chunks
  omega

theorem trips_unit (x : BitVec 32) (hx : x.toNat < 2147483648) : Scf.trips 0#32 x 1#32 = x.toNat := by
  unfold Scf.trips
  rw [toInt_small x hx]
  simp
theorem ok_unit (x : BitVec 32) (hx : x.toNat < 2147483648) : Scf.OK 0#32 x 1#32 := by
  refine ⟨by decide, ?_⟩
  rw [trips_unit x hx]
  simp
  omega
theorem trips_none (x : BitVec 32) : Scf.trips x x 1#32 = 0 := by
  unfold Scf.trips
  simp
theorem ok_none (x : BitVec 32) (hx : x.toNat < 2147483648) : Scf.OK x x 1#32 := by
  refine ⟨by decide, ?_⟩
  rw [trips_none x, toInt_small x hx]
  simp
  omega

theorem t3_eq (a b : BitVec 32) : k0_t3_loop a b = ⟨0#32, nB a b, 1#32⟩ := by
  show (⟨0#32, ubB (nB a b), 1#32⟩ : Scf.Loop 32) = _
  rw [ubB_eq]
theorem t4_eq (a b : BitVec 32) : k0_t4_loop a b = ⟨nB a b, nB a b, 1#32⟩ := by
  show (⟨ubB (nB a b), Scalar.addi 0#32 (cntB (nB a b)), 1#32⟩ : Scf.Loop 32) = _
  rw [ubB_eq, cntB_eq]
  show (⟨_, 0#32 + nB a b, _⟩ : Scf.Loop 32) = _
  rw [BitVec.zero_add]
theorem t5_eq (a b : BitVec 32) : k0_t5_loop a b = ⟨0#32, nB a b, 1#32⟩ := by
  show (⟨0#32, ubB (nB a b), 1#32⟩ : Scf.Loop 32) = _
  rw [ubB_eq]
theorem t6_eq (a b : BitVec 32) : k0_t6_loop a b = ⟨nB a b, nB a b, 1#32⟩ := by
  show (⟨ubB (nB a b), Scalar.addi 0#32 (cntB (nB a b)), 1#32⟩ : Scf.Loop 32) = _
  rw [ubB_eq, cntB_eq]
  show (⟨_, 0#32 + nB a b, _⟩ : Scf.Loop 32) = _
  rw [BitVec.zero_add]
theorem t7_eq (a b : BitVec 32) : k0_t7_loop a b = ⟨0#32, Scalar.muli (nB a b) 8#32, 1#32⟩ := by
  show (⟨0#32, ubB (Scalar.muli (nB a b) 8#32), 1#32⟩ : Scf.Loop 32) = _
  rw [ubB_eq]
theorem t8_eq (a b : BitVec 32) : k0_t8_loop a b = ⟨Scalar.muli (nB a b) 8#32, Scalar.muli (nB a b) 8#32, 1#32⟩ := by
  show (⟨ubB (Scalar.muli (nB a b) 8#32), Scalar.addi 0#32 (cntB (Scalar.muli (nB a b) 8#32)), 1#32⟩ : Scf.Loop 32) = _
  rw [ubB_eq, cntB_eq]
  show (⟨_, 0#32 + Scalar.muli (nB a b) 8#32, _⟩ : Scf.Loop 32) = _
  rw [BitVec.zero_add]

theorem Span.n8 (h : Span a b) : (Scalar.muli (nB a b) 8#32).toNat = 8 * chunks a b := by
  show (nB a b * 8#32).toNat = _
  have := h.chunks_le
  rw [BitVec.toNat_mul, h.nB_toNat]
  simp
  omega

theorem Span.t3 (h : Span a b) : (k0_t3_loop a b).trips = chunks a b := by
  have := h.chunks_le
  rw [t3_eq, Scf.Loop.trips, trips_unit _ (by rw [h.nB_toNat]; omega), h.nB_toNat]
theorem Span.t5 (h : Span a b) : (k0_t5_loop a b).trips = chunks a b := by
  have := h.chunks_le
  rw [t5_eq, Scf.Loop.trips, trips_unit _ (by rw [h.nB_toNat]; omega), h.nB_toNat]
theorem Span.t7 (h : Span a b) : (k0_t7_loop a b).trips = 8 * chunks a b := by
  have := h.chunks_le
  rw [t7_eq, Scf.Loop.trips, trips_unit _ (by rw [h.n8]; omega), h.n8]
theorem t4_none (a b : BitVec 32) : (k0_t4_loop a b).trips = 0 := by
  rw [t4_eq]; exact trips_none _
theorem t6_none (a b : BitVec 32) : (k0_t6_loop a b).trips = 0 := by
  rw [t6_eq]; exact trips_none _
theorem t8_none (a b : BitVec 32) : (k0_t8_loop a b).trips = 0 := by
  rw [t8_eq]; exact trips_none _

/-- A chunk's rows, in the scratch and in the stream. -/
theorem off4_eq (h : Span a b) (t : Fin (k0_t3_loop a b).trips) : k0_off4 a b t = ![8 * t.val, 0] := by
  have ht : t.val < 12 := lt_of_lt_of_le t.isLt (by rw [h.t3]; exact h.chunks_le)
  show ![(Scalar.muli (tripW t.val) 8#32).toNat, 0] = _
  have : ∀ t : Fin 12, (Scalar.muli (tripW t.val) 8#32).toNat = 8 * t.val := by decide +kernel
  rw [this ⟨t.val, ht⟩]
theorem off8_eq (h : Span a b) (t : Fin (k0_t5_loop a b).trips) : k0_off8 a b t = ![8 * t.val, 0] := by
  have ht : t.val < 12 := lt_of_lt_of_le t.isLt (by rw [h.t5]; exact h.chunks_le)
  show ![(Scalar.muli (tripW t.val) 8#32).toNat, 0] = _
  have : ∀ t : Fin 12, (Scalar.muli (tripW t.val) 8#32).toNat = 8 * t.val := by decide +kernel
  rw [this ⟨t.val, ht⟩]
theorem row_stream (h : Span a b) (t : ℕ) (ht : t < chunks a b) :
    (Scalar.addi (floorB (baseB a) 512#32) (Scalar.muli (tripW t) 8#32)).toNat = a.toNat / 4096 * 8 + 8 * t := by
  have h12 := h.chunks_le
  have := h.le; have := h.fits
  have e : ∀ t : Fin 12, (Scalar.muli (tripW t.val) 8#32).toNat = 8 * t.val := by decide +kernel
  have e1 := e ⟨t, by omega⟩
  have hb := baseB_toNat a
  have e2 := floorB_small (baseB a) 512#32 (by omega) (by decide) (by decide)
  show (floorB (baseB a) 512#32 + Scalar.muli (tripW t) 8#32).toNat = _
  rw [BitVec.toNat_add, e1, e2, hb]
  simp
  omega
theorem off5_eq (h : Span a b) (t : Fin (k0_t3_loop a b).trips) : k0_off5 a b t = ![a.toNat / 4096 * 8 + 8 * t.val, 0] := by
  have := row_stream h t.val (lt_of_lt_of_le t.isLt h.t3.le)
  show ![(Scalar.addi (floorB (baseB a) 512#32) (Scalar.muli (tripW t.val) 8#32)).toNat, 0] = _
  rw [this]
theorem off9_eq (h : Span a b) (t : Fin (k0_t5_loop a b).trips) : k0_off9 a b t = ![a.toNat / 4096 * 8 + 8 * t.val, 0] := by
  have := row_stream h t.val (lt_of_lt_of_le t.isLt h.t5.le)
  show ![(Scalar.addi (floorB (baseB a) 512#32) (Scalar.muli (tripW t.val) 8#32)).toNat, 0] = _
  rw [this]

theorem Span.chk3 (h : Span a b) : k0_chk3 a := by
  have := h.le; have := h.fits
  have hb := baseB_toNat a
  show 8 ∣ (floorB (baseB a) 512#32).toNat
  rw [floorB_small _ _ (by omega) (by decide) (by decide), hb]
  exact ⟨a.toNat / 4096, by simp; omega⟩

theorem Span.row_fits (h : Span a b) (t : ℕ) (ht : t < chunks a b) : a.toNat / 4096 * 8 + 8 * t + 8 ≤ 155520 := by
  have := h.le; have := h.fits
  unfold chunks at ht
  omega

theorem Span.chk4 (h : Span a b) : k0_chk4 a b := by
  have h12 := h.chunks_le
  have hn := h.nB_toNat
  have h8 := h.n8
  have z4 : ∀ t : Fin (k0_t4_loop a b).trips, False := fun t => Fin.elim0 (Fin.cast (t4_none a b) t)
  have z6 : ∀ t : Fin (k0_t6_loop a b).trips, False := fun t => Fin.elim0 (Fin.cast (t6_none a b) t)
  have z8 : ∀ t : Fin (k0_t8_loop a b).trips, False := fun t => Fin.elim0 (Fin.cast (t8_none a b) t)
  have r7 : ∀ (t : Fin (k0_t7_loop a b).trips) (j : ℕ), j < 8 → ∀ x, (![(Scalar.indexCast (tripW t.val)).toNat, 16 * j] : Fin 2 → ℕ) x + S1x16.size x ≤ S96x128.size x := by
    intro t j hj x
    have ht : t.val < 96 := lt_of_lt_of_le t.isLt (by rw [h.t7]; omega)
    rw [row_off t.val ht]
    match x with
    | 0 => show t.val + 1 ≤ 96; omega
    | 1 => show 16 * j + 16 ≤ 128; omega
  have c2 : ∀ (r s : ℕ) (S : ℕ), r + 8 ≤ S → ∀ x, (![r, 0] : Fin 2 → ℕ) x + S8x128.size x ≤ (![S, 128] : Fin 2 → ℕ) x := by
    intro r _ S hS x
    match x with
    | 0 => exact hS
    | 1 => show 0 + 128 ≤ 128; omega
  refine ⟨?_, ?_, ?_, ?_, fun t => (z4 t).elim, fun t => (z4 t).elim, ?_, ?_, ?_, ?_, fun t => (z6 t).elim, fun t => (z6 t).elim, ?_,
    fun t => r7 t 0 (by omega), ?_, fun t => r7 t 1 (by omega), fun t => r7 t 2 (by omega), fun t => r7 t 3 (by omega), fun t => r7 t 4 (by omega),
    fun t => r7 t 5 (by omega), fun t => r7 t 6 (by omega), fun t => r7 t 7 (by omega), ?_,
    fun t => (z8 t).elim, fun t => (z8 t).elim, fun t => (z8 t).elim, fun t => (z8 t).elim, fun t => (z8 t).elim, fun t => (z8 t).elim, fun t => (z8 t).elim, fun t => (z8 t).elim, fun t => (z8 t).elim⟩
  · rw [t3_eq]; exact ok_unit (nB a b) (by omega)
  · intro t x
    have ht := lt_of_lt_of_le t.isLt h.t3.le
    rw [off4_eq h t]
    match x with
    | 0 => show 8 * t.val + 8 ≤ 96; omega
    | 1 => show 0 + 128 ≤ 128; omega
  · intro t x
    have ht := h.row_fits t.val (lt_of_lt_of_le t.isLt h.t3.le)
    rw [off5_eq h t]
    match x with
    | 0 => exact ht
    | 1 => show 0 + 128 ≤ 128; omega
  · rw [t4_eq]; exact ok_none (nB a b) (by omega)
  · rw [t5_eq]; exact ok_unit (nB a b) (by omega)
  · intro t x
    have ht := lt_of_lt_of_le t.isLt h.t5.le
    rw [off8_eq h t]
    match x with
    | 0 => show 8 * t.val + 8 ≤ 96; omega
    | 1 => show 0 + 128 ≤ 128; omega
  · intro t x
    have ht := h.row_fits t.val (lt_of_lt_of_le t.isLt h.t5.le)
    rw [off9_eq h t]
    match x with
    | 0 => exact ht
    | 1 => show 0 + 128 ≤ 128; omega
  · rw [t6_eq]; exact ok_none (nB a b) (by omega)
  · rw [t7_eq]; exact ok_unit (Scalar.muli (nB a b) 8#32) (by omega)
  · intro t c j x
    have ht : t.val < 96 := lt_of_lt_of_le t.isLt (by rw [h.t7]; omega)
    obtain rfl : x = 0 := Subsingleton.elim _ _
    have e := byte_off t.val ht c j
    show (Scalar.indexCast (Scalar.addi (Scalar.addi (Scalar.muli (tripW t.val) 512#32) (BitVec.ofNat 32 (128 * c.val))) (BitVec.ofNat 32 (16 * j.val)))).toNat + 16 ≤ 49216
    rw [e]
    omega
  · rw [t8_eq]; exact ok_none (Scalar.muli (nB a b) 8#32) (by omega)

/-- A window start of the span, from the span's base. -/
theorem Span.rel (h : Span a b) (x : BitVec 32) (h1 : a.toNat ≤ x.toNat) (h2 : x.toNat ≤ b.toNat) :
    (x - baseB a).toNat = x.toNat - a.toNat / 4096 * 4096 ∧ (x - baseB a).toNat + 36 ≤ 4096 * chunks a b := by
  have hb := baseB_toNat a
  have := h.le; have := h.near; have := h.fits
  have e : (x - baseB a).toNat = x.toNat - a.toNat / 4096 * 4096 := by
    rw [BitVec.toNat_sub, hb]
    omega
  refine ⟨e, ?_⟩
  rw [e]
  unfold chunks
  omega

end

end Cert.Proof.Unpack
-- ==== Proof.Copies.lean ====
/-
  The copies of a tile: one copy started and awaited, and the chunks of a span, all started before any is awaited.
-/
module

public import proofs.«01_k».proof.Proof.Bounds
public import Idealize.ShloMosaic.Lib.Batch

@[expose] public section

noncomputable section

namespace Cert.Proof.Unpack

open Cert.KernelIdeal Cert.KernelIdeal.Gen
open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Where the copies' counters live. -/
abbrev EC : UEmb Counters (MT nD τ sig (HIx 1) (Elt F) ℕ UU ℕ) := countersEmb

theorem ret_bind' {E : Type → Type} {α β : Type} (a : α) (k : α → Prog E β) : (Prog.ret a).bind k = k a := rfl

section

variable {d : Dev nD} {L : grid0.Coords}

abbrev thr (d : Dev nD) (L : grid0.Coords) : Thread nD τ := V d (cV L) (jV L)
/-- The waits' evidence of a tile, and the record of what it waited for. -/
abbrev Ev (d : Dev nD) (L : grid0.Coords) (O : CellTallies nD τ sig (HIx 1)) : sProp 𝕄 := Transfers.MayWaits (thr d L) (none : HIx 1) O
def Owes (d : Dev nD) (L : grid0.Coords) (O : CellTallies nD τ sig (HIx 1)) : sProp 𝕄 := iprop(∃ W, owes (thr d L) O W)

/-- A copy within the tile's reach, started and awaited. -/
theorem wp_copy {α : Type} {Q : α → sProp 𝕄} {sp sp' : Space} {s : Shape} {e : EltTy}
    {src : Memref sig .scVector sp s e} {dst : Memref sig .scVector sp' s e} {sem : DmaSem sig}
    {hsrc hsrc' : src.view.WordExact} {hdst hdst' : dst.view.WordExact} {hsem : DmaTarget.Typed (nD := nD) (τ := τ) (sig := sig) (p := .scVector (cV L) (jV L)) sp (.dma sem) (.here dst)}
    {q : PosShare TreeShare} {fs : Buf (Elt F) (src.view.loc (thr d L))} {Sd : Finset (Idx (dst.view.loc (thr d L)))} {fd : Buf (Elt F) (dst.view.loc (thr d L))}
    (hs : 0 < s.numel) (hSd : dst.view.set ⊆ Sd) (O : CellTallies nD τ sig (HIx 1)) (k : PUnit → TP (F := F) L α) :
    iprop((src.view.loc (thr d L) ↦[src.view.set]{q} fs) ∗ (dst.view.loc (thr d L) ↦[Sd]{fullShare} fd) ∗ semVal (thr d L, .dma sem) 0 ∗ Owes d L O ∗ Ev d L O)
      ⊢ iprop((iprop((dst.view.loc (thr d L) ↦[Sd]{fullShare} (dst.view.write (Elt F) fd (src.view.read (Elt F) fs) Finset.univ))
            ∗ (src.view.loc (thr d L) ↦[src.view.set]{q} fs) ∗ semVal (thr d L, .dma sem) 0 ∗ Owes d L O) -∗ WP d L (k ⟨⟩) Q)
        -∗ WP d L (Prog.lift (.enqueueDma src (.here dst) (.dma sem) hsrc hdst hsem) >>= fun _ => Prog.lift (.waitDma2 sem src dst hsrc' hdst') >>= k) Q) := by
  unfold Owes
  show _ ⊢ iprop(_ -∗ wp frame (wpE (defs₀ (F := F)) 𝒱₀ (V d (cV L) (jV L)) none) Set.univ
    (.op (.enqueueDma src (.here dst) (.dma sem) hsrc hdst hsem) fun _ => .op (.waitDma2 sem src dst hsrc' hdst') k) Q)
  iintro ⟨Hs, Hd, Hv, ⟨%W, HO⟩, #Hmw⟩ Hk
  iapply (Transfers.wp_dmaLocal EC 𝒱₀ (V d (cV L) (jV L)) none (src := src) (dst := dst) (none : HIx 1) (dst.view.amount (.dma sem)) rfl (dst.view.amount_pos _ hs) hSd) $$ [Hs Hd Hv]
  · isplitl [Hs]; · iexact Hs
    isplitl [Hd] <;> iassumption
  iintro HF
  iapply (Transfers.wp_waitLocalO EC 𝒱₀ (V d (cV L) (jV L)) none (none : HIx 1) (O := O) (W := W) rfl) $$ [HF HO]
  · isplitl [HF]; · iexact HF
    isplitl [HO]; · iexact HO
    iapply (Transfers.MayWaits.elim (.dma sem))
    iexact Hmw
  iintro ⟨⟨Hd, Hs⟩, Hv, HO⟩
  iapply Hk
  isplitl [Hd]; · iexact Hd
  isplitl [Hs]; · iexact Hs
  isplitl [Hv]; · iexact Hv
  iexists _
  iexact HO

/-- A loop of no trips. -/
theorem for_none {α : Type} {l : Scf.Loop 32} (h : l.trips = 0) (hok : l.OK) (body : Fin l.trips → PUnit → TP (F := F) L PUnit) (k : PUnit → TP (F := F) L α) :
    (Scf.Loop.for l hok ⟨⟩ body >>= k) = k ⟨⟩ := by
  have e : Scf.Loop.for l hok ⟨⟩ body = .ret ⟨⟩ := by
    refine (Scf.for_eq _ _ _ _ _ _).trans ?_
    have : List.finRange l.trips = [] := List.eq_nil_of_length_eq_zero (by rw [List.length_finRange, h])
    show Scf.forFrom body (List.finRange l.trips) ⟨⟩ = _
    rw [this]
    rfl
  rw [e]
  rfl

/-- The words of the stream, by row and lane. -/
def wordN (fw : S155520x128.Idx → BitVec 32) (r l : ℕ) : BitVec 32 := if h : r < 155520 ∧ l < 128 then fw (fun | 0 => ⟨r, h.1⟩ | 1 => ⟨l, h.2⟩) else 0#32

abbrev wLoc (d : Dev nD) (L : grid0.Coords) : Loc nD τ sig := (thr d L).loc main_v19_scv

/-- The buffer of words once `n` chunks from row `r` of the stream have landed. -/
def landed (fw : S155520x128.Idx → BitVec 32) (fr : S96x128.Idx → BitVec 32) (r n : ℕ) : S96x128.Idx → BitVec 32 :=
  fun i => if (i 0).val < 8 * n then wordN fw (r + (i 0).val) (i 1).val else fr i

theorem mem_rawAt (o : Fin 2 → ℕ) (h : ∀ a, o a + S8x128.size a ≤ S96x128.size a) (x : ℕ) (e : o = ![x, 0]) (i : S96x128.Idx) :
    i ∈ (rawAt o h).view.set ↔ x ≤ (i 0).val ∧ (i 0).val < x + 8 := by
  subst e
  constructor
  · intro hi
    obtain ⟨y, -, rfl⟩ := Finset.mem_map.mp hi
    have h0 : (y 0).val < 8 := (y 0).isLt
    constructor
    · show x ≤ x + 1 * (y 0).val; omega
    · show x + 1 * (y 0).val < _; omega
  · rintro ⟨h1, h2⟩
    have h3 : (i 1).val < 128 := (i 1).isLt
    refine Finset.mem_map.mpr ⟨fun | 0 => ⟨(i 0).val - x, show _ < 8 by omega⟩ | 1 => ⟨(i 1).val, h3⟩, Finset.mem_univ _, ?_⟩
    funext a
    apply Fin.ext
    match a with
    | 0 => show x + 1 * ((i 0).val - x) = _; omega
    | 1 => show 0 + 1 * (i 1).val = _; omega
theorem mem_wordsAt (o : Fin 2 → ℕ) (h : ∀ a, o a + S8x128.size a ≤ S155520x128.size a) (x : ℕ) (e : o = ![x, 0]) (i : S155520x128.Idx) :
    i ∈ (wordsAt o h).view.set ↔ x ≤ (i 0).val ∧ (i 0).val < x + 8 := by
  subst e
  constructor
  · intro hi
    obtain ⟨y, -, rfl⟩ := Finset.mem_map.mp hi
    have h0 : (y 0).val < 8 := (y 0).isLt
    constructor
    · show x ≤ x + 1 * (y 0).val; omega
    · show x + 1 * (y 0).val < _; omega
  · rintro ⟨h1, h2⟩
    have h3 : (i 1).val < 128 := (i 1).isLt
    refine Finset.mem_map.mpr ⟨fun | 0 => ⟨(i 0).val - x, show _ < 8 by omega⟩ | 1 => ⟨(i 1).val, h3⟩, Finset.mem_univ _, ?_⟩
    funext a
    apply Fin.ext
    match a with
    | 0 => show x + 1 * ((i 0).val - x) = _; omega
    | 1 => show 0 + 1 * (i 1).val = _; omega

/-- What one chunk's copy leaves is what the landed buffer holds there. -/
theorem chunk_lands (fw : S155520x128.Idx → BitVec 32) (fr : S96x128.Idx → BitVec 32) (r n t : ℕ) (ht : t < n) (o : Fin 2 → ℕ) (h : ∀ a, o a + S8x128.size a ≤ S96x128.size a)
    (o' : Fin 2 → ℕ) (h' : ∀ a, o' a + S8x128.size a ≤ S155520x128.size a) (e : o = ![8 * t, 0]) (e' : o' = ![r + 8 * t, 0]) (i : S96x128.Idx) (hi : i ∈ (rawAt o h).view.set) :
    (rawAt o h).view.write (Elt F) fr ((wordsAt o' h').view.read (Elt F) fw) Finset.univ i = landed fw fr r n i := by
  have hb := (mem_rawAt o h _ e i).mp hi
  obtain ⟨y, -, rfl⟩ := Finset.mem_map.mp hi
  have := View.write_emb_of_mem (Val := Elt F) (v := (rawAt o h).view) fr ((wordsAt o' h').view.read (Elt F) fw) (Finset.mem_univ y)
  refine (this.trans (cast_eq _ _)).trans ?_
  subst e e'
  have h0 : (y 0).val < 8 := (y 0).isLt
  have h1 : (y 1).val < 128 := (y 1).isLt
  have hr := h' 0
  change r + 8 * t + 8 ≤ 155520 at hr
  have e0 : (((rawAt ![8 * t, 0] h).view.emb y) 0).val = 8 * t + (y 0).val := by show 8 * t + 1 * (y 0).val = _; omega
  have e1 : (((rawAt ![8 * t, 0] h).view.emb y) 1).val = (y 1).val := by show 0 + 1 * (y 1).val = _; omega
  unfold landed wordN
  rw [e0, e1, if_pos (by omega), dif_pos ⟨by omega, h1⟩]
  show fw _ = fw _
  congr 1
  funext a
  apply Fin.ext
  match a with
  | 0 => show r + 8 * t + 1 * (y 0).val = r + (8 * t + (y 0).val); omega
  | 1 => show 0 + 1 * (y 1).val = (y 1).val; omega

/-- One transfer's units. -/
abbrev Nch : ℕ := (rawAt ![0, 0] (by decide)).view.amount (SemLoc.dma (sig := sig) cc0_scratch6.sem)

section Span

variable (a b : BitVec 32) (hw : k0_chk4 a b)

/-- Chunk `t` of a span: its rows of the buffer, its rows of the stream. -/
abbrev rSet (t : Fin (k0_t3_loop a b).trips) : Finset S96x128.Idx := (rawAt (k0_off4 a b t) (k0_off4_inb a b hw t)).view.set
abbrev wSet (t : Fin (k0_t3_loop a b).trips) : Finset S155520x128.Idx := (wordsAt (k0_off5 a b t) (k0_off5_inb a b hw t)).view.set

variable (fw : S155520x128.Idx → BitVec 32) (fr : S96x128.Idx → BitVec 32) (q : PosShare TreeShare)

def Deliv (a b : BitVec 32) (hw : k0_chk4 a b) (fw : S155520x128.Idx → BitVec 32) (fr : S96x128.Idx → BitVec 32) (q : PosShare TreeShare) (d : Dev nD) (L : grid0.Coords) (t : Fin (k0_t3_loop a b).trips) : sProp 𝕄 :=
  iprop((rawL d L ↦[rSet a b hw t]{fullShare} landed fw fr (a.toNat / 4096 * 8) (k0_t3_loop a b).trips) ∗ (wLoc d L ↦[wSet a b hw t]{q} fw))
def Piece (a b : BitVec 32) (hw : k0_chk4 a b) (fw : S155520x128.Idx → BitVec 32) (fr : S96x128.Idx → BitVec 32) (q : PosShare TreeShare) (d : Dev nD) (L : grid0.Coords) (t : Fin (k0_t3_loop a b).trips) : sProp 𝕄 :=
  iprop((rawL d L ↦[rSet a b hw t]{fullShare} fr) ∗ (wLoc d L ↦[wSet a b hw t]{q} fw))

instance (t : Fin (k0_t3_loop a b).trips) : Storable (upEmb : UEmb _ 𝕄) (Deliv (F := F) a b hw fw fr q d L t) := by
  unfold Deliv; infer_instance

abbrev Bat (a b : BitVec 32) (hw : k0_chk4 a b) (fw : S155520x128.Idx → BitVec 32) (fr : S96x128.Idx → BitVec 32) (q : PosShare TreeShare) (d : Dev nD) (L : grid0.Coords) (k u : ℕ) : sProp 𝕄 :=
  Transfers.Batch EC (thr d L) (.dma cc0_scratch6.sem) (none : HIx 1) Nch (Deliv (F := F) a b hw fw fr q d L) k u

theorem st_starts {α : Type} {Q : α → sProp 𝕄} (hS : Span a b) {k : PUnit → TP (F := F) L α} {R : sProp 𝕄}
    (H : iprop(Bat (F := F) a b hw fw fr q d L (k0_t3_loop a b).trips 0 ∗ R) ⊢ WP d L (k ⟨⟩) Q) :
    iprop(bigSep Finset.univ (Piece (F := F) a b hw fw fr q d L) ∗ semVal (thr d L, .dma cc0_scratch6.sem) 0 ∗ R) ⊢ WP d L
      ((Scf.Loop.for (k0_t3_loop a b) (k0_t3_ok a b hw) ⟨⟩ fun t _ => chunkP L (k0_off4 a b t) (k0_off4_inb a b hw t) (k0_off5 a b t) (k0_off5_inb a b hw t)) >>= k) Q := by
  rw [Transfers.bigSep_pending_zero]
  iintro ⟨HP, Hv, HR⟩
  imod (Transfers.batch_alloc' (Lvl := ℕ) EC (thr d L) (none : HIx 1) Nch (Deliv (F := F) a b hw fw fr q d L) (sm := .dma cc0_scratch6.sem) (E := Set.univ)) $$ Hv with HB
  iapply (Scf.wp_for_bind frame (wpE (defs₀ (F := F)) 𝒱₀ (V d (cV L) (jV L)) none) Set.univ _ _ _ (k0_t3_ok a b hw) _ _
    (fun n _ => iprop(bigSep (Transfers.pending n) (Piece (F := F) a b hw fw fr q d L) ∗ Bat (F := F) a b hw fw fr q d L n 0)) ?_) $$ [HP HB]
  · intro t _
    rw [Transfers.bigSep_pending_step _ t.val t.isLt]
    unfold chunkP
    rw [show Piece (F := F) a b hw fw fr q d L ⟨t.val, t.isLt⟩ = iprop((rawL d L ↦[rSet a b hw t]{fullShare} fr) ∗ (wLoc d L ↦[wSet a b hw t]{q} fw)) from rfl]
    show _ ⊢ wp frame (wpE (defs₀ (F := F)) 𝒱₀ (V d (cV L) (jV L)) none) Set.univ
      (.op (.enqueueDma (wordsAt (k0_off5 a b t) (k0_off5_inb a b hw t)) (.here (rawAt (k0_off4 a b t) (k0_off4_inb a b hw t))) (.dma cc0_scratch6.sem) (View.wordExact_bits rfl) (View.wordExact_bits rfl) ⟨Or.inl rfl, trivial⟩) fun _ => .ret PUnit.unit) _
    iintro ⟨⟨⟨Hr, Hs⟩, HPs⟩, HB⟩
    iapply (Transfers.wp_dmaBatch EC 𝒱₀ (V d (cV L) (jV L)) none (src := wordsAt (k0_off5 a b t) (k0_off5_inb a b hw t)) (dst := rawAt (k0_off4 a b t) (k0_off4_inb a b hw t)) (none : HIx 1) Nch rfl subset_rfl
      (D := Deliv (F := F) a b hw fw fr q d L) (j := t.val) (u := 0) t.isLt (Nat.zero_le _) ?_) $$ [Hr Hs HB]
    · unfold Deliv
      refine sep_mono (Entails.of_eq (pointsTo_congr fun i hi => ?_)) .rfl
      exact chunk_lands fw fr _ _ t.val t.isLt _ _ _ _ (off4_eq hS t) (off5_eq hS t) i hi
    · isplitl [Hs]; · iexact Hs
      isplitl [Hr] <;> iassumption
    iintro HB
    rw [wp_ret]
    imodintro
    isplitl [HPs] <;> iassumption
  · isplitl [HP] <;> iassumption
  iintro %_ ⟨-, HB⟩
  iapply H
  isplitl [HB] <;> iassumption

theorem st_awaits {α : Type} {Q : α → sProp 𝕄} (hS : Span a b) (O : CellTallies nD τ sig (HIx 1)) {k : PUnit → TP (F := F) L α} {R : sProp 𝕄}
    (H : iprop(bigSep Finset.univ (Deliv (F := F) a b hw fw fr q d L) ∗ semVal (thr d L, .dma cc0_scratch6.sem) 0 ∗ Owes d L O ∗ R) ⊢ WP d L (k ⟨⟩) Q) :
    iprop(Bat (F := F) a b hw fw fr q d L (k0_t3_loop a b).trips 0 ∗ Owes d L O ∗ Ev d L O ∗ R) ⊢ WP d L
      ((Scf.Loop.for (k0_t5_loop a b) (k0_t5_ok a b hw) ⟨⟩ fun t _ => awaitP L (k0_off8 a b t) (k0_off8_inb a b hw t) (k0_off9 a b t) (k0_off9_inb a b hw t)) >>= k) Q := by
  have hN : 0 < Nch := View.amount_pos _ _ (show 0 < S8x128.numel by decide)
  have e53 : (k0_t5_loop a b).trips = (k0_t3_loop a b).trips := hS.t5.trans hS.t3.symm
  iintro ⟨HB, HO, #Hmw, HR⟩
  iapply (Scf.wp_for_bind frame (wpE (defs₀ (F := F)) 𝒱₀ (V d (cV L) (jV L)) none) Set.univ _ _ _ (k0_t5_ok a b hw) _ _
    (fun n _ => iprop(Ev d L O ∗ Owes d L O ∗ Bat (F := F) a b hw fw fr q d L (k0_t3_loop a b).trips (n * Nch))) ?_) $$ [HO HB]
  · intro t _
    have ht : t.val + 1 ≤ (k0_t3_loop a b).trips := le_of_le_of_eq t.isLt e53
    unfold awaitP Owes
    show _ ⊢ wp frame (wpE (defs₀ (F := F)) 𝒱₀ (V d (cV L) (jV L)) none) Set.univ
      (.op (.waitDma2 cc0_scratch6.sem (wordsAt (k0_off9 a b t) (k0_off9_inb a b hw t)) (rawAt (k0_off8 a b t) (k0_off8_inb a b hw t)) (View.wordExact_bits rfl) (View.wordExact_bits rfl)) fun _ => .ret PUnit.unit) _
    iintro ⟨#Hmw, ⟨%W, HO⟩, HB⟩
    iapply (Transfers.wp_waitBatchMulO EC 𝒱₀ (V d (cV L) (jV L)) none (srcw := wordsAt (k0_off9 a b t) (k0_off9_inb a b hw t)) (dstw := rawAt (k0_off8 a b t) (k0_off8_inb a b hw t)) (none : HIx 1) (N := Nch) 1
      (show (rawAt (k0_off8 a b t) (k0_off8_inb a b hw t)).view.dmaCredit = 1 * Nch from (Nat.one_mul Nch).symm) (O := O) (W := W)
      (D := Deliv (F := F) a b hw fw fr q d L) (j := (k0_t3_loop a b).trips) (u := t.val * Nch) (by
        rw [← Nat.add_mul, Nat.mul_comm]; exact Nat.mul_le_mul_left _ ht)) $$ [HB HO]
    · isplitl [HB]; · iexact HB
      isplitl [HO]; · iexact HO
      iapply (Transfers.MayWaits.elim (.dma cc0_scratch6.sem))
      iexact Hmw
    iintro ⟨HB, HO⟩
    rw [wp_ret]
    imodintro
    isplitr; · iexact Hmw
    isplitl [HO]; · iexists _; iexact HO
    rw [Nat.add_mul]
    iexact HB
  · isplitr; · iexact Hmw
    isplitl [HO]; · iexact HO
    rw [Nat.zero_mul]
    iexact HB
  iintro %_ ⟨-, HO, HB⟩
  have eN : (k0_t5_loop a b).trips * Nch = Nch * (k0_t3_loop a b).trips := by rw [e53, Nat.mul_comm]
  rw [show Scf.trips (k0_t5_loop a b).lb (k0_t5_loop a b).ub (k0_t5_loop a b).st * Nch = Nch * (k0_t3_loop a b).trips from eN]
  imod (Transfers.batch_collect' EC (thr d L) hN) $$ HB with ⟨HD, Hv⟩
  iapply H
  isplitl [HD]; · iexact HD
  isplitl [Hv]; · iexact Hv
  isplitl [HO] <;> iassumption

end Span

end

end Cert.Proof.Unpack
end
-- ==== Proof.Span.lean ====
/-
  A span, from its words in the stream to its bytes in the expanded buffer.
-/
module

public import proofs.«01_k».proof.Proof.Copies

@[expose] public section

noncomputable section

namespace Cert.Proof.Unpack

open Cert.KernelIdeal Cert.KernelIdeal.Gen
open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section

variable {d : Dev nD} {L : grid0.Coords}
variable {a b : BitVec 32} (hw : k0_chk4 a b) (fw : S155520x128.Idx → BitVec 32) (fr : S96x128.Idx → BitVec 32) (q : PosShare TreeShare)

abbrev rAll (a b : BitVec 32) (hw : k0_chk4 a b) : Finset S96x128.Idx := Finset.univ.biUnion (rSet a b hw)
abbrev wAll (a b : BitVec 32) (hw : k0_chk4 a b) : Finset S155520x128.Idx := Finset.univ.biUnion (wSet a b hw)

theorem rSet_disj (hS : Span a b) : ∀ t ∈ (Finset.univ : Finset (Fin (k0_t3_loop a b).trips)), ∀ t' ∈ (Finset.univ : Finset (Fin (k0_t3_loop a b).trips)), t ≠ t' → Disjoint (rSet a b hw t) (rSet a b hw t') := by
  intro t _ t' _ hne
  refine Finset.disjoint_left.mpr fun i h1 h2 => hne (Fin.ext ?_)
  have e1 := (mem_rawAt _ _ _ (off4_eq hS t) i).mp h1
  have e2 := (mem_rawAt _ _ _ (off4_eq hS t') i).mp h2
  omega
theorem wSet_disj (hS : Span a b) : ∀ t ∈ (Finset.univ : Finset (Fin (k0_t3_loop a b).trips)), ∀ t' ∈ (Finset.univ : Finset (Fin (k0_t3_loop a b).trips)), t ≠ t' → Disjoint (wSet a b hw t) (wSet a b hw t') := by
  intro t _ t' _ hne
  refine Finset.disjoint_left.mpr fun i h1 h2 => hne (Fin.ext ?_)
  have e1 := (mem_wordsAt _ _ _ (off5_eq hS t) i).mp h1
  have e2 := (mem_wordsAt _ _ _ (off5_eq hS t') i).mp h2
  omega

/-- What the span leaves aside. -/
def Rest (a b : BitVec 32) (hw : k0_chk4 a b) (fw : S155520x128.Idx → BitVec 32) (fr : S96x128.Idx → BitVec 32) (q : PosShare TreeShare) (d : Dev nD) (L : grid0.Coords) : sProp 𝕄 :=
  iprop((rawL d L ↦[Finset.univ \ rAll a b hw]{fullShare} fr) ∗ (wLoc d L ↦[Finset.univ \ wAll a b hw]{q} fw))

theorem span_split (hS : Span a b) :
    iprop((rawL d L ↦{fullShare} fr) ∗ (wLoc d L ↦{q} fw)) ⊢ (iprop(bigSep Finset.univ (Piece (F := F) a b hw fw fr q d L) ∗ Rest (F := F) a b hw fw fr q d L) : sProp 𝕄) := by
  have e : bigSep Finset.univ (Piece (F := F) a b hw fw fr q d L)
      = iprop((rawL d L ↦[rAll a b hw]{fullShare} fr) ∗ (wLoc d L ↦[wAll a b hw]{q} fw)) := by
    rw [pointsTo_biUnion _ _ (rSet_disj hw hS), pointsTo_biUnion _ _ (wSet_disj hw hS)]
    exact bigSep_sep _ _ _
  rw [e]
  unfold Rest
  refine (BIClass.sep_mono (pointsTo_split_subset (Finset.subset_univ (rAll a b hw))).1 (pointsTo_split_subset (Finset.subset_univ (wAll a b hw))).1).trans ?_
  iintro ⟨⟨H1, H2⟩, H3, H4⟩
  isplitl [H1 H3]
  · isplitl [H1] <;> iassumption
  · isplitl [H2] <;> iassumption

theorem mem_rAll (hS : Span a b) (i : S96x128.Idx) (hlt : (i 0).val < 8 * (k0_t3_loop a b).trips) : i ∈ rAll a b hw := by
  have ht : (i 0).val / 8 < (k0_t3_loop a b).trips := by omega
  have h : i ∈ rSet a b hw ⟨(i 0).val / 8, ht⟩ := by
    generalize hT : (⟨(i 0).val / 8, ht⟩ : Fin (k0_t3_loop a b).trips) = t
    have hv : t.val = (i 0).val / 8 := by rw [← hT]
    exact (mem_rawAt _ _ _ (off4_eq hS t) i).mpr ⟨by omega, by omega⟩
  exact Finset.subset_biUnion_of_mem (rSet a b hw) (Finset.mem_univ _) h

theorem not_mem_of_rest {A : Finset S96x128.Idx} {i : S96x128.Idx} (h : i ∈ Finset.univ \ A) : i ∉ A := (Finset.mem_sdiff.mp h).2

theorem landed_rest (A : Finset S96x128.Idx) (r n : ℕ) (hA : ∀ i : S96x128.Idx, (i 0).val < 8 * n → i ∈ A) (i : S96x128.Idx) (hi : i ∈ Finset.univ \ A) :
    fr i = landed fw fr r n i := by
  have hn : ¬ (i 0).val < 8 * n := fun hlt => not_mem_of_rest hi (hA i hlt)
  unfold landed
  rw [if_neg hn]

theorem rest_landed (hS : Span a b) : (rawL d L ↦[Finset.univ \ rAll a b hw]{fullShare} fr : sProp 𝕄)
    = (rawL d L ↦[Finset.univ \ rAll a b hw]{fullShare} landed fw fr (a.toNat / 4096 * 8) (k0_t3_loop a b).trips) :=
  pointsTo_congr (landed_rest fw fr (rAll a b hw) _ _ (mem_rAll hw hS))

theorem span_join (hS : Span a b) :
    iprop(bigSep Finset.univ (Deliv (F := F) a b hw fw fr q d L) ∗ Rest (F := F) a b hw fw fr q d L)
      ⊢ (iprop((rawL d L ↦{fullShare} landed fw fr (a.toNat / 4096 * 8) (k0_t3_loop a b).trips) ∗ (wLoc d L ↦{q} fw)) : sProp 𝕄) := by
  have e : bigSep Finset.univ (Deliv (F := F) a b hw fw fr q d L)
      = iprop((rawL d L ↦[rAll a b hw]{fullShare} landed fw fr (a.toNat / 4096 * 8) (k0_t3_loop a b).trips) ∗ (wLoc d L ↦[wAll a b hw]{q} fw)) := by
    rw [pointsTo_biUnion _ _ (rSet_disj hw hS), pointsTo_biUnion _ _ (wSet_disj hw hS)]
    exact bigSep_sep _ _ _
  rw [e]
  unfold Rest
  rw [rest_landed hw fw fr hS]
  refine BIBase.Entails.trans ?_ (BIClass.sep_mono (pointsTo_split_subset (Finset.subset_univ (rAll a b hw))).2 (pointsTo_split_subset (Finset.subset_univ (wAll a b hw))).2)
  iintro ⟨⟨H1, H2⟩, H3, H4⟩
  isplitl [H1 H3]
  · isplitl [H1] <;> iassumption
  · isplitl [H2] <;> iassumption

/-- Byte `i` of the stream, out of its word. -/
def wbyte (fw : S155520x128.Idx → BitVec 32) (i : ℕ) : BitVec 32 := wordN fw (i / 512) (i % 128) >>> (8 * (i % 512 / 128))

/-- What a tile holds of its span buffers. -/
def Sp (d : Dev nD) (L : grid0.Coords) (O : CellTallies nD τ sig (HIx 1)) (q : PosShare TreeShare) (fw : S155520x128.Idx → BitVec 32) (fr : S96x128.Idx → BitVec 32) : sProp 𝕄 :=
  iprop((rawL d L ↦{fullShare} fr) ∗ (wLoc d L ↦{q} fw) ∗ semVal (thr d L, .dma cc0_scratch6.sem) 0 ∗ Owes d L O ∗ Ev d L O)

theorem st_spanP {α : Type} {Q : α → sProp 𝕄} (hS : Span a b) (O : CellTallies nD τ sig (HIx 1)) {fe : S49216.Idx → BitVec 32} {k : PUnit → TP (F := F) L α} {R : sProp 𝕄}
    (H : ∀ fr' fe', (∀ i < 4096 * chunks a b, expN fe' i = wbyte fw (a.toNat / 4096 * 4096 + i)) →
      iprop(Sp d L O q fw fr' ∗ (expL d L ↦{fullShare} fe') ∗ R) ⊢ WP d L (k ⟨⟩) Q) :
    iprop(Sp d L O q fw fr ∗ (expL d L ↦{fullShare} fe) ∗ R) ⊢ WP d L (spanP L a b hw >>= k) Q := by
  have h12 := hS.chunks_le
  have e3 := hS.t3
  have e7 := hS.t7
  unfold spanP
  simp only [bind_assoc]
  rw [for_none (t4_none a b), for_none (t6_none a b)]
  unfold Sp
  have step3 : iprop(bigSep Finset.univ (Deliv (F := F) a b hw fw fr q d L) ∗ semVal (thr d L, .dma cc0_scratch6.sem) 0 ∗ Owes d L O ∗ (Rest (F := F) a b hw fw fr q d L ∗ (expL d L ↦{fullShare} fe) ∗ Ev d L O ∗ R))
      ⊢ WP d L ((Scf.Loop.for (k0_t7_loop a b) (k0_t7_ok a b hw) ⟨⟩ fun t _ => expandP L (rows7 a b t) (rows7_inb a b hw t)
        (fun j c => k0_off13 a b t (BitVec.ofNat 32 (128 * c.val)) (BitVec.ofNat 32 (16 * j.val))) (fun j c => k0_off13_inb a b hw t c j)) >>= fun _ =>
        (Scf.Loop.for (k0_t8_loop a b) (k0_t8_ok a b hw) ⟨⟩ fun t _ => expandP L (rows8 a b t) (rows8_inb a b hw t)
        (fun j c => k0_off22 a b t (BitVec.ofNat 32 (128 * c.val)) (BitVec.ofNat 32 (16 * j.val))) (fun j c => k0_off22_inb a b hw t c j)) >>= k) Q := by
    iintro ⟨HD, Hv, HO, HRest, He, #Hmw, HR⟩
    ihave HJ := (span_join hw fw fr q hS) $$ [HD HRest]
    · isplitl [HD] <;> iassumption
    icases HJ with ⟨Hr, Hw⟩
    iapply (st_expands (fr := landed fw fr (a.toNat / 4096 * 8) (k0_t3_loop a b).trips) (fe := fe) a b hw (by rw [e7]; omega)
      (R := iprop((wLoc d L ↦{q} fw) ∗ semVal (thr d L, .dma cc0_scratch6.sem) 0 ∗ Owes d L O ∗ Ev d L O ∗ R)) fun fe' hE => ?_) $$ [Hr He Hw Hv HO HR]
    · rw [for_none (t8_none a b)]
      unfold Ex
      iintro ⟨⟨Hr, He⟩, Hw, Hv, HO, #Hmw, HR⟩
      iapply (H (landed fw fr (a.toNat / 4096 * 8) (k0_t3_loop a b).trips) fe' fun i hi => ?_)
      rotate_left
      · unfold Sp
        isplitl [Hr Hw Hv HO]
        · isplitl [Hr]; · iexact Hr
          isplitl [Hw]; · iexact Hw
          isplitl [Hv]; · iexact Hv
          isplitl [HO]; · iexact HO
          iexact Hmw
        isplitl [He] <;> iassumption
      rw [hE i (by rw [e7]; omega) (by omega)]
      unfold wantB wbyte rawN
      have hm : i % 128 < 128 := Nat.mod_lt _ (by omega)
      rw [dif_pos ⟨by omega, hm⟩]
      unfold landed
      rw [if_pos (show i / 512 < 8 * (k0_t3_loop a b).trips by omega)]
      show wordN fw (a.toNat / 4096 * 8 + i / 512) (i % 128) >>> _ = _
      rw [show (a.toNat / 4096 * 4096 + i) / 512 = a.toNat / 4096 * 8 + i / 512 by omega, show (a.toNat / 4096 * 4096 + i) % 128 = i % 128 by omega,
        show (a.toNat / 4096 * 4096 + i) % 512 / 128 = i % 512 / 128 by omega]
    · unfold Ex
      isplitl [Hr He]
      · isplitl [Hr] <;> iassumption
      isplitl [Hw]; · iexact Hw
      isplitl [Hv]; · iexact Hv
      isplitl [HO]; · iexact HO
      isplitr; · iexact Hmw
      iexact HR
  iintro ⟨⟨Hr, Hw, Hv, HO, #Hmw⟩, He, HR⟩
  ihave HJ := (span_split hw fw fr q hS) $$ [Hr Hw]
  · isplitl [Hr] <;> iassumption
  icases HJ with ⟨HP, HRest⟩
  iapply (st_starts a b hw fw fr q hS (R := iprop(Owes d L O ∗ Ev d L O ∗ (Rest (F := F) a b hw fw fr q d L ∗ (expL d L ↦{fullShare} fe) ∗ Ev d L O ∗ R)))
    (st_awaits a b hw fw fr q hS O step3)) $$ [HP HRest Hv HO He HR]
  isplitl [HP]; · iexact HP
  isplitl [Hv]; · iexact Hv
  isplitl [HO]; · iexact HO
  isplitr; · iexact Hmw
  isplitl [HRest]; · iexact HRest
  isplitl [He]; · iexact He
  isplitr; · iexact Hmw
  iexact HR

end

end Cert.Proof.Unpack
end
-- ==== Proof.Place.lean ====
/-
  Where each group of tokens lies, for every tile: its block of window starts, its lane in that block, its rows of the result.
-/
module

public import proofs.«01_k».proof.Proof.Span

@[expose] public section

namespace Cert.Proof.Unpack

open Cert.KernelIdeal Cert.KernelIdeal.Gen
open Idealize.ShloMosaic

/-- The coordinates of a tile: its core and its subcore. -/
def mkL (c : Fin 2) (s : Fin 16) : grid0.Coords := fun | 0 => c | 1 => s | ⟨_ + 2, h⟩ => absurd h (Nat.not_lt.2 (Nat.le_add_left _ _))

theorem mkL_eta (L : grid0.Coords) : ∃ c s, L = mkL c s :=
  ⟨L 0, L 1, by funext a; match a with | 0 => rfl | 1 => rfl | ⟨n + 2, h⟩ => exact absurd h (Nat.not_lt.2 (Nat.le_add_left _ _))⟩

/-- The first token of a group, counted over all planes. -/
def tok0 (L : grid0.Coords) (g : ℕ) : ℕ := 480 * (2 * (L 1).val + (L 0).val) + 8 * g

/-- What is computed of a group's place, once and for all tiles and groups. -/
def PlaceOk (L : grid0.Coords) (g : Fin k0_t2_loop.trips) : Prop :=
  (laneB L g.val).toNat = tok0 L g.val % 128
    ∧ k0_off46 L g = ![tok0 L g.val / 1536, tok0 L g.val % 1536, 0]
    ∧ k0_off63 L g = ![tok0 L g.val / 1536, tok0 L g.val % 1536, 2304]
    ∧ (k0_cond1 L g = 1#1 → k0_off2 L g = ![tok0 L g.val / 1536, 0, 128 * (tok0 L g.val / 128 % 12)] ∧ k0_off3 L g = ![tok0 L g.val / 1536, 128 * (tok0 L g.val / 128 % 12)])
    ∧ (k0_cond1 L g ≠ 1#1 → g.val ≠ 0 ∧ tok0 L (g.val - 1) / 128 = tok0 L g.val / 128)

instance (L : grid0.Coords) (g : Fin k0_t2_loop.trips) : Decidable (PlaceOk L g) := by unfold PlaceOk; infer_instance

set_option maxRecDepth 100000 in
theorem placeOk_all : ∀ c s g, PlaceOk (mkL c s) g := by decide +kernel

theorem placeOk (L : grid0.Coords) (g : Fin k0_t2_loop.trips) : PlaceOk L g := by
  obtain ⟨c, s, rfl⟩ := mkL_eta L
  exact placeOk_all c s g

end Cert.Proof.Unpack
-- ==== Proof.Fetch.lean ====
/-
  The fetch of a block of window starts and scales, the reads of single entries, and the sends of results.
-/
module

public import proofs.«01_k».proof.Proof.Place
public import proofs.«01_k».proof.Proof.Trip

@[expose] public section

noncomputable section

namespace Cert.Proof.Unpack

open Cert.KernelIdeal Cert.KernelIdeal.Gen
open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The window starts and the scales, by plane, window and token. -/
def startN (hf : S10x144x1536.Idx → BitVec 32) (t w k : ℕ) : BitVec 32 :=
  hf (fun | 0 => ⟨t % 10, Nat.mod_lt _ (by decide)⟩ | 1 => ⟨w % 144, Nat.mod_lt _ (by decide)⟩ | 2 => ⟨k % 1536, Nat.mod_lt _ (by decide)⟩)
def scaleN (hs : S10x1536.Idx → F .f32) (t k : ℕ) : F .f32 :=
  hs (fun | 0 => ⟨t % 10, Nat.mod_lt _ (by decide)⟩ | 1 => ⟨k % 1536, Nat.mod_lt _ (by decide)⟩)

/-- A block of window starts, and of scales, is block `β`. -/
def OffIs (hf : S10x144x1536.Idx → BitVec 32) (β : ℕ) (fo : S144x128.Idx → BitVec 32) : Prop :=
  ∀ w < 144, ∀ l < 128, offN fo w l = startN hf (β / 12) w (128 * (β % 12) + l)
def SclIs (hs : S10x1536.Idx → F .f32) (β : ℕ) (fs : S128.Idx → F .f32) : Prop :=
  ∀ l < 128, sclN fs l = scaleN hs (β / 12) (128 * (β % 12) + l)

section

variable {d : Dev nD} {L : grid0.Coords}

theorem st_startP {α : Type} {Q : α → sProp 𝕄} {fo : S144x128.Idx → BitVec 32} {w ln : BitVec 32} (hw : w.toNat < 144) (hl : ln.toNat < 128) {k : BitVec 32 → TP (F := F) L α} {R : sProp 𝕄}
    (H : iprop((offL d L ↦{fullShare} fo) ∗ R) ⊢ WP d L (k (offN fo w.toNat ln.toNat)) Q) :
    iprop((offL d L ↦{fullShare} fo) ∗ R) ⊢ WP d L (startP L w ln >>= k) Q := by
  unfold startP
  simp only [bind_assoc]
  have hc : k0_chk1 (broadcast S16 w) (broadcast S16 ln) := fun a x => match a with
    | 0 => hw
    | 1 => hl
  refine wp_assumeP hc ?_
  have H' : iprop((offL d L ↦{fullShare} fo) ∗ R) ⊢ WP d L (k (laneAt (fun x => offN fo ((broadcast S16 w : IVec S16 32) x).toNat ((broadcast S16 ln : IVec S16 32) x).toNat) 0 slices_S16_o0_S1)) Q := by
    rw [laneAt_eq _ 0 _ (by decide)]
    exact H
  iintro ⟨Ho, HR⟩
  iapply (wp_goff d L (broadcast S16 w) (broadcast S16 ln) (fun _ => hw) (fun _ => hl) fo (k0_idx1_inb _ _ hc) (fun v => pure (laneAt (show IVec S16 32 from v) 0 slices_S16_o0_S1) >>= k)) $$ [Ho]
  · iexact Ho
  iintro Ho
  iapply H'
  isplitl [Ho] <;> iassumption

theorem st_scaleP {α : Type} {Q : α → sProp 𝕄} {fs : S128.Idx → F .f32} {ln j : BitVec 32} (hl : (Scalar.addi ln j).toNat < 128) {k : FVec F S16 .bf16 → TP (F := F) L α} {R : sProp 𝕄}
    (H : iprop((sclL d L ↦{fullShare} fs) ∗ R) ⊢ WP d L (k (fun _ => FloatOps.truncf .bf16 bitsLt_bf16_f32 (sclN fs (Scalar.addi ln j).toNat))) Q) :
    iprop((sclL d L ↦{fullShare} fs) ∗ R) ⊢ WP d L (scaleP L ln j >>= k) Q := by
  unfold scaleP
  simp only [bind_assoc]
  have hc : k0_chk5 (broadcast S16 (Scalar.addi ln j)) := fun a x => match a with | 0 => hl
  refine wp_assumeP hc ?_
  iintro ⟨Ho, HR⟩
  iapply (wp_gscl d L (broadcast S16 (Scalar.addi ln j)) (fun _ => hl) fs (k0_idx3_inb _ hc) (fun v => pure (truncf .bf16 v bitsLt_bf16_f32) >>= k)) $$ [Ho]
  · iexact Ho
  iintro Ho
  iapply H
  isplitl [Ho] <;> iassumption

/-- The arrays of window starts, of scales and of results. -/
abbrev oLoc (d : Dev nD) (L : grid0.Coords) : Loc nD τ sig := (thr d L).loc main_v0_scv
abbrev sLoc (d : Dev nD) (L : grid0.Coords) : Loc nD τ sig := (thr d L).loc main_arg2_scv
abbrev rLoc (d : Dev nD) (L : grid0.Coords) : Loc nD τ sig := (thr d L).loc main_v20_scv

theorem off_lands (g : Fin k0_t2_loop.trips) (h : k0_cond1 L g = 1#1) (hf : S10x144x1536.Idx → BitVec 32) (fd : S144x128.Idx → BitVec 32) :
    OffIs hf (tok0 L g.val / 128) ((offM).view.write (Elt F) fd ((srcOff L g h).view.read (Elt F) hf) Finset.univ) := by
  obtain ⟨e2, -⟩ := (placeOk L g).2.2.2.1 h
  have hin := k0_off2_inb L g h
  intro w hw l hl
  unfold offN
  rw [dif_pos ⟨hw, hl⟩]
  suffices hm : ∀ y : S144x128.Idx, (y 0).val = w → (y 1).val = l → (offM).view.write (Elt F) fd ((srcOff L g h).view.read (Elt F) hf) Finset.univ ((offM).view.emb y)
      = startN hf (tok0 L g.val / 128 / 12) w (128 * (tok0 L g.val / 128 % 12) + l) from hm (fun | 0 => ⟨w, hw⟩ | 1 => ⟨l, hl⟩) rfl rfl
  intro y y0 y1
  refine ((View.write_emb_of_mem (Val := Elt F) (v := (offM).view) fd ((srcOff L g h).view.read (Elt F) hf) (Finset.mem_univ y)).trans (cast_eq _ _)).trans ?_
  have b0 := hin 0
  have b2 := hin 2
  rw [e2] at b0 b2
  change tok0 L g.val / 1536 + 1 ≤ 10 at b0
  change 128 * (tok0 L g.val / 128 % 12) + 128 ≤ 1536 at b2
  have hix : Shape.reshapeEquiv (s := S1x144x128) (s' := S144x128) squeezes_S1x144x128_S144x128.numel_eq y = Fin.cons ⟨0, Nat.one_pos⟩ y := Shape.reshapeEquiv_cons_one _ y
  have key : ∀ a, ((srcOff L g h).view.emb y a).val = k0_off2 L g a + 1 * (Shape.reshapeEquiv (s := S1x144x128) (s' := S144x128) squeezes_S1x144x128_S144x128.numel_eq y a).val := fun a => rfl
  show hf ((srcOff L g h).view.emb y) = _
  unfold startN
  congr 1
  funext a
  apply Fin.ext
  refine (key a).trans ?_
  rw [hix, e2]
  match a with
  | 0 => show tok0 L g.val / 1536 + 1 * 0 = (tok0 L g.val / 128 / 12) % 10; omega
  | 1 => show 0 + 1 * (y 0).val = w % 144; omega
  | 2 => show 128 * (tok0 L g.val / 128 % 12) + 1 * (y 1).val = _ % 1536; omega

theorem scl_lands (g : Fin k0_t2_loop.trips) (h : k0_cond1 L g = 1#1) (hs : S10x1536.Idx → F .f32) (fd : S128.Idx → F .f32) :
    SclIs hs (tok0 L g.val / 128) ((sclM).view.write (Elt F) fd ((srcScl L g h).view.read (Elt F) hs) Finset.univ) := by
  obtain ⟨-, e2⟩ := (placeOk L g).2.2.2.1 h
  have hin := k0_off3_inb L g h
  intro l hl
  unfold sclN
  rw [dif_pos hl]
  suffices hm : ∀ y : S128.Idx, (y 0).val = l → (sclM).view.write (Elt F) fd ((srcScl L g h).view.read (Elt F) hs) Finset.univ ((sclM).view.emb y)
      = scaleN hs (tok0 L g.val / 128 / 12) (128 * (tok0 L g.val / 128 % 12) + l) from hm (fun | 0 => ⟨l, hl⟩) rfl
  intro y y0
  refine ((View.write_emb_of_mem (Val := Elt F) (v := (sclM).view) fd ((srcScl L g h).view.read (Elt F) hs) (Finset.mem_univ y)).trans (cast_eq _ _)).trans ?_
  have b0 := hin 0
  have b2 := hin 1
  rw [e2] at b0 b2
  change tok0 L g.val / 1536 + 1 ≤ 10 at b0
  change 128 * (tok0 L g.val / 128 % 12) + 128 ≤ 1536 at b2
  have hix : Shape.reshapeEquiv (s := S1x128) (s' := S128) squeezes_S1x128_S128.numel_eq y = Fin.cons ⟨0, Nat.one_pos⟩ y := Shape.reshapeEquiv_cons_one _ y
  have key : ∀ a, ((srcScl L g h).view.emb y a).val = k0_off3 L g a + 1 * (Shape.reshapeEquiv (s := S1x128) (s' := S128) squeezes_S1x128_S128.numel_eq y a).val := fun a => rfl
  show hs ((srcScl L g h).view.emb y) = _
  unfold scaleN
  congr 1
  funext a
  apply Fin.ext
  refine (key a).trans ?_
  rw [hix, e2]
  match a with
  | 0 => show tok0 L g.val / 1536 + 1 * 0 = (tok0 L g.val / 128 / 12) % 10; omega
  | 1 => show 128 * (tok0 L g.val / 128 % 12) + 1 * (y 0).val = _ % 1536; omega

/-- What a fetch holds. -/
def Fe (d : Dev nD) (L : grid0.Coords) (O : CellTallies nD τ sig (HIx 1)) (q : PosShare TreeShare) (hf : S10x144x1536.Idx → BitVec 32) (hs : S10x1536.Idx → F .f32)
    (fo : S144x128.Idx → BitVec 32) (fs : S128.Idx → F .f32) : sProp 𝕄 :=
  iprop((offL d L ↦{fullShare} fo) ∗ (sclL d L ↦{fullShare} fs) ∗ (oLoc d L ↦{q} hf) ∗ (sLoc d L ↦{q} hs)
    ∗ semVal (thr d L, .dma cc0_scoped0.sem) 0 ∗ semVal (thr d L, .dma cc0_scoped1.sem) 0 ∗ Owes d L O ∗ Ev d L O)

theorem st_fetchP {α : Type} {Q : α → sProp 𝕄} (O : CellTallies nD τ sig (HIx 1)) (q : PosShare TreeShare) (hf : S10x144x1536.Idx → BitVec 32) (hs : S10x1536.Idx → F .f32)
    {fo : S144x128.Idx → BitVec 32} {fs : S128.Idx → F .f32} (g : Fin k0_t2_loop.trips)
    (hprev : g.val ≠ 0 → OffIs hf (tok0 L (g.val - 1) / 128) fo ∧ SclIs hs (tok0 L (g.val - 1) / 128) fs) {k : PUnit → TP (F := F) L α} {R : sProp 𝕄}
    (H : ∀ fo' fs', OffIs hf (tok0 L g.val / 128) fo' → SclIs hs (tok0 L g.val / 128) fs' → iprop(Fe d L O q hf hs fo' fs' ∗ R) ⊢ WP d L (k ⟨⟩) Q) :
    iprop(Fe d L O q hf hs fo fs ∗ R) ⊢ WP d L (fetchP L g >>= k) Q := by
  unfold fetchP
  split
  case isFalse h =>
    obtain ⟨h0, e⟩ := (placeOk L g).2.2.2.2 h
    rw [e] at hprev
    exact H fo fs (hprev h0).1 (hprev h0).2
  case isTrue h =>
    simp only [bind_assoc]
    have H' := H _ _ (off_lands (F := F) g h hf fo) (scl_lands (F := F) g h hs fs)
    unfold Fe at H' ⊢
    have e1 := (pointsTo_split_subset (Ix := HIx 1) (Val := Elt F) (Name := ℕ) (U := UU) (Lvl := ℕ) (ℓ := oLoc d L) (q := q) (f := hf) (Finset.subset_univ ((srcOff L g h).view.set)))
    have e2 := (pointsTo_split_subset (Ix := HIx 1) (Val := Elt F) (Name := ℕ) (U := UU) (Lvl := ℕ) (ℓ := sLoc d L) (q := q) (f := hs) (Finset.subset_univ ((srcScl L g h).view.set)))
    iintro ⟨⟨Ho, Hs, Hf, Hc, Hv0, Hv1, HO, #Hmw⟩, HR⟩
    ihave Hf2 := e1.1 $$ Hf
    icases Hf2 with ⟨Hfa, Hfb⟩
    ihave Hc2 := e2.1 $$ Hc
    icases Hc2 with ⟨Hca, Hcb⟩
    iapply (wp_copy (L := L) (src := srcOff L g h) (dst := offM) (sem := cc0_scoped0.sem) (Sd := Finset.univ) (fs := hf) (fd := fo) (by decide) (Finset.subset_univ _) O _) $$ [Hfa Ho Hv0 HO]
    · isplitl [Hfa]; · iexact Hfa
      isplitl [Ho]; · iexact Ho
      isplitl [Hv0]; · iexact Hv0
      isplitl [HO]; · iexact HO
      iexact Hmw
    iintro ⟨Ho, Hfa, Hv0, HO⟩
    iapply (wp_copy (L := L) (src := srcScl L g h) (dst := sclM) (sem := cc0_scoped1.sem) (Sd := Finset.univ) (fs := hs) (fd := fs) (by decide) (Finset.subset_univ _) O _) $$ [Hca Hs Hv1 HO]
    · isplitl [Hca]; · iexact Hca
      isplitl [Hs]; · iexact Hs
      isplitl [Hv1]; · iexact Hv1
      isplitl [HO]; · iexact HO
      iexact Hmw
    iintro ⟨Hs, Hca, Hv1, HO⟩
    ihave Hf := e1.2 $$ [Hfa Hfb]
    · isplitl [Hfa] <;> iassumption
    ihave Hc := e2.2 $$ [Hca Hcb]
    · isplitl [Hca] <;> iassumption
    iapply H'
    isplitr [HR]
    · isplitl [Ho]; · iexact Ho
      isplitl [Hs]; · iexact Hs
      isplitl [Hf]; · iexact Hf
      isplitl [Hc]; · iexact Hc
      isplitl [Hv0]; · iexact Hv0
      isplitl [Hv1]; · iexact Hv1
      isplitl [HO]; · iexact HO
      iexact Hmw
    · iexact HR

/-- The result of the tiles: the value of every element of every token. -/
def outW (fw : S155520x128.Idx → BitVec 32) (hf : S10x144x1536.Idx → BitVec 32) (hs : S10x1536.Idx → F .f32) (i : S10x1536x4608.Idx) : F .f32 :=
  valB (codeE (fun n => (wbyte fw n).setWidth 8) (startN hf (i 0).val ((i 2).val / 32) (i 1).val).toNat ((i 2).val % 32))
    (FloatOps.truncf .bf16 bitsLt_bf16_f32 (scaleN hs (i 0).val (i 1).val))

/-- One piece of the result: eight rows of 2304 columns from `(t, k, c)`. -/
abbrev outAt (o : Fin 3 → ℕ) (h : ∀ a, o a + S1x8x2304.size a ≤ S10x1536x4608.size a) : Memref sig .scVector .hbm S8x2304 .f32 :=
  (oM.slice (Rect.unit (s := S10x1536x4608) o S1x8x2304.size h) (fun _ => rfl)).squeeze S8x2304 squeezes_S1x8x2304_S8x2304

theorem outAt_emb (o : Fin 3 → ℕ) (h : ∀ a, o a + S1x8x2304.size a ≤ S10x1536x4608.size a) (y : S8x2304.Idx) :
    ((outAt o h).view.emb y 0).val = o 0 ∧ ((outAt o h).view.emb y 1).val = o 1 + (y 0).val ∧ ((outAt o h).view.emb y 2).val = o 2 + (y 1).val := by
  have hix : Shape.reshapeEquiv (s := S1x8x2304) (s' := S8x2304) squeezes_S1x8x2304_S8x2304.numel_eq y = Fin.cons ⟨0, Nat.one_pos⟩ y := Shape.reshapeEquiv_cons_one _ y
  have key : ∀ a, ((outAt o h).view.emb y a).val = o a + 1 * (Shape.reshapeEquiv (s := S1x8x2304) (s' := S8x2304) squeezes_S1x8x2304_S8x2304.numel_eq y a).val := fun a => rfl
  refine ⟨(key 0).trans ?_, (key 1).trans ?_, (key 2).trans ?_⟩ <;> rw [hix]
  · rfl
  · show _ + 1 * (y 0).val = _; omega
  · show _ + 1 * (y 1).val = _; omega

theorem mem_outAt (o : Fin 3 → ℕ) (h : ∀ a, o a + S1x8x2304.size a ≤ S10x1536x4608.size a) (i : S10x1536x4608.Idx) :
    i ∈ (outAt o h).view.set ↔ ((i 0).val = o 0 ∧ o 1 ≤ (i 1).val ∧ (i 1).val < o 1 + 8 ∧ o 2 ≤ (i 2).val ∧ (i 2).val < o 2 + 2304) := by
  constructor
  · intro hi
    obtain ⟨y, -, rfl⟩ := Finset.mem_map.mp hi
    obtain ⟨e0, e1, e2⟩ := outAt_emb o h y
    have h0 : (y 0).val < 8 := (y 0).isLt
    have h1 : (y 1).val < 2304 := (y 1).isLt
    omega
  · rintro ⟨h0, h1, h2, h3, h4⟩
    have hy : ∀ y : S8x2304.Idx, (y 0).val = (i 1).val - o 1 → (y 1).val = (i 2).val - o 2 → (outAt o h).view.emb y = i := by
      intro y y0 y1
      obtain ⟨e0, e1, e2⟩ := outAt_emb o h y
      funext a
      apply Fin.ext
      match a with
      | 0 => exact e0.trans h0.symm
      | 1 => exact e1.trans (by omega)
      | 2 => exact e2.trans (by omega)
    exact Finset.mem_map.mpr ⟨_, Finset.mem_univ _, hy (fun | 0 => ⟨(i 1).val - o 1, show _ < 8 by omega⟩ | 1 => ⟨(i 2).val - o 2, show _ < 2304 by omega⟩) rfl rfl⟩

/-- What a sent piece leaves of the array: the piece's own elements, and the others as they were. -/
theorem out_lands (o : Fin 3 → ℕ) (h : ∀ a, o a + S1x8x2304.size a ≤ S10x1536x4608.size a) (fd W : S10x1536x4608.Idx → F .f32) (g : S8x2304.Idx → F .f32)
    (hg : ∀ i : S10x1536x4608.Idx, i ∈ (outAt o h).view.set → ∀ y : S8x2304.Idx, (i 1).val = o 1 + (y 0).val → (i 2).val = o 2 + (y 1).val → g y = W i) (i : S10x1536x4608.Idx) :
    ((outAt o h).view.write (Elt F) fd ((outM).view.read (Elt F) g) Finset.univ) i
      = if ((i 0).val = o 0 ∧ o 1 ≤ (i 1).val ∧ (i 1).val < o 1 + 8 ∧ o 2 ≤ (i 2).val ∧ (i 2).val < o 2 + 2304) then W i else fd i := by
  split
  case isTrue hc =>
    have hi := (mem_outAt o h i).mpr hc
    obtain ⟨y, -, rfl⟩ := Finset.mem_map.mp hi
    refine ((View.write_emb_of_mem (Val := Elt F) (v := (outAt o h).view) fd ((outM).view.read (Elt F) g) (Finset.mem_univ y)).trans (cast_eq _ _)).trans ?_
    exact hg _ hi y (outAt_emb o h y).2.1 (outAt_emb o h y).2.2
  case isFalse hc =>
    exact View.write_of_not_mem (Val := Elt F) (v := (outAt o h).view) fd _ _ fun hi => hc ((mem_outAt o h i).mp hi)

/-- What a send holds. -/
def Se (d : Dev nD) (L : grid0.Coords) (O : CellTallies nD τ sig (HIx 1)) (s : DmaSem sig) (Sd : Finset S10x1536x4608.Idx) (g : S8x2304.Idx → F .f32) (fd : S10x1536x4608.Idx → F .f32) : sProp 𝕄 :=
  iprop((outL d L ↦{fullShare} g) ∗ (rLoc d L ↦[Sd]{fullShare} fd) ∗ semVal (thr d L, .dma s) 0 ∗ Owes d L O ∗ Ev d L O)

theorem send_copy {α : Type} {Q : α → sProp 𝕄} (O : CellTallies nD τ sig (HIx 1)) (o : Fin 3 → ℕ) (h : ∀ a, o a + S1x8x2304.size a ≤ S10x1536x4608.size a) (ho : (outAt o h).view.WordExact) (s : DmaSems sig S_)
    (Sd : Finset S10x1536x4608.Idx) (hSd : (outAt o h).view.set ⊆ Sd) {g : S8x2304.Idx → F .f32} {fd : S10x1536x4608.Idx → F .f32} (k : PUnit → TP (F := F) L α) :
    iprop((outL d L ↦{fullShare} g) ∗ (rLoc d L ↦[Sd]{fullShare} fd) ∗ semVal (thr d L, .dma s.sem) 0 ∗ Owes d L O ∗ Ev d L O)
      ⊢ iprop((iprop((rLoc d L ↦[Sd]{fullShare} ((outAt o h).view.write (Elt F) fd ((outM).view.read (Elt F) g) Finset.univ))
            ∗ (outL d L ↦{fullShare} g) ∗ semVal (thr d L, .dma s.sem) 0 ∗ Owes d L O) -∗ WP d L (k ⟨⟩) Q)
        -∗ WP d L (sendP L (outAt o h) ho s >>= k) Q) := by
  unfold sendP
  simp only [bind_assoc]
  have hc := wp_copy (Q := Q) (L := L) (d := d) (src := outM) (dst := outAt o h) (sem := s.sem) (hsrc := outE) (hsrc' := outE) (hdst := ho) (hdst' := ho) (hsem := ⟨Or.inl rfl, trivial⟩)
    (q := fullShare) (Sd := Sd) (fs := g) (fd := fd) (by decide) hSd O k
  rw [(Memref.isWhole_whole cc0_scratch5).set_eq_univ] at hc
  exact hc

theorem st_sendP {α : Type} {Q : α → sProp 𝕄} (O : CellTallies nD τ sig (HIx 1)) (o : Fin 3 → ℕ) (h : ∀ a, o a + S1x8x2304.size a ≤ S10x1536x4608.size a) (ho : (outAt o h).view.WordExact) (s : DmaSems sig S_)
    (Sd : Finset S10x1536x4608.Idx) (hSd : (outAt o h).view.set ⊆ Sd) {g : S8x2304.Idx → F .f32} {fd fd' : S10x1536x4608.Idx → F .f32}
    (hfd : (outAt o h).view.write (Elt F) fd ((outM).view.read (Elt F) g) Finset.univ = fd') {k : PUnit → TP (F := F) L α} {R : sProp 𝕄}
    (H : iprop(Se d L O s.sem Sd g fd' ∗ R) ⊢ WP d L (k ⟨⟩) Q) :
    iprop(Se d L O s.sem Sd g fd ∗ R) ⊢ WP d L (sendP L (outAt o h) ho s >>= k) Q := by
  unfold Se at H ⊢
  have hc := send_copy (Q := Q) (L := L) (d := d) O o h ho s Sd hSd (g := g) (fd := fd) k
  rw [hfd] at hc
  iintro ⟨⟨Hg, Hr, Hv, HO, #Hmw⟩, HR⟩
  iapply hc $$ [Hg Hr Hv HO]
  · isplitl [Hg]; · iexact Hg
    isplitl [Hr]; · iexact Hr
    isplitl [Hv]; · iexact Hv
    isplitl [HO]; · iexact HO
    iexact Hmw
  iintro ⟨Hr, Hg, Hv, HO⟩
  iapply H
  isplitr [HR]
  · isplitl [Hg]; · iexact Hg
    isplitl [Hr]; · iexact Hr
    isplitl [Hv]; · iexact Hv
    isplitl [HO]; · iexact HO
    iexact Hmw
  · iexact HR

end

end Cert.Proof.Unpack
end
-- ==== Proof.Group.lean ====
/-
  One group of eight tokens: fetched, expanded, decoded, sent.
-/
module

public import proofs.«01_k».proof.Proof.Fetch
public import proofs.«01_k».proof.Proof.Expand

@[expose] public section

noncomputable section

namespace Cert.Proof.Unpack

open Cert.KernelIdeal Cert.KernelIdeal.Gen
open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

instance sepAssoc : Std.Associative (BIBase.sep : sProp 𝕄 → sProp 𝕄 → sProp 𝕄) := ⟨fun _ _ _ => equiv_iff.mp ⟨BI.sep_assoc, BI.sep_assoc'⟩⟩
instance sepComm : Std.Commutative (BIBase.sep : sProp 𝕄 → sProp 𝕄 → sProp 𝕄) := ⟨fun _ _ => equiv_iff.mp ⟨BI.sep_comm, BI.sep_comm⟩⟩

theorem reorder {A B X : sProp 𝕄} (h : A = B) (H : B ⊢ X) : A ⊢ X := h ▸ H

/-- Every group's window starts lie in its span, and the span in its buffer and in the stream. -/
def SpanOk (hf : S10x144x1536.Idx → BitVec 32) : Prop :=
  ∀ t < 10, ∀ k, k + 8 ≤ 1536 → k % 8 = 0 → Span (startN hf t 0 k) (startN hf t 143 (k + 7))
    ∧ ∀ w < 144, ∀ j < 8, (startN hf t 0 k).toNat ≤ (startN hf t w (k + j)).toNat ∧ (startN hf t w (k + j)).toNat ≤ (startN hf t 143 (k + 7)).toNat

section

variable {d : Dev nD} {L : grid0.Coords}

theorem tok0_lt (L : grid0.Coords) (g : Fin k0_t2_loop.trips) : tok0 L g.val + 8 ≤ 480 * (2 * (L 1).val + (L 0).val) + 480 ∧ tok0 L g.val + 8 ≤ 15360 ∧ tok0 L g.val % 8 = 0 := by
  have h0 : (L 0).val < 2 := (L 0).isLt
  have h1 : (L 1).val < 16 := (L 1).isLt
  have h2 : g.val < 60 := g.isLt
  unfold tok0
  omega

theorem start_eq {hf : S10x144x1536.Idx → BitVec 32} {fo : S144x128.Idx → BitVec 32} (g : Fin k0_t2_loop.trips) (hO : OffIs hf (tok0 L g.val / 128) fo) (w : ℕ) (hw : w < 144) (j : ℕ) (hj : j < 8) :
    offN fo w ((laneB L g.val).toNat + j) = startN hf (tok0 L g.val / 1536) w (tok0 L g.val % 1536 + j) := by
  have ht := tok0_lt L g
  rw [(placeOk L g).1, hO w hw _ (by omega)]
  congr 1 <;> omega

theorem scale_eq {hs : S10x1536.Idx → F .f32} {fs : S128.Idx → F .f32} (g : Fin k0_t2_loop.trips) (hO : SclIs hs (tok0 L g.val / 128) fs) (j : ℕ) (hj : j < 8) :
    sclN fs ((laneB L g.val).toNat + j) = scaleN hs (tok0 L g.val / 1536) (tok0 L g.val % 1536 + j) := by
  have ht := tok0_lt L g
  rw [(placeOk L g).1, hO _ (by omega)]
  congr 1 <;> omega

theorem lane_addi (g : Fin k0_t2_loop.trips) (j : ℕ) (hj : j < 8) : (Scalar.addi (laneB L g.val) (BitVec.ofNat 32 j)).toNat = (laneB L g.val).toNat + j := by
  have ht := tok0_lt L g
  have e := (placeOk L g).1
  show (_ + _ : BitVec 32).toNat = _
  rw [BitVec.toNat_add, BitVec.toNat_ofNat]
  omega

theorem lane_last (g : Fin k0_t2_loop.trips) : (Scalar.subi (Scalar.addi (laneB L g.val) 8#32) 1#32).toNat = (laneB L g.val).toNat + 7 := by
  have ht := tok0_lt L g
  have e := (placeOk L g).1
  show (_ + 8#32 - 1#32 : BitVec 32).toNat = _
  rw [BitVec.toNat_sub, BitVec.toNat_add]
  simp only [BitVec.toNat_ofNat]
  omega

/-- The bytes of the stream from a span's first chunk on. -/
def bytesFrom (fw : S155520x128.Idx → BitVec 32) (a : BitVec 32) (i : ℕ) : BitVec 8 := (wbyte fw (a.toNat / 4096 * 4096 + i)).setWidth 8

variable {hf : S10x144x1536.Idx → BitVec 32} {fw : S155520x128.Idx → BitVec 32} {fo : S144x128.Idx → BitVec 32} {fe : S49216.Idx → BitVec 32} {fp : S256.Idx → BitVec 32}

theorem group_span (hP : SpanOk hf) (g : Fin k0_t2_loop.trips) (hO : OffIs hf (tok0 L g.val / 128) fo) :
    Span (offN fo 0 (laneB L g.val).toNat) (offN fo 143 ((laneB L g.val).toNat + 7)) := by
  have ht := tok0_lt L g
  have h := (hP (tok0 L g.val / 1536) (by omega) (tok0 L g.val % 1536) (by omega) (by omega)).1
  have e0 := start_eq g hO 0 (by omega) 0 (by omega)
  rw [Nat.add_zero, Nat.add_zero] at e0
  rw [e0, start_eq g hO 143 (by omega) 7 (by omega)]
  exact h

theorem group_rel (hP : SpanOk hf) (g : Fin k0_t2_loop.trips) (hO : OffIs hf (tok0 L g.val / 128) fo) (w : ℕ) (hw : w < 144) (j : ℕ) (hj : j < 8) :
    (offN fo 0 (laneB L g.val).toNat).toNat / 4096 * 4096 + relOf fo (baseB (offN fo 0 (laneB L g.val).toNat)) (laneB L g.val).toNat w j
        = (startN hf (tok0 L g.val / 1536) w (tok0 L g.val % 1536 + j)).toNat
      ∧ relOf fo (baseB (offN fo 0 (laneB L g.val).toNat)) (laneB L g.val).toNat w j + 36
        ≤ 4096 * chunks (offN fo 0 (laneB L g.val).toNat) (offN fo 143 ((laneB L g.val).toNat + 7)) := by
  have ht := tok0_lt L g
  have hS := group_span hP g hO
  have h := (hP (tok0 L g.val / 1536) (by omega) (tok0 L g.val % 1536) (by omega) (by omega)).2 w hw j hj
  have e0 := start_eq g hO 0 (by omega) 0 (by omega)
  rw [Nat.add_zero, Nat.add_zero] at e0
  have e := start_eq g hO w hw j hj
  have e7 := start_eq g hO 143 (by omega) 7 (by omega)
  rw [← e, ← e0, ← e7] at h
  have hr := hS.rel _ h.1 h.2
  unfold relOf
  rw [← e]
  refine ⟨?_, hr.2⟩
  rw [hr.1]
  have := h.1
  omega

theorem group_dec (hP : SpanOk hf) (g : Fin k0_t2_loop.trips) (hO : OffIs hf (tok0 L g.val / 128) fo) (hpop : PopTo 256 fp)
    (hE : ∀ i < 4096 * chunks (offN fo 0 (laneB L g.val).toNat) (offN fo 143 ((laneB L g.val).toNat + 7)), expN fe i = wbyte fw ((offN fo 0 (laneB L g.val).toNat).toNat / 4096 * 4096 + i)) :
    DecOk fo fe fp (laneB L g.val) (baseB (offN fo 0 (laneB L g.val).toNat)) (bytesFrom fw (offN fo 0 (laneB L g.val).toNat)) := by
  have ht := tok0_lt L g
  have h12 := (group_span hP g hO).chunks_le
  refine ⟨?_, hpop, fun w hw j hj => ?_, fun w hw j hj i h1 h2 => ?_⟩
  · rw [(placeOk L g).1]; omega
  · have := (group_rel hP g hO w hw j hj).2; omega
  · have := (group_rel hP g hO w hw j hj).2
    rw [hE i (by omega)]
    rfl

/-- The block of results a half leaves is the result's own elements. -/
theorem group_tgt (hP : SpanOk hf) (g : Fin k0_t2_loop.trips) (hO : OffIs hf (tok0 L g.val / 128) fo) (hs : S10x1536.Idx → F .f32) (hN : ℕ) (hh : hN = 0 ∨ hN = 72)
    (i : S10x1536x4608.Idx) (y : S8x2304.Idx) (h0 : (i 0).val = tok0 L g.val / 1536) (h1 : (i 1).val = tok0 L g.val % 1536 + (y 0).val) (h2 : (i 2).val = 32 * hN + (y 1).val) :
    tgt (F := F) fo (baseB (offN fo 0 (laneB L g.val).toNat)) (laneB L g.val).toNat hN (bytesFrom fw (offN fo 0 (laneB L g.val).toNat))
      (fun j => FloatOps.truncf .bf16 bitsLt_bf16_f32 (scaleN hs (tok0 L g.val / 1536) (tok0 L g.val % 1536 + j))) (y 0).val (y 1).val = outW fw hf hs i := by
  have y0 : (y 0).val < 8 := (y 0).isLt
  have y1 : (y 1).val < 2304 := (y 1).isLt
  unfold tgt outW
  have hw : hN + (y 1).val / 32 < 144 := by omega
  have e : (i 2).val / 32 = hN + (y 1).val / 32 := by omega
  have e' : (i 2).val % 32 = (y 1).val % 32 := by omega
  rw [e, e', h0, h1, ← (group_rel hP g hO _ hw _ y0).1]
  have h : ∀ a r, codeE (bytesFrom fw a) r ((y 1).val % 32) = codeE (fun n => (wbyte fw n).setWidth 8) (a.toNat / 4096 * 4096 + r) ((y 1).val % 32) := fun a r =>
    codeE_shift (bytesFrom fw a) (fun n => (wbyte fw n).setWidth 8) (a.toNat / 4096 * 4096) r (fun i _ _ => by unfold bytesFrom; rfl) ((y 1).val % 32) (Nat.mod_lt _ (by omega))
  rw [h]

end

section

variable {d : Dev nD} {L : grid0.Coords}

/-- What a tile holds of its own buffers and of the arrays, between groups. -/
def TS (d : Dev nD) (L : grid0.Coords) (O : CellTallies nD τ sig (HIx 1)) (q : PosShare TreeShare) (fw : S155520x128.Idx → BitVec 32) (hf : S10x144x1536.Idx → BitVec 32) (hs : S10x1536.Idx → F .f32)
    (Sd : Finset S10x1536x4608.Idx) (fp : S256.Idx → BitVec 32) (fo : S144x128.Idx → BitVec 32) (fs : S128.Idx → F .f32) (fr : S96x128.Idx → BitVec 32) (fe : S49216.Idx → BitVec 32)
    (go : S8x2304.Idx → F .f32) (fd : S10x1536x4608.Idx → F .f32) : sProp 𝕄 :=
  iprop((offL d L ↦{fullShare} fo) ∗ (sclL d L ↦{fullShare} fs) ∗ (rawL d L ↦{fullShare} fr) ∗ (expL d L ↦{fullShare} fe) ∗ (popL d L ↦{fullShare} fp) ∗ (outL d L ↦{fullShare} go)
    ∗ (wLoc d L ↦{q} fw) ∗ (oLoc d L ↦{q} hf) ∗ (sLoc d L ↦{q} hs) ∗ (rLoc d L ↦[Sd]{fullShare} fd)
    ∗ semVal (thr d L, .dma cc0_scoped0.sem) 0 ∗ semVal (thr d L, .dma cc0_scoped1.sem) 0 ∗ semVal (thr d L, .dma cc0_scoped2.sem) 0 ∗ semVal (thr d L, .dma cc0_scoped3.sem) 0
    ∗ semVal (thr d L, .dma cc0_scratch6.sem) 0 ∗ Owes d L O ∗ Ev d L O)

/-- The result array once a group's rows are written. -/
def wrote (L : grid0.Coords) (g : ℕ) (W fd : S10x1536x4608.Idx → F .f32) (i : S10x1536x4608.Idx) : F .f32 :=
  if tok0 L g ≤ 1536 * (i 0).val + (i 1).val ∧ 1536 * (i 0).val + (i 1).val < tok0 L g + 8 then W i else fd i

theorem st_groupP {α : Type} {Q : α → sProp 𝕄} (O : CellTallies nD τ sig (HIx 1)) (q : PosShare TreeShare) {fw : S155520x128.Idx → BitVec 32} {hf : S10x144x1536.Idx → BitVec 32} {hs : S10x1536.Idx → F .f32}
    (hP : SpanOk hf) (Sd : Finset S10x1536x4608.Idx) (g : Fin k0_t2_loop.trips)
    (hSd : ∀ i : S10x1536x4608.Idx, tok0 L g.val ≤ 1536 * (i 0).val + (i 1).val → 1536 * (i 0).val + (i 1).val < tok0 L g.val + 8 → i ∈ Sd)
    {fp : S256.Idx → BitVec 32} (hpop : PopTo 256 fp) {fo : S144x128.Idx → BitVec 32} {fs : S128.Idx → F .f32} {fr : S96x128.Idx → BitVec 32} {fe : S49216.Idx → BitVec 32}
    {go : S8x2304.Idx → F .f32} {fd : S10x1536x4608.Idx → F .f32}
    (hprev : g.val ≠ 0 → OffIs hf (tok0 L (g.val - 1) / 128) fo ∧ SclIs hs (tok0 L (g.val - 1) / 128) fs) {k : PUnit → TP (F := F) L α}
    (H : ∀ fo' fs' fr' fe' go', OffIs hf (tok0 L g.val / 128) fo' → SclIs hs (tok0 L g.val / 128) fs' →
      TS d L O q fw hf hs Sd fp fo' fs' fr' fe' go' (wrote L g.val (outW fw hf hs) fd) ⊢ WP d L (k ⟨⟩) Q) :
    TS d L O q fw hf hs Sd fp fo fs fr fe go fd ⊢ WP d L (groupP L g >>= k) Q := by
  have ht := tok0_lt L g
  have hln : (laneB L g.val).toNat + 8 ≤ 128 := by rw [(placeOk L g).1]; omega
  unfold groupP
  simp only [bind_assoc]
  -- the block of starts and scales
  refine reorder (B := iprop(Fe d L O q hf hs fo fs ∗ ((rawL d L ↦{fullShare} fr) ∗ (expL d L ↦{fullShare} fe) ∗ (popL d L ↦{fullShare} fp) ∗ (outL d L ↦{fullShare} go)
    ∗ (wLoc d L ↦{q} fw) ∗ (rLoc d L ↦[Sd]{fullShare} fd) ∗ semVal (thr d L, .dma cc0_scoped2.sem) 0 ∗ semVal (thr d L, .dma cc0_scoped3.sem) 0 ∗ semVal (thr d L, .dma cc0_scratch6.sem) 0)))
    (by unfold TS Fe; ac_rfl) (st_fetchP O q hf hs g hprev fun fo' fs' hO hC => ?_)
  -- the two ends of the span
  refine reorder (B := iprop((offL d L ↦{fullShare} fo') ∗ ((sclL d L ↦{fullShare} fs') ∗ (rawL d L ↦{fullShare} fr) ∗ (expL d L ↦{fullShare} fe) ∗ (popL d L ↦{fullShare} fp) ∗ (outL d L ↦{fullShare} go)
    ∗ (wLoc d L ↦{q} fw) ∗ (oLoc d L ↦{q} hf) ∗ (sLoc d L ↦{q} hs) ∗ (rLoc d L ↦[Sd]{fullShare} fd)
    ∗ semVal (thr d L, .dma cc0_scoped0.sem) 0 ∗ semVal (thr d L, .dma cc0_scoped1.sem) 0 ∗ semVal (thr d L, .dma cc0_scoped2.sem) 0 ∗ semVal (thr d L, .dma cc0_scoped3.sem) 0
    ∗ semVal (thr d L, .dma cc0_scratch6.sem) 0 ∗ Owes d L O ∗ Ev d L O)))
    (by unfold Fe; ac_rfl) (st_startP (by decide) (by omega) ?_)
  have hS := group_span hP g hO
  have hD := fun fe' hE => group_dec (fw := fw) (fe := fe') (fp := fp) hP g hO hpop hE
  have hT := fun hN hh i y h0 h1 h2 => group_tgt (F := F) (fw := fw) hP g hO hs hN hh i y h0 h1 h2
  have e7 := lane_last (L := L) g
  rw [show (0#32).toNat = 0 from rfl]
  generalize offN fo' 0 (laneB L g.val).toNat = a at hS hD hT ⊢
  refine wp_assumeP hS.chk3 (st_startP (by decide) (by omega) ?_)
  rw [e7, show (143#32).toNat = 143 from rfl]
  generalize offN fo' 143 ((laneB L g.val).toNat + 7) = b at hS hD ⊢
  refine wp_assumeP hS.chk4 ?_
  -- the span
  refine reorder (B := iprop(Sp d L O q fw fr ∗ (expL d L ↦{fullShare} fe) ∗ ((offL d L ↦{fullShare} fo') ∗ (sclL d L ↦{fullShare} fs') ∗ (popL d L ↦{fullShare} fp) ∗ (outL d L ↦{fullShare} go)
    ∗ (oLoc d L ↦{q} hf) ∗ (sLoc d L ↦{q} hs) ∗ (rLoc d L ↦[Sd]{fullShare} fd)
    ∗ semVal (thr d L, .dma cc0_scoped0.sem) 0 ∗ semVal (thr d L, .dma cc0_scoped1.sem) 0 ∗ semVal (thr d L, .dma cc0_scoped2.sem) 0 ∗ semVal (thr d L, .dma cc0_scoped3.sem) 0)))
    (by unfold Sp; ac_rfl) (st_spanP hS.chk4 fw fr q hS O fun fr' fe' hE => ?_)
  have hD := hD fe' hE
  -- the scales
  refine reorder (B := iprop((sclL d L ↦{fullShare} fs') ∗ ((offL d L ↦{fullShare} fo') ∗ (rawL d L ↦{fullShare} fr') ∗ (expL d L ↦{fullShare} fe') ∗ (popL d L ↦{fullShare} fp) ∗ (outL d L ↦{fullShare} go)
    ∗ (wLoc d L ↦{q} fw) ∗ (oLoc d L ↦{q} hf) ∗ (sLoc d L ↦{q} hs) ∗ (rLoc d L ↦[Sd]{fullShare} fd)
    ∗ semVal (thr d L, .dma cc0_scoped0.sem) 0 ∗ semVal (thr d L, .dma cc0_scoped1.sem) 0 ∗ semVal (thr d L, .dma cc0_scoped2.sem) 0 ∗ semVal (thr d L, .dma cc0_scoped3.sem) 0
    ∗ semVal (thr d L, .dma cc0_scratch6.sem) 0 ∗ Owes d L O ∗ Ev d L O)))
    (by unfold Sp; ac_rfl) ?_
  have hl : ∀ j (_ : j < 8), (Scalar.addi (laneB L g.val) (BitVec.ofNat 32 j)).toNat < 128 := fun j hj => by rw [lane_addi g j hj]; omega
  have hv : ∀ j (_ : j < 8), sclN fs' (Scalar.addi (laneB L g.val) (BitVec.ofNat 32 j)).toNat = scaleN hs (tok0 L g.val / 1536) (tok0 L g.val % 1536 + j) := fun j hj => by
    rw [lane_addi g j hj]; exact scale_eq g hC j hj
  refine st_scaleP (hl 0 (by omega)) ?_
  refine st_scaleP (hl 1 (by omega)) ?_
  refine st_scaleP (hl 2 (by omega)) ?_
  refine st_scaleP (hl 3 (by omega)) ?_
  refine st_scaleP (hl 4 (by omega)) ?_
  refine st_scaleP (hl 5 (by omega)) ?_
  refine st_scaleP (hl 6 (by omega)) ?_
  refine st_scaleP (hl 7 (by omega)) ?_
  rw [hv 0 (by omega), hv 1 (by omega), hv 2 (by omega), hv 3 (by omega), hv 4 (by omega), hv 5 (by omega), hv 6 (by omega), hv 7 (by omega)]
  have hs' : ∀ (j : Fin 8) (x : S16.Idx), (![fun _ => FloatOps.truncf .bf16 bitsLt_bf16_f32 (scaleN hs (tok0 L g.val / 1536) (tok0 L g.val % 1536 + 0)),
      fun _ => FloatOps.truncf .bf16 bitsLt_bf16_f32 (scaleN hs (tok0 L g.val / 1536) (tok0 L g.val % 1536 + 1)),
      fun _ => FloatOps.truncf .bf16 bitsLt_bf16_f32 (scaleN hs (tok0 L g.val / 1536) (tok0 L g.val % 1536 + 2)),
      fun _ => FloatOps.truncf .bf16 bitsLt_bf16_f32 (scaleN hs (tok0 L g.val / 1536) (tok0 L g.val % 1536 + 3)),
      fun _ => FloatOps.truncf .bf16 bitsLt_bf16_f32 (scaleN hs (tok0 L g.val / 1536) (tok0 L g.val % 1536 + 4)),
      fun _ => FloatOps.truncf .bf16 bitsLt_bf16_f32 (scaleN hs (tok0 L g.val / 1536) (tok0 L g.val % 1536 + 5)),
      fun _ => FloatOps.truncf .bf16 bitsLt_bf16_f32 (scaleN hs (tok0 L g.val / 1536) (tok0 L g.val % 1536 + 6)),
      fun _ => FloatOps.truncf .bf16 bitsLt_bf16_f32 (scaleN hs (tok0 L g.val / 1536) (tok0 L g.val % 1536 + 7))] : Fin 8 → FVec F S16 .bf16) j x
      = (fun j : ℕ => FloatOps.truncf .bf16 bitsLt_bf16_f32 (scaleN hs (tok0 L g.val / 1536) (tok0 L g.val % 1536 + j))) j.val := fun j x => match j with
    | 0 => rfl | 1 => rfl | 2 => rfl | 3 => rfl | 4 => rfl | 5 => rfl | 6 => rfl | 7 => rfl
  -- the first half
  refine reorder (B := iprop(St d L fo' fe' fp go ∗ ((sclL d L ↦{fullShare} fs') ∗ (rawL d L ↦{fullShare} fr')
    ∗ (wLoc d L ↦{q} fw) ∗ (oLoc d L ↦{q} hf) ∗ (sLoc d L ↦{q} hs) ∗ (rLoc d L ↦[Sd]{fullShare} fd)
    ∗ semVal (thr d L, .dma cc0_scoped0.sem) 0 ∗ semVal (thr d L, .dma cc0_scoped1.sem) 0 ∗ semVal (thr d L, .dma cc0_scoped2.sem) 0 ∗ semVal (thr d L, .dma cc0_scoped3.sem) 0
    ∗ semVal (thr d L, .dma cc0_scratch6.sem) 0 ∗ Owes d L O ∗ Ev d L O)))
    (by unfold St; ac_rfl) (st_halfP hD 0#32 (Or.inl rfl) (fun j : ℕ => FloatOps.truncf .bf16 bitsLt_bf16_f32 (scaleN hs (tok0 L g.val / 1536) (tok0 L g.val % 1536 + j))) _ hs' fun g1 hg1 => ?_)
  have hA : ∀ i, ((outAt (k0_off46 L g) (k0_off46_inb L g)).view.write (Elt F) fd ((outM).view.read (Elt F) g1) Finset.univ) i = _ :=
    out_lands (k0_off46 L g) (k0_off46_inb L g) fd (outW fw hf hs) g1 (fun i hi y h1 h2 => by
      rw [mem_outAt, (placeOk L g).2.1] at hi
      rw [(placeOk L g).2.1] at h1 h2
      rw [hg1 y]
      exact hT 0 (Or.inl rfl) i y hi.1 h1 (h2.trans (by rfl)))
  have hsubA : (outAt (k0_off46 L g) (k0_off46_inb L g)).view.set ⊆ Sd := fun i hi => by
    rw [mem_outAt, (placeOk L g).2.1] at hi
    have h0 : (i 0).val = tok0 L g.val / 1536 := hi.1
    have h1 : tok0 L g.val % 1536 ≤ (i 1).val := hi.2.1
    have h2 : (i 1).val < tok0 L g.val % 1536 + 8 := hi.2.2.1
    exact hSd i (by omega) (by omega)
  generalize hfA : ((outAt (k0_off46 L g) (k0_off46_inb L g)).view.write (Elt F) fd ((outM).view.read (Elt F) g1) Finset.univ) = fA at hA
  refine reorder (B := iprop(Se d L O cc0_scoped2.sem Sd g1 fd ∗ ((offL d L ↦{fullShare} fo') ∗ (expL d L ↦{fullShare} fe') ∗ (popL d L ↦{fullShare} fp) ∗ (sclL d L ↦{fullShare} fs') ∗ (rawL d L ↦{fullShare} fr')
    ∗ (wLoc d L ↦{q} fw) ∗ (oLoc d L ↦{q} hf) ∗ (sLoc d L ↦{q} hs)
    ∗ semVal (thr d L, .dma cc0_scoped0.sem) 0 ∗ semVal (thr d L, .dma cc0_scoped1.sem) 0 ∗ semVal (thr d L, .dma cc0_scoped3.sem) 0
    ∗ semVal (thr d L, .dma cc0_scratch6.sem) 0)))
    (by unfold St Se; ac_rfl) (st_sendP O (k0_off46 L g) (k0_off46_inb L g) _ cc0_scoped2 Sd hsubA hfA ?_)
  -- the second half
  refine reorder (B := iprop(St d L fo' fe' fp g1 ∗ ((sclL d L ↦{fullShare} fs') ∗ (rawL d L ↦{fullShare} fr')
    ∗ (wLoc d L ↦{q} fw) ∗ (oLoc d L ↦{q} hf) ∗ (sLoc d L ↦{q} hs) ∗ (rLoc d L ↦[Sd]{fullShare} fA)
    ∗ semVal (thr d L, .dma cc0_scoped0.sem) 0 ∗ semVal (thr d L, .dma cc0_scoped1.sem) 0 ∗ semVal (thr d L, .dma cc0_scoped2.sem) 0 ∗ semVal (thr d L, .dma cc0_scoped3.sem) 0
    ∗ semVal (thr d L, .dma cc0_scratch6.sem) 0 ∗ Owes d L O ∗ Ev d L O)))
    (by unfold St Se; ac_rfl) (st_halfP hD 72#32 (Or.inr rfl) (fun j : ℕ => FloatOps.truncf .bf16 bitsLt_bf16_f32 (scaleN hs (tok0 L g.val / 1536) (tok0 L g.val % 1536 + j))) _ hs' fun g2 hg2 => ?_)
  have hB : ∀ i, ((outAt (k0_off63 L g) (k0_off63_inb L g)).view.write (Elt F) fA ((outM).view.read (Elt F) g2) Finset.univ) i = _ :=
    out_lands (k0_off63 L g) (k0_off63_inb L g) fA (outW fw hf hs) g2 (fun i hi y h1 h2 => by
      rw [mem_outAt, (placeOk L g).2.2.1] at hi
      rw [(placeOk L g).2.2.1] at h1 h2
      rw [hg2 y]
      exact hT 72 (Or.inr rfl) i y hi.1 h1 (h2.trans (by rfl)))
  have hsubB : (outAt (k0_off63 L g) (k0_off63_inb L g)).view.set ⊆ Sd := fun i hi => by
    rw [mem_outAt, (placeOk L g).2.2.1] at hi
    have h0 : (i 0).val = tok0 L g.val / 1536 := hi.1
    have h1 : tok0 L g.val % 1536 ≤ (i 1).val := hi.2.1
    have h2 : (i 1).val < tok0 L g.val % 1536 + 8 := hi.2.2.1
    exact hSd i (by omega) (by omega)
  have hfin : ((outAt (k0_off63 L g) (k0_off63_inb L g)).view.write (Elt F) fA ((outM).view.read (Elt F) g2) Finset.univ) = wrote L g.val (outW fw hf hs) fd := by
    funext i
    have c63 : ((i 0).val = k0_off63 L g 0 ∧ k0_off63 L g 1 ≤ (i 1).val ∧ (i 1).val < k0_off63 L g 1 + 8 ∧ k0_off63 L g 2 ≤ (i 2).val ∧ (i 2).val < k0_off63 L g 2 + 2304)
        ↔ ((i 0).val = tok0 L g.val / 1536 ∧ tok0 L g.val % 1536 ≤ (i 1).val ∧ (i 1).val < tok0 L g.val % 1536 + 8 ∧ 2304 ≤ (i 2).val ∧ (i 2).val < 2304 + 2304) := by
      have e0 : k0_off63 L g 0 = tok0 L g.val / 1536 := congrFun (placeOk L g).2.2.1 0
      have e1 : k0_off63 L g 1 = tok0 L g.val % 1536 := congrFun (placeOk L g).2.2.1 1
      have e2 : k0_off63 L g 2 = 2304 := congrFun (placeOk L g).2.2.1 2
      omega
    have c46 : ((i 0).val = k0_off46 L g 0 ∧ k0_off46 L g 1 ≤ (i 1).val ∧ (i 1).val < k0_off46 L g 1 + 8 ∧ k0_off46 L g 2 ≤ (i 2).val ∧ (i 2).val < k0_off46 L g 2 + 2304)
        ↔ ((i 0).val = tok0 L g.val / 1536 ∧ tok0 L g.val % 1536 ≤ (i 1).val ∧ (i 1).val < tok0 L g.val % 1536 + 8 ∧ 0 ≤ (i 2).val ∧ (i 2).val < 0 + 2304) := by
      have e0 : k0_off46 L g 0 = tok0 L g.val / 1536 := congrFun (placeOk L g).2.1 0
      have e1 : k0_off46 L g 1 = tok0 L g.val % 1536 := congrFun (placeOk L g).2.1 1
      have e2 : k0_off46 L g 2 = 0 := congrFun (placeOk L g).2.1 2
      omega
    have h1 : (i 1).val < 1536 := (i 1).isLt
    have h2 : (i 2).val < 4608 := (i 2).isLt
    rw [hB i, hA i]
    unfold wrote
    by_cases h : tok0 L g.val ≤ 1536 * (i 0).val + (i 1).val ∧ 1536 * (i 0).val + (i 1).val < tok0 L g.val + 8
    · rw [if_pos h]
      by_cases h' : (i 2).val < 2304
      · rw [if_neg (fun hc => by have := c63.mp hc; omega), if_pos (c46.mpr (by omega))]
      · rw [if_pos (c63.mpr (by omega))]
    · rw [if_neg h, if_neg (fun hc => by have := c63.mp hc; omega), if_neg (fun hc => by have := c46.mp hc; omega)]
  refine reorder (B := iprop(Se d L O cc0_scoped3.sem Sd g2 fA ∗ ((offL d L ↦{fullShare} fo') ∗ (expL d L ↦{fullShare} fe') ∗ (popL d L ↦{fullShare} fp) ∗ (sclL d L ↦{fullShare} fs') ∗ (rawL d L ↦{fullShare} fr')
    ∗ (wLoc d L ↦{q} fw) ∗ (oLoc d L ↦{q} hf) ∗ (sLoc d L ↦{q} hs)
    ∗ semVal (thr d L, .dma cc0_scoped0.sem) 0 ∗ semVal (thr d L, .dma cc0_scoped1.sem) 0 ∗ semVal (thr d L, .dma cc0_scoped2.sem) 0
    ∗ semVal (thr d L, .dma cc0_scratch6.sem) 0)))
    (by unfold St Se; ac_rfl) (st_sendP O (k0_off63 L g) (k0_off63_inb L g) _ cc0_scoped3 Sd hsubB hfin ?_)
  refine reorder (B := TS d L O q fw hf hs Sd fp fo' fs' fr' fe' g2 (wrote L g.val (outW fw hf hs) fd)) (by unfold TS Se; ac_rfl) ?_
  exact H fo' fs' fr' fe' g2 hO hC

end

end Cert.Proof.Unpack
end
-- ==== Proof.BodyEq.lean ====
/-
  The printed kernel is the program of `Body`.
-/
module

public import proofs.«01_k».proof.Proof.Body

@[expose] public section

noncomputable section

namespace Cert.Proof.Unpack

open Cert.KernelIdeal Cert.KernelIdeal.Gen
open Idealize.ShloMosaic Idealize.SL.Sem

variable {F : FTy → Type} [FloatOps F]

set_option maxHeartbeats 4000000 in
set_option maxRecDepth 100000 in
theorem part62_eq (L : grid0.Coords) (g : Fin k0_t2_loop.trips) :
    k0_part62 (F := F) L wM (Memref.isWhole_whole _) fM (Memref.isWhole_whole _) cM (Memref.isWhole_whole _) oM (Memref.isWhole_whole _)
      rawM (Memref.isWhole_whole _) expM (Memref.isWhole_whole _) offM (Memref.isWhole_whole _) sclM (Memref.isWhole_whole _)
      popM (Memref.isWhole_whole _) outM (Memref.isWhole_whole _) cc0_scratch6 cc0_scoped0 cc0_scoped1 cc0_scoped2 cc0_scoped3 (widW L) 0#32 1#32 g
      = (fetchP L g >>= fun _ => startP L 0#32 (laneB L g) >>= fun a => Prog.lift (TpuEff.assume (k0_chk3 a) (k0_chk3.dec a)) >>= fun _ =>
          pure ⟨rowB L g, laneB L g, a, broadcast S16 143#32⟩) := by
  unfold k0_part62 fetchP
  by_cases h : k0_cond1 L g = 1#1
  · simp only [dif_pos h]; rfl
  · simp only [dif_neg h]; rfl

set_option maxHeartbeats 4000000 in
set_option maxRecDepth 100000 in
theorem kernel_eq (L : grid0.Coords) :
    cc0_zvc_unpack (F := F) L wM (Memref.isWhole_whole _) fM (Memref.isWhole_whole _) cM (Memref.isWhole_whole _) oM (Memref.isWhole_whole _)
      rawM (Memref.isWhole_whole _) expM (Memref.isWhole_whole _) offM (Memref.isWhole_whole _) sclM (Memref.isWhole_whole _)
      popM (Memref.isWhole_whole _) outM (Memref.isWhole_whole _) cc0_scratch6 cc0_scoped0 cc0_scoped1 cc0_scoped2 cc0_scoped3
      = kernelP L := by
  unfold cc0_zvc_unpack kernelP
  refine congrArg (fun b => Scf.Loop.for k0_t1_loop k0_t1_ok PUnit.unit (fun t _ => popP (F := F) L t) >>= fun _ => Scf.Loop.for k0_t2_loop k0_t2_ok PUnit.unit b >>= fun _ => pure PUnit.unit) (a₂ := fun g _ => groupP L g) ?_
  funext g _
  refine (congrArg (fun p => p >>= _) (part62_eq L g)).trans ?_
  simp only [bind_assoc, pure_bind]
  unfold groupP spanP
  simp only [bind_assoc, pure_bind]
  refine congrArg (fun k => fetchP L g >>= k) (funext fun _ => ?_)
  refine congrArg (fun k => startP L 0#32 (laneB L g) >>= k) (funext fun a => ?_)
  refine congrArg (fun k => Prog.lift (TpuEff.assume (k0_chk3 a) (k0_chk3.dec a)) >>= k) (funext fun _ => ?_)
  unfold k0_part64 k0_part65
  simp only [bind_assoc, pure_bind]
  rfl

end Cert.Proof.Unpack
end
-- ==== Proof.Tile.lean ====
/-
  A tile: the table of counts, then its sixty groups.
-/
module

public import proofs.«01_k».proof.Proof.Group
public import proofs.«01_k».proof.Proof.BodyEq

@[expose] public section

noncomputable section

namespace Cert.Proof.Unpack

open Cert.KernelIdeal Cert.KernelIdeal.Gen
open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section

variable {d : Dev nD} {L : grid0.Coords}

/-- The result array once the first `n` groups of a tile are written. -/
def upto (L : grid0.Coords) (n : ℕ) (W fd : S10x1536x4608.Idx → F .f32) (i : S10x1536x4608.Idx) : F .f32 :=
  if tok0 L 0 ≤ 1536 * (i 0).val + (i 1).val ∧ 1536 * (i 0).val + (i 1).val < tok0 L 0 + 8 * n then W i else fd i

theorem upto_zero (W fd : S10x1536x4608.Idx → F .f32) : upto L 0 W fd = fd := by
  funext i
  unfold upto
  rw [if_neg (by omega)]

theorem upto_succ (n : ℕ) (W fd : S10x1536x4608.Idx → F .f32) : wrote L n W (upto L n W fd) = upto L (n + 1) W fd := by
  funext i
  unfold wrote upto tok0
  split
  case isTrue h => rw [if_pos (by omega)]
  case isFalse h =>
    split
    case isTrue h' => rw [if_pos (by omega)]
    case isFalse h' => rw [if_neg (by omega)]

/-- The rows of the result a tile writes. -/
def tileSet (L : grid0.Coords) : Finset S10x1536x4608.Idx :=
  Finset.univ.filter fun i => tok0 L 0 ≤ 1536 * (i 0).val + (i 1).val ∧ 1536 * (i 0).val + (i 1).val < tok0 L 0 + 480

theorem mem_tileSet (i : S10x1536x4608.Idx) : i ∈ tileSet L ↔ (tok0 L 0 ≤ 1536 * (i 0).val + (i 1).val ∧ 1536 * (i 0).val + (i 1).val < tok0 L 0 + 480) := by
  unfold tileSet
  rw [Finset.mem_filter]
  exact and_iff_right (Finset.mem_univ _)

theorem st_kernelP {Q : PUnit → sProp 𝕄} (O : CellTallies nD τ sig (HIx 1)) (q : PosShare TreeShare) {fw : S155520x128.Idx → BitVec 32} {hf : S10x144x1536.Idx → BitVec 32} {hs : S10x1536.Idx → F .f32}
    (hP : SpanOk hf) {fp : S256.Idx → BitVec 32} {fo : S144x128.Idx → BitVec 32} {fs : S128.Idx → F .f32} {fr : S96x128.Idx → BitVec 32} {fe : S49216.Idx → BitVec 32}
    {go : S8x2304.Idx → F .f32} {fd : S10x1536x4608.Idx → F .f32}
    (H : ∀ fp' fo' fs' fr' fe' go', TS d L O q fw hf hs (tileSet L) fp' fo' fs' fr' fe' go' (upto L 60 (outW fw hf hs) fd) ⊢ Q ⟨⟩) :
    TS d L O q fw hf hs (tileSet L) fp fo fs fr fe go fd ⊢ WP d L (kernelP L) Q := by
  unfold kernelP
  refine reorder (B := iprop((popL d L ↦{fullShare} fp) ∗ ((offL d L ↦{fullShare} fo) ∗ (sclL d L ↦{fullShare} fs) ∗ (rawL d L ↦{fullShare} fr) ∗ (expL d L ↦{fullShare} fe) ∗ (outL d L ↦{fullShare} go)
    ∗ (wLoc d L ↦{q} fw) ∗ (oLoc d L ↦{q} hf) ∗ (sLoc d L ↦{q} hs) ∗ (rLoc d L ↦[tileSet L]{fullShare} fd)
    ∗ semVal (thr d L, .dma cc0_scoped0.sem) 0 ∗ semVal (thr d L, .dma cc0_scoped1.sem) 0 ∗ semVal (thr d L, .dma cc0_scoped2.sem) 0 ∗ semVal (thr d L, .dma cc0_scoped3.sem) 0
    ∗ semVal (thr d L, .dma cc0_scratch6.sem) 0 ∗ Owes d L O ∗ Ev d L O)))
    (by unfold TS; ac_rfl) (st_pops fun fp' hpop => ?_)
  refine reorder (B := TS d L O q fw hf hs (tileSet L) fp' fo fs fr fe go fd) (by unfold TS; ac_rfl) ?_
  iintro HS
  iapply (Scf.wp_for_bind frame (wpE (defs₀ (F := F)) 𝒱₀ (V d (cV L) (jV L)) none) Set.univ _ _ _ k0_t2_ok _ _
    (fun n _ => iprop(∃ fo', ∃ fs', ∃ fr', ∃ fe', ∃ go', ⌜n ≠ 0 → OffIs hf (tok0 L (n - 1) / 128) fo' ∧ SclIs hs (tok0 L (n - 1) / 128) fs'⌝
      ∗ TS d L O q fw hf hs (tileSet L) fp' fo' fs' fr' fe' go' (upto L n (outW fw hf hs) fd))) ?_) $$ [HS]
  · intro g _
    iintro ⟨%fo', %fs', %fr', %fe', %go', %hprev, HS⟩
    rw [← bind_pure (groupP L g)]
    have hstep : TS d L O q fw hf hs (tileSet L) fp' fo' fs' fr' fe' go' (upto L g.val (outW fw hf hs) fd)
        ⊢ WP d L (groupP L g >>= pure) (fun _ => iprop(∃ fo', ∃ fs', ∃ fr', ∃ fe', ∃ go', ⌜g.val + 1 ≠ 0 → OffIs hf (tok0 L (g.val + 1 - 1) / 128) fo' ∧ SclIs hs (tok0 L (g.val + 1 - 1) / 128) fs'⌝
      ∗ TS d L O q fw hf hs (tileSet L) fp' fo' fs' fr' fe' go' (upto L (g.val + 1) (outW fw hf hs) fd))) := by
      refine st_groupP O q hP (tileSet L) g (fun i h1 h2 => ?_) hpop hprev fun fo'' fs'' fr'' fe'' go'' hO hC => ?_
      · rw [mem_tileSet]
        have hg : g.val < 60 := g.isLt
        unfold tok0 at *
        omega
      · rw [upto_succ]
        show _ ⊢ wp frame (wpE (defs₀ (F := F)) 𝒱₀ (V d (cV L) (jV L)) none) Set.univ (.ret PUnit.unit) _
        rw [wp_ret]
        iintro HS
        imodintro
        iexists fo''; iexists fs''; iexists fr''; iexists fe''; iexists go''
        isplitr
        · ipureintro; exact fun _ => ⟨hO, hC⟩
        · iexact HS
    iapply hstep
    iexact HS
  · iexists fo; iexists fs; iexists fr; iexists fe; iexists go
    isplitr
    · ipureintro; exact fun h => absurd rfl h
    · rw [upto_zero]; iexact HS
  · have hend : ∀ fo' fs' fr' fe' go', TS d L O q fw hf hs (tileSet L) fp' fo' fs' fr' fe' go' (upto L k0_t2_loop.trips (outW fw hf hs) fd)
        ⊢ wp frame (wpE (defs₀ (F := F)) 𝒱₀ (V d (cV L) (jV L)) none) Set.univ (.ret PUnit.unit) Q := by
      intro fo' fs' fr' fe' go'
      rw [wp_ret]
      iintro HS
      imodintro
      iapply (H fp' fo' fs' fr' fe' go')
      iexact HS
    iintro %_ ⟨%fo', %fs', %fr', %fe', %go', -, HS⟩
    iapply (hend fo' fs' fr' fe' go')
    iexact HS

end

end Cert.Proof.Unpack
end
-- ==== Proof.Task.lean ====
/-
  The kernel as the launch sees it: what a tile is handed and hands back, and its obligation.
-/
module

public import proofs.«01_k».proof.Proof.Tile
public import Idealize.ShloMosaic.Lib.SparseCore.Quiescent

@[expose] public section

noncomputable section

namespace Cert.Proof.Unpack

open Cert.KernelIdeal Cert.KernelIdeal.Gen
open Idealize.ShloMosaic hiding T
open Idealize.ShloMosaic.Transfers
open Idealize.ShloMosaic.SparseCore (S V T)
open Idealize.ShloMosaic.SparseCore.Cfg (HIx ownSems0 ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance

/-! ## The arrays the call names -/

abbrev wH (d : Dev nD) : Loc nD τ sig := (T d).loc main_v19
abbrev oH (d : Dev nD) : Loc nD τ sig := (T d).loc main_v0
abbrev sH (d : Dev nD) : Loc nD τ sig := (T d).loc main_arg2
abbrev rH (d : Dev nD) : Loc nD τ sig := (T d).loc main_v20

def coordsV (c : Fin (grid0.bound 0)) (s : Fin (grid0.bound 1)) : grid0.Coords :=
  fun | 0 => c | 1 => s | ⟨_ + 2, h⟩ => absurd h (Nat.not_lt.2 (Nat.le_add_left _ _))

/-- The tile's number, and the read share it is handed. -/
def tileN (L : grid0.Coords) : ℕ := 16 * (L 0).val + (L 1).val
def tileQ (L : grid0.Coords) : PosShare TreeShare := shareTokN fullShare (tileN L)

/-- What a tile is handed and hands back: a share of the words, of the offsets and of the scales, and its own rows of
    the result. -/
def payP (d : Dev nD) (fw : S155520x128.Idx → BitVec 32) (hf : S10x144x1536.Idx → BitVec 32) (hs : S10x1536.Idx → F .f32) (g : S10x1536x4608.Idx → F .f32)
    (L : grid0.Coords) : sProp 𝕄 :=
  iprop((wH d ↦{tileQ L} fw) ∗ (oH d ↦{tileQ L} hf) ∗ (sH d ↦{tileQ L} hs) ∗ (rH d ↦[tileSet L]{fullShare} g))

instance payP_storable (d : Dev nD) (fw : S155520x128.Idx → BitVec 32) (hf : S10x144x1536.Idx → BitVec 32) (hs : S10x1536.Idx → F .f32) (g : S10x1536x4608.Idx → F .f32)
    (L : grid0.Coords) : BI.Storable (upEmb : UEmb _ 𝕄) (payP d fw hf hs g L) := by
  unfold payP; infer_instance

/-- A SparseCore's: its tiles' together. -/
def payC (d : Dev nD) (fw : S155520x128.Idx → BitVec 32) (hf : S10x144x1536.Idx → BitVec 32) (hs : S10x1536.Idx → F .f32) (g : S10x1536x4608.Idx → F .f32)
    (c : Fin (grid0.bound 0)) : sProp 𝕄 :=
  bigSep Finset.univ fun i : Fin (grid0.bound 1) => payP d fw hf hs g (coordsV c i)

instance payC_storable (d : Dev nD) (fw : S155520x128.Idx → BitVec 32) (hf : S10x144x1536.Idx → BitVec 32) (hs : S10x1536.Idx → F .f32) (g : S10x1536x4608.Idx → F .f32)
    (c : Fin (grid0.bound 0)) : BI.Storable (upEmb : UEmb _ 𝕄) (payC d fw hf hs g c) := by
  unfold payC; infer_instance

variable (fw : Dev nD → S155520x128.Idx → BitVec 32) (hf : Dev nD → S10x144x1536.Idx → BitVec 32) (hs : Dev nD → S10x1536.Idx → F .f32)
  (fd : Dev nD → S10x1536x4608.Idx → F .f32)

def P : (K (F := F)).Pay (nD := nD) (Val := Elt F) (Name := ℕ) (U := UU) where
  st := fun q d c => match q with | 0 => payC d (fw d) (hf d) (hs d) (fd d) c
  dn := fun q d c => match q with | 0 => payC d (fw d) (hf d) (hs d) (outW (fw d) (hf d) (hs d)) c
  go := fun q d c i => match q with | 0 => payP d (fw d) (hf d) (hs d) (fd d) (coordsV c i)
  td := fun q d c i => match q with | 0 => payP d (fw d) (hf d) (hs d) (outW (fw d) (hf d) (hs d)) (coordsV c i)
  x := fun _ _ => iprop(emp)

instance P_storable : (P fw hf hs fd).IsStorable where
  st q d c := match q with | 0 => payC_storable d (fw d) (hf d) (hs d) (fd d) c
  dn q d c := match q with | 0 => payC_storable d (fw d) (hf d) (hs d) (outW (fw d) (hf d) (hs d)) c
  go q d c i := match q with | 0 => payP_storable d (fw d) (hf d) (hs d) (fd d) (coordsV c i)
  td q d c i := match q with | 0 => payP_storable d (fw d) (hf d) (hs d) (outW (fw d) (hf d) (hs d)) (coordsV c i)

/-! ## The task -/

section Tile

variable (d : Dev nD) (L : grid0.Coords)

abbrev semsV : Finset (SemLoc sig) := {.dma cc0_scoped0.sem, .dma cc0_scoped1.sem, .dma cc0_scoped2.sem, .dma cc0_scoped3.sem, .dma cc0_scratch6.sem}
abbrev bufsV : Finset (Ref sig .scVector) := {cc0_scratch0, cc0_scratch1, cc0_scratch2, cc0_scratch3, cc0_scratch4, cc0_scratch5}

theorem semsV_scoped : ∀ s ∈ semsV, (s : SemLoc sig).isScoped .scVector = true := by decide

theorem ownSems0_V :
    (ownSems0 (V d (cV L) (jV L)) : sProp 𝕄)
      = iprop((semVal (thr d L, .dma cc0_scoped0.sem) 0 ∗ semVal (thr d L, .dma cc0_scoped1.sem) 0 ∗ semVal (thr d L, .dma cc0_scoped2.sem) 0
          ∗ semVal (thr d L, .dma cc0_scoped3.sem) 0 ∗ semVal (thr d L, .dma cc0_scratch6.sem) 0)
          ∗ bigSep (ownCells (V d (cV L) (jV L)) \ semsV.image fun s => (thr d L, s)) fun g => semVal g 0) := by
  unfold SparseCore.Cfg.ownSems0
  rw [SparseCore.bigSep_sdiff_split' (t := semsV.image fun s => ((thr d L, s) : GSem nD τ sig)) (fun g hg => by
      obtain ⟨s, hs, rfl⟩ := Finset.mem_image.mp hg
      exact mem_ownCells.mpr ⟨rfl, semsV_scoped s hs⟩),
    SparseCore.bigSep_image_of_injOn (fun a _ b _ e => (Prod.mk.inj e).2)]
  unfold semsV
  rw [SparseCore.bigSep_insert' (by decide), SparseCore.bigSep_insert' (by decide), SparseCore.bigSep_insert' (by decide),
    SparseCore.bigSep_insert' (by decide), bigSep_singleton]

theorem bufsV_sep (Φ : Ref sig .scVector → sProp 𝕄) :
    bigSep bufsV Φ = iprop(Φ cc0_scratch0 ∗ Φ cc0_scratch1 ∗ Φ cc0_scratch2 ∗ Φ cc0_scratch3 ∗ Φ cc0_scratch4 ∗ Φ cc0_scratch5) := by
  unfold bufsV
  rw [SparseCore.bigSep_insert' (by decide), SparseCore.bigSep_insert' (by decide), SparseCore.bigSep_insert' (by decide),
    SparseCore.bigSep_insert' (by decide), SparseCore.bigSep_insert' (by decide), bigSep_singleton]

theorem ownBufs_V :
    (ownBufs (V d (cV L) (jV L)) : sProp 𝕄)
      = iprop(((∃ f, rawL d L ↦{fullShare} f) ∗ (∃ f, expL d L ↦{fullShare} f) ∗ (∃ f, offL d L ↦{fullShare} f) ∗ (∃ f, sclL d L ↦{fullShare} f)
          ∗ (∃ f, popL d L ↦{fullShare} f) ∗ (∃ f, outL d L ↦{fullShare} f))
          ∗ bigSep (ownRefs (τ := τ) (.scVector (cV L) (jV L)) \ bufsV.image fun b => (Proc.scVector (cV L) (jV L)).devRef b)
              fun b => iprop(∃ f, ((d, b) : Loc nD τ sig) ↦{fullShare} f)) := by
  unfold SparseCore.Cfg.ownBufs
  rw [SparseCore.bigSep_sdiff_split' (t := bufsV.image fun b => (Proc.scVector (cV L) (jV L)).devRef b) (fun g hg => by
      obtain ⟨b, hb, rfl⟩ := Finset.mem_image.mp hg
      refine SparseCore.Cfg.mem_ownRefs_of_owner (p := Proc.scVector (cV L) (jV L)) ?_
      simp only [bufsV, Finset.mem_insert, Finset.mem_singleton] at hb
      rcases hb with rfl | rfl | rfl | rfl | rfl | rfl <;> rfl),
    SparseCore.bigSep_image_of_injOn (fun a _ b _ e => Proc.devRef_injective _ e)]
  exact congrArg (fun X : sProp 𝕄 => iprop(X ∗ bigSep _ _)) (bufsV_sep _)

theorem upto_end (W g : S10x1536x4608.Idx → F .f32) :
    (rLoc d L ↦[tileSet L]{fullShare} (upto L 60 W g) : sProp 𝕄) = rLoc d L ↦[tileSet L]{fullShare} W :=
  pointsTo_congr fun i hi => by
    have hi' := (mem_tileSet (L := L) i).mp hi
    unfold upto
    rw [if_pos (by omega)]

theorem tile_body (hF : (K (F := F)).Facts) (hP : SpanOk (hf d)) (O : CellTallies nD τ sig (HIx 1)) (W : Waits sig (HIx 1)) (hO : ∀ g, O g none = 0) :
    iprop(levAts (K (F := F)).L (K (F := F)).lev ∗ emp ∗ payP d (fw d) (hf d) (hs d) (fd d) L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_zvc_unpack (F := F) L wM (Memref.isWhole_whole _) fM (Memref.isWhole_whole _) cM (Memref.isWhole_whole _) oM (Memref.isWhole_whole _)
            rawM (Memref.isWhole_whole _) expM (Memref.isWhole_whole _) offM (Memref.isWhole_whole _) sclM (Memref.isWhole_whole _)
            popM (Memref.isWhole_whole _) outM (Memref.isWhole_whole _) cc0_scratch6 cc0_scoped0 cc0_scoped1 cc0_scoped2 cc0_scoped3)
          fun _ => iprop(payP d (fw d) (hf d) (hs d) (outW (fw d) (hf d) (hs d)) L
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V, kernel_eq]
  unfold payP
  iintro ⟨#Hlv, -, ⟨Hw, Ho, Hs, Hr⟩, ⟨⟨⟨%f0, B0⟩, ⟨%f1, B1⟩, ⟨%f2, B2⟩, ⟨%f3, B3⟩, ⟨%f4, B4⟩, ⟨%f5, B5⟩⟩, HB⟩, ⟨⟨S0, S1, S2, S3, S6⟩, HS⟩, HO⟩
  ihave Hmw := (show levAts (K (F := F)).L (K (F := F)).lev ⊢ Ev d L O from
    (K (F := F)).mayWaits_none (thr := V d (cV L) (jV L)) hO) $$ Hlv
  have hk := st_kernelP (F := F) (d := d) (L := L) (Q := fun _ => iprop(∃ fp' fo' fs' fr' fe' go',
      TS d L O (tileQ L) (fw d) (hf d) (hs d) (tileSet L) fp' fo' fs' fr' fe' go' (upto L 60 (outW (fw d) (hf d) (hs d)) (fd d))))
    O (tileQ L) (fw := fw d) (hf := hf d) (hs := hs d) hP (fp := f4) (fo := f2) (fs := f3) (fr := f0) (fe := f1) (go := f5) (fd := fd d) (fun fp' fo' fs' fr' fe' go' => by
      iintro H
      iexists fp', fo', fs', fr', fe', go'
      iexact H)
  ihave Hk := hk $$ [Hw Ho Hs Hr B0 B1 B2 B3 B4 B5 S0 S1 S2 S3 S6 HO Hmw]
  · unfold TS Owes
    isplitl [B2]; · iexact B2
    isplitl [B3]; · iexact B3
    isplitl [B0]; · iexact B0
    isplitl [B1]; · iexact B1
    isplitl [B4]; · iexact B4
    isplitl [B5]; · iexact B5
    isplitl [Hw]; · iexact Hw
    isplitl [Ho]; · iexact Ho
    isplitl [Hs]; · iexact Hs
    isplitl [Hr]; · iexact Hr
    isplitl [S0]; · iexact S0
    isplitl [S1]; · iexact S1
    isplitl [S2]; · iexact S2
    isplitl [S3]; · iexact S3
    isplitl [S6]; · iexact S6
    isplitl [HO]
    · iexists W; iexact HO
    iexact Hmw
  iapply (wp_wand_r _ _ _)
  isplitl [Hk]; · iexact Hk
  iintro %a ⟨%fp', %fo', %fs', %fr', %fe', %go', HT⟩
  ihave HT' := (Entails.of_eq (show TS d L O (tileQ L) (fw d) (hf d) (hs d) (tileSet L) fp' fo' fs' fr' fe' go' (upto L 60 (outW (fw d) (hf d) (hs d)) (fd d)) = _ from by
    unfold TS Owes; rw [upto_end])) $$ HT
  icases HT' with ⟨B2, B3, B0, B1, B4, B5, Hw, Ho, Hs, Hr, S0, S1, S2, S3, S6, ⟨%W', HO⟩, -⟩
  isplitl [Hw Ho Hs Hr]
  · isplitl [Hw]; · iexact Hw
    isplitl [Ho]; · iexact Ho
    isplitl [Hs]; · iexact Hs
    iexact Hr
  isplitl [B0 B1 B2 B3 B4 B5 HB]
  · isplitr [HB]
    · isplitl [B0]; · iexists _; iexact B0
      isplitl [B1]; · iexists _; iexact B1
      isplitl [B2]; · iexists _; iexact B2
      isplitl [B3]; · iexists _; iexact B3
      isplitl [B4]; · iexists _; iexact B4
      iexists _; iexact B5
    iexact HB
  isplitl [S0 S1 S2 S3 S6 HS]
  · isplitr [HS]
    · isplitl [S0]; · iexact S0
      isplitl [S1]; · iexact S1
      isplitl [S2]; · iexact S2
      isplitl [S3]; · iexact S3
      iexact S6
    iexact HS
  iexists W'; isplitr
  swap; · iexact HO
  ipureintro; intro p _
  rcases p.2 with _ | q
  · exact .inr (.inl rfl)
  · exact .inr (.inr (congrArg some (Subsingleton.elim q 0)))

theorem defs₀_vector (c : Fin τ.nSC) (s : Fin τ.nSub) :
    defs₀ (F := F) (.scVector c s) 0 ()
      = SparseCore.onTile hcore0 hsub0 (fun c s => cc0_zvc_unpack (F := F) (coordsV c s) wM (Memref.isWhole_whole _) fM (Memref.isWhole_whole _) cM (Memref.isWhole_whole _) oM (Memref.isWhole_whole _)
            rawM (Memref.isWhole_whole _) expM (Memref.isWhole_whole _) offM (Memref.isWhole_whole _) sclM (Memref.isWhole_whole _)
            popM (Memref.isWhole_whole _) outM (Memref.isWhole_whole _) cc0_scratch6 cc0_scoped0 cc0_scoped1 cc0_scoped2 cc0_scoped3) ⟨⟩ c s := rfl

theorem tileObl (hF : (K (F := F)).Facts) (hP : ∀ d, SpanOk (hf d)) : (K (F := F)).TileObl (D (F := F)) 𝒱 (P fw hf hs fd) v₀ 0 := by
  intro d c i O W hO _ _
  simp only [show (P fw hf hs fd).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body fw hf hs fd d (coordsV ⟨_, hci.1⟩ ⟨_, hci.2⟩) hF (hP d) O W hO

theorem vecSplit : (K (F := F)).VecSplit' (P fw hf hs fd) 0 := by
  intro d c
  show payC d (fw d) (hf d) (hs d) (fd d) c ⊢ |={Set.univ}=> iprop(payC d (fw d) (hf d) (hs d) (fd d) c
    ∗ (payC d (fw d) (hf d) (hs d) (outW (fw d) (hf d) (hs d)) c -∗ payC d (fw d) (hf d) (hs d) (outW (fw d) (hf d) (hs d)) c))
  iintro H; imodintro
  isplitl [H]; · iexact H
  iintro H; iexact H

end Tile

end Cert.Proof.Unpack

end
-- ==== Proof.Launch.lean ====
/-
  The program: the words formed before the call, the call on its thirty-two tiles, the rounding of its result; what
  every array holds at the end.
-/
module

public import proofs.«01_k».proof.Proof.Task
public import Idealize.ShloMosaic.Lib.StableHlo.Run
public import Idealize.ShloMosaic.Lib.Pipeline.Kit
public import Idealize.ShloMosaic.Lib.Pipeline.FrameTail

@[expose] public section

noncomputable section

namespace Cert.Proof.Unpack

open Cert.KernelIdeal Cert.KernelIdeal.Gen
open Idealize.ShloMosaic hiding T
open Idealize.ShloMosaic.Transfers
open Idealize.ShloMosaic.SparseCore (S V T)
open Idealize.ShloMosaic.SparseCore.Cfg (HIx)
open Idealize.ShloMosaic.StableHlo (held held_sub_split held_congr after)
open Idealize.ShloMosaic.Pipeline (ucRefs devRef_mem_ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tiles' pieces, joined -/

theorem tile_split : ∀ n : ℕ, n < 15360 → ∃ p : Fin (grid0.bound 0) × Fin (grid0.bound 1), tok0 (coordsV p.1 p.2) 0 ≤ n ∧ n < tok0 (coordsV p.1 p.2) 0 + 480 := by
  intro n hn
  have h0 : n / 480 % 2 < grid0.bound 0 := Nat.mod_lt _ (by decide)
  have h1 : n / 480 / 2 < grid0.bound 1 := show _ < 16 by omega
  refine ⟨(⟨n / 480 % 2, h0⟩, ⟨n / 480 / 2, h1⟩), ?_⟩
  have e : tok0 (coordsV (⟨n / 480 % 2, h0⟩ : Fin (grid0.bound 0)) (⟨n / 480 / 2, h1⟩ : Fin (grid0.bound 1))) 0 = 480 * (2 * (n / 480 / 2) + n / 480 % 2) + 8 * 0 := rfl
  show tok0 (coordsV (⟨n / 480 % 2, h0⟩ : Fin (grid0.bound 0)) (⟨n / 480 / 2, h1⟩ : Fin (grid0.bound 1))) 0 ≤ n ∧ _
  rw [e]
  constructor
  · omega
  · show n < tok0 (coordsV (⟨n / 480 % 2, h0⟩ : Fin (grid0.bound 0)) (⟨n / 480 / 2, h1⟩ : Fin (grid0.bound 1))) 0 + 480
    rw [e]; omega

theorem tiles_disjoint : ∀ p ∈ (Finset.univ : Finset (Fin (grid0.bound 0) × Fin (grid0.bound 1))), ∀ p' ∈ (Finset.univ : Finset (Fin (grid0.bound 0) × Fin (grid0.bound 1))), p ≠ p' →
    Disjoint (tileSet (coordsV p.1 p.2)) (tileSet (coordsV p'.1 p'.2)) := by
  intro p _ p' _ h
  rw [Finset.disjoint_left]
  intro i hi hi'
  have a := (mem_tileSet i).mp hi
  have b := (mem_tileSet i).mp hi'
  have e : tok0 (coordsV p.1 p.2) 0 = 480 * (2 * p.2.val + p.1.val) + 8 * 0 := rfl
  have e' : tok0 (coordsV p'.1 p'.2) 0 = 480 * (2 * p'.2.val + p'.1.val) + 8 * 0 := rfl
  have c : p.1.val < 2 := p.1.isLt
  have c' : p'.1.val < 2 := p'.1.isLt
  refine h (Prod.ext (Fin.ext ?_) (Fin.ext ?_)) <;> omega

theorem tiles_cover : (Finset.univ : Finset (Fin (grid0.bound 0) × Fin (grid0.bound 1))).biUnion (fun p => tileSet (coordsV p.1 p.2)) = Finset.univ := by
  refine Finset.eq_univ_of_forall fun i => ?_
  have h0 : (i 0).val < 10 := (i 0).isLt
  have h1 : (i 1).val < 1536 := (i 1).isLt
  obtain ⟨p, hp⟩ := tile_split (1536 * (i 0).val + (i 1).val) (by omega)
  exact Finset.mem_biUnion.mpr ⟨p, Finset.mem_univ _, (mem_tileSet i).mpr hp⟩

theorem tiles_range : Finset.range 32 = (Finset.univ : Finset (Fin (grid0.bound 0) × Fin (grid0.bound 1))).image (fun p => tileN (coordsV p.1 p.2)) := by decide

theorem tileN_inj : Set.InjOn (fun p : Fin (grid0.bound 0) × Fin (grid0.bound 1) => tileN (coordsV p.1 p.2)) (Finset.univ : Finset (Fin (grid0.bound 0) × Fin (grid0.bound 1))) := by
  intro p _ p' _ h
  have h' : 16 * p.1.val + p.2.val = 16 * p'.1.val + p'.2.val := h
  have c : p.2.val < 16 := p.2.isLt
  have c' : p'.2.val < 16 := p'.2.isLt
  refine Prod.ext (Fin.ext ?_) (Fin.ext ?_) <;> omega

/-- An array shared out among the tiles. -/
theorem shared_eq {ℓ : Loc nD τ sig} (f : Buf (Elt F) ℓ) :
    (ℓ ↦{fullShare} f : sProp 𝕄) = iprop((ℓ ↦{shareDrop fullShare 32} f)
      ∗ bigSep (Finset.univ : Finset (Fin (grid0.bound 0) × Fin (grid0.bound 1))) fun p => ℓ ↦{tileQ (coordsV p.1 p.2)} f) := by
  have h := pointsTo_toks_range (ℓ := ℓ) (S := Finset.univ) (f := f) (Ix := HIx 1) (Val := Elt F) (Name := ℕ) (U := UU) (Lvl := ℕ) fullShare 32
  refine (equiv_iff.mp ⟨h.1, h.2⟩).trans ?_
  rw [tiles_range, SparseCore.bigSep_image_of_injOn tileN_inj]
  rfl

theorem rows_eq (d : Dev nD) (g : Buf (Elt F) (rH d)) :
    (rH d ↦{fullShare} g : sProp 𝕄) = bigSep (Finset.univ : Finset (Fin (grid0.bound 0) × Fin (grid0.bound 1))) fun p => rH d ↦[tileSet (coordsV p.1 p.2)]{fullShare} g := by
  rw [← pointsTo_biUnion Finset.univ (ℓ := rH d) (fun p : Fin (grid0.bound 0) × Fin (grid0.bound 1) => tileSet (coordsV p.1 p.2)) tiles_disjoint, tiles_cover]

theorem payC_all (d : Dev nD) (fw : S155520x128.Idx → BitVec 32) (hf : S10x144x1536.Idx → BitVec 32) (hs : S10x1536.Idx → F .f32) (g : S10x1536x4608.Idx → F .f32) :
    (bigSep Finset.univ fun c : Fin (grid0.bound 0) => payC d fw hf hs g c : sProp 𝕄)
      = bigSep (Finset.univ : Finset (Fin (grid0.bound 0) × Fin (grid0.bound 1))) fun p => payP d fw hf hs g (coordsV p.1 p.2) := by
  rw [← Finset.univ_product_univ, SparseCore.bigSep_product]
  rfl

/-- What is left of the three arrays once the tiles hold their shares. -/
def restP (d : Dev nD) (fw : S155520x128.Idx → BitVec 32) (hf : S10x144x1536.Idx → BitVec 32) (hs : S10x1536.Idx → F .f32) : sProp 𝕄 :=
  iprop((wH d ↦{shareDrop fullShare 32} fw) ∗ (oH d ↦{shareDrop fullShare 32} hf) ∗ (sH d ↦{shareDrop fullShare 32} hs))

/-- The four arrays, whole: what is left and the tiles' pieces. -/
theorem arrays_eq (d : Dev nD) (fw : S155520x128.Idx → BitVec 32) (hf : S10x144x1536.Idx → BitVec 32) (hs : S10x1536.Idx → F .f32) (g : S10x1536x4608.Idx → F .f32) :
    (iprop((wH d ↦{fullShare} fw) ∗ (oH d ↦{fullShare} hf) ∗ (sH d ↦{fullShare} hs) ∗ (rH d ↦{fullShare} g)) : sProp 𝕄)
      = iprop(restP d fw hf hs ∗ bigSep Finset.univ fun c : Fin (grid0.bound 0) => payC d fw hf hs g c) := by
  rw [payC_all]
  unfold payP restP
  rw [bigSep_sep', bigSep_sep', bigSep_sep', shared_eq (ℓ := wH d), shared_eq (ℓ := oH d), shared_eq (ℓ := sH d), rows_eq]
  ac_rfl

/-! ## The host operations -/

abbrev preOps : List (HloOp τ sig (Elt F)) :=
  [ StableHlo.unary main_arg1 main_v0 ((transpose S10x144x1536 [0, 2, 1] · transposes_S10x1536x144_S10x144x1536_0_2_1) : (⟨S10x1536x144, .i32⟩ : BufTy).Contents (Elt F) → (⟨S10x144x1536, .i32⟩ : BufTy).Contents (Elt F)),
    StableHlo.reshape main_arg0 main_v1 (rfl : (.i8 : EltTy) = .i8) shapeCasts_S79626240_S155520x4x128,
    StableHlo.unary main_v1 main_v2 ((extui 32 · natLt_8_32) : (⟨S155520x4x128, .i8⟩ : BufTy).Contents (Elt F) → (⟨S155520x4x128, .i32⟩ : BufTy).Contents (Elt F)),
    StableHlo.unary main_v2 main_v3 ((extractStridedSlice S155520x1x128 ![0, 0, 0] · slices_S155520x4x128_S155520x1x128_0_0_0) : (⟨S155520x4x128, .i32⟩ : BufTy).Contents (Elt F) → (⟨S155520x1x128, .i32⟩ : BufTy).Contents (Elt F)),
    StableHlo.reshape main_v3 main_v4 (rfl : (.i32 : EltTy) = .i32) shapeCasts_S155520x1x128_S155520x128,
    StableHlo.unary main_v2 main_v5 ((extractStridedSlice S155520x1x128 ![0, 1, 0] · slices_S155520x4x128_S155520x1x128_0_1_0) : (⟨S155520x4x128, .i32⟩ : BufTy).Contents (Elt F) → (⟨S155520x1x128, .i32⟩ : BufTy).Contents (Elt F)),
    StableHlo.reshape main_v5 main_v6 (rfl : (.i32 : EltTy) = .i32) shapeCasts_S155520x1x128_S155520x128,
    StableHlo.nullary main_c (constantI S_ 32 8#32),
    StableHlo.unary main_c main_v7 (broadcastInDim S155520x128 ![] bcast_S_S155520x128 : (⟨S_, .i32⟩ : BufTy).Contents (Elt F) → (⟨S155520x128, .i32⟩ : BufTy).Contents (Elt F)),
    StableHlo.binary main_v6 main_v7 main_v8 (Host.shli : (⟨S155520x128, .i32⟩ : BufTy).Contents (Elt F) → (⟨S155520x128, .i32⟩ : BufTy).Contents (Elt F) → (⟨S155520x128, .i32⟩ : BufTy).Contents (Elt F)),
    StableHlo.binary main_v4 main_v8 main_v9 (ori : (⟨S155520x128, .i32⟩ : BufTy).Contents (Elt F) → (⟨S155520x128, .i32⟩ : BufTy).Contents (Elt F) → (⟨S155520x128, .i32⟩ : BufTy).Contents (Elt F)),
    StableHlo.unary main_v2 main_v10 ((extractStridedSlice S155520x1x128 ![0, 2, 0] · slices_S155520x4x128_S155520x1x128_0_2_0) : (⟨S155520x4x128, .i32⟩ : BufTy).Contents (Elt F) → (⟨S155520x1x128, .i32⟩ : BufTy).Contents (Elt F)),
    StableHlo.reshape main_v10 main_v11 (rfl : (.i32 : EltTy) = .i32) shapeCasts_S155520x1x128_S155520x128,
    StableHlo.nullary main_c_0 (constantI S_ 32 16#32),
    StableHlo.unary main_c_0 main_v12 (broadcastInDim S155520x128 ![] bcast_S_S155520x128 : (⟨S_, .i32⟩ : BufTy).Contents (Elt F) → (⟨S155520x128, .i32⟩ : BufTy).Contents (Elt F)),
    StableHlo.binary main_v11 main_v12 main_v13 (Host.shli : (⟨S155520x128, .i32⟩ : BufTy).Contents (Elt F) → (⟨S155520x128, .i32⟩ : BufTy).Contents (Elt F) → (⟨S155520x128, .i32⟩ : BufTy).Contents (Elt F)),
    StableHlo.binary main_v9 main_v13 main_v14 (ori : (⟨S155520x128, .i32⟩ : BufTy).Contents (Elt F) → (⟨S155520x128, .i32⟩ : BufTy).Contents (Elt F) → (⟨S155520x128, .i32⟩ : BufTy).Contents (Elt F)),
    StableHlo.unary main_v2 main_v15 ((extractStridedSlice S155520x1x128 ![0, 3, 0] · slices_S155520x4x128_S155520x1x128_0_3_0) : (⟨S155520x4x128, .i32⟩ : BufTy).Contents (Elt F) → (⟨S155520x1x128, .i32⟩ : BufTy).Contents (Elt F)),
    StableHlo.reshape main_v15 main_v16 (rfl : (.i32 : EltTy) = .i32) shapeCasts_S155520x1x128_S155520x128,
    StableHlo.nullary main_c_1 (constantI S_ 32 24#32),
    StableHlo.unary main_c_1 main_v17 (broadcastInDim S155520x128 ![] bcast_S_S155520x128 : (⟨S_, .i32⟩ : BufTy).Contents (Elt F) → (⟨S155520x128, .i32⟩ : BufTy).Contents (Elt F)),
    StableHlo.binary main_v16 main_v17 main_v18 (Host.shli : (⟨S155520x128, .i32⟩ : BufTy).Contents (Elt F) → (⟨S155520x128, .i32⟩ : BufTy).Contents (Elt F) → (⟨S155520x128, .i32⟩ : BufTy).Contents (Elt F)),
    StableHlo.binary main_v14 main_v18 main_v19 (ori : (⟨S155520x128, .i32⟩ : BufTy).Contents (Elt F) → (⟨S155520x128, .i32⟩ : BufTy).Contents (Elt F) → (⟨S155520x128, .i32⟩ : BufTy).Contents (Elt F)) ]
abbrev postOp : HloOp τ sig (Elt F) := StableHlo.unary main_v20 main_v21 ((truncf .bf16 · bitsLt_bf16_f32) : (⟨S10x1536x4608, .f32⟩ : BufTy).Contents (Elt F) → (⟨S10x1536x4608, .bf16⟩ : BufTy).Contents (Elt F))

variable (m : (ℓ : Loc nD τ sig) → Buf (Elt F) ℓ) (ρ : Dev nD → PrngReg)

abbrev w' : DevRef τ sig := Proc.devRef .tc (main_v19 : Ref sig .tc)
abbrev o' : DevRef τ sig := Proc.devRef .tc (main_v0 : Ref sig .tc)
abbrev s' : DevRef τ sig := Proc.devRef .tc (main_arg2 : Ref sig .tc)
abbrev r' : DevRef τ sig := Proc.devRef .tc (main_v20 : Ref sig .tc)
abbrev a0' : DevRef τ sig := Proc.devRef .tc (main_arg0 : Ref sig .tc)
abbrev a1' : DevRef τ sig := Proc.devRef .tc (main_arg1 : Ref sig .tc)
abbrev y' : DevRef τ sig := Proc.devRef .tc (main_v21 : Ref sig .tc)

/-- Every array before the call; what the call is given. -/
def VA (d : Dev nD) : Valuation τ sig (Elt F) := after preOps fun b => m (d, b)
def Fw (d : Dev nD) : S155520x128.Idx → BitVec 32 := VA m d w'
def Hf (d : Dev nD) : S10x144x1536.Idx → BitVec 32 := VA m d o'
def Hs (d : Dev nD) : S10x1536.Idx → F .f32 := VA m d s'
def Fd (d : Dev nD) : S10x1536x4608.Idx → F .f32 := VA m d r'
/-- Every array after it, and at the end. -/
def VB (d : Dev nD) : Valuation τ sig (Elt F) := Function.update (VA m d) r' (outW (Fw m d) (Hf m d) (Hs m d))
def VC (d : Dev nD) : Valuation τ sig (Elt F) := (postOp (F := F)).result (VB m d)

abbrev PP : (K (F := F)).Pay (nD := nD) (Val := Elt F) (Name := ℕ) (U := UU) := P (Fw m) (Hf m) (Hs m) (Fd m)

abbrev S4 : Finset (DevRef τ sig) := {w', o', s', r'}
abbrev S5 : Finset (DevRef τ sig) := {a0', a1', s', y'}

theorem S4_sub : S4 ⊆ ucRefs τ sig := by
  intro b hb
  simp only [S4, Finset.mem_insert, Finset.mem_singleton] at hb
  rcases hb with rfl | rfl | rfl | rfl <;> exact devRef_mem_ucRefs (by decide)
theorem S5_sub : S5 ⊆ ucRefs τ sig := by
  intro b hb
  simp only [S5, Finset.mem_insert, Finset.mem_singleton] at hb
  rcases hb with rfl | rfl | rfl | rfl <;> exact devRef_mem_ucRefs (by decide)

theorem held_S4 (d : Dev nD) (W : Valuation τ sig (Elt F)) :
    (held (T d) S4 W : sProp 𝕄) = iprop((wH d ↦{fullShare} W w') ∗ (oH d ↦{fullShare} W o') ∗ (sH d ↦{fullShare} W s') ∗ (rH d ↦{fullShare} W r')) := by
  unfold held S4
  rw [SparseCore.bigSep_insert' (by decide), SparseCore.bigSep_insert' (by decide), SparseCore.bigSep_insert' (by decide), bigSep_singleton]
theorem held_S5 (d : Dev nD) (W : Valuation τ sig (Elt F)) :
    (held (T d) S5 W : sProp 𝕄) = iprop(((T d).loc main_arg0 ↦{fullShare} W a0') ∗ ((T d).loc main_arg1 ↦{fullShare} W a1') ∗ (sH d ↦{fullShare} W s')
      ∗ ((T d).loc main_v21 ↦{fullShare} W y')) := by
  unfold held S5
  rw [SparseCore.bigSep_insert' (by decide), SparseCore.bigSep_insert' (by decide), SparseCore.bigSep_insert' (by decide), bigSep_singleton]

theorem VB_r (d : Dev nD) : VB m d r' = outW (Fw m d) (Hf m d) (Hs m d) := Function.update_self _ _ _
theorem VB_ne (d : Dev nD) {b : DevRef τ sig} (h : b ≠ r') : VB m d b = VA m d b := Function.update_of_ne h _ _

/-- Everything before the call: the tiles' pieces, and the rest. -/
theorem held_VA (d : Dev nD) :
    (held (T d) (ucRefs τ sig) (after preOps fun b => m (d, b)) : sProp 𝕄)
      = iprop((bigSep Finset.univ fun c : Fin (grid0.bound 0) => payC d (Fw m d) (Hf m d) (Hs m d) (Fd m d) c)
        ∗ restP d (Fw m d) (Hf m d) (Hs m d) ∗ held (T d) (ucRefs τ sig \ S4) (VA m d)) := by
  show held (T d) (ucRefs τ sig) (VA m d) = _
  rw [held_sub_split (T d) S4_sub, held_S4]
  refine (congrArg (fun X : sProp 𝕄 => iprop(X ∗ held (T d) (ucRefs τ sig \ S4) (VA m d))) (arrays_eq d (Fw m d) (Hf m d) (Hs m d) (Fd m d))).trans ?_
  ac_rfl

theorem held_VB (d : Dev nD) :
    (held (T d) (ucRefs τ sig) (VB m d) : sProp 𝕄)
      = iprop((bigSep Finset.univ fun c : Fin (grid0.bound 0) => payC d (Fw m d) (Hf m d) (Hs m d) (outW (Fw m d) (Hf m d) (Hs m d)) c)
        ∗ restP d (Fw m d) (Hf m d) (Hs m d) ∗ held (T d) (ucRefs τ sig \ S4) (VA m d)) := by
  rw [held_sub_split (T d) S4_sub, held_S4, VB_r, VB_ne m d (b := w') (by decide), VB_ne m d (b := o') (by decide), VB_ne m d (b := s') (by decide),
    held_congr (T d) (S := ucRefs τ sig \ S4) (V := VB m d) (V' := VA m d) fun b hb => VB_ne m d fun e => (Finset.mem_sdiff.mp hb).2 (e ▸ by decide)]
  refine (congrArg (fun X : sProp 𝕄 => iprop(X ∗ held (T d) (ucRefs τ sig \ S4) (VA m d))) (arrays_eq d (Fw m d) (Hf m d) (Hs m d) (outW (Fw m d) (Hf m d) (Hs m d)))).trans ?_
  ac_rfl

theorem held_VC (d : Dev nD) :
    (held (T d) (ucRefs τ sig) ((postOp (F := F)).result (VB m d)) : sProp 𝕄) = iprop(held (T d) S5 (VC m d) ∗ held (T d) (ucRefs τ sig \ S5) (VC m d)) :=
  held_sub_split (T d) (V := VC m d) S5_sub

theorem st0_eq (d : Dev nD) : (bigSep Finset.univ fun c : Fin ((K (F := F)).nCore 0) => (PP m).st 0 d c)
    = bigSep Finset.univ fun c : Fin (grid0.bound 0) => payC d (Fw m d) (Hf m d) (Hs m d) (Fd m d) c := rfl
theorem dn0_eq (d : Dev nD) : (bigSep Finset.univ fun c : Fin ((K (F := F)).nCore 0) => (PP m).dn 0 d c)
    = bigSep Finset.univ fun c : Fin (grid0.bound 0) => payC d (Fw m d) (Hf m d) (Hs m d) (outW (Fw m d) (Hf m d) (Hs m d)) c := rfl

theorem preOps_sub : ∀ op ∈ (preOps : List (HloOp τ sig (Elt F))), op.bufs ⊆ ucRefs τ sig := by
  intro op hop
  have h : (preOps : List (HloOp τ sig (Elt F))).Forall fun op => op.bufs ⊆ StableHlo.tcRefs τ sig := by
    exact ⟨StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub ..⟩
  exact sub_ucRefs op (List.forall_iff_forall_mem.mp h op hop)
theorem preOps_fresh : ∀ op ∈ (preOps : List (HloOp τ sig (Elt F))), op.fresh = ∅ := by
  have h : (preOps : List (HloOp τ sig (Elt F))).Forall fun op => op.fresh = ∅ := by
    simp only [List.Forall]; repeat' constructor
  exact List.forall_iff_forall_mem.mp h
theorem postOp_sub : (postOp (F := F)).bufs ⊆ ucRefs τ sig := sub_ucRefs _ (StableHlo.unary_bufs_sub ..)

theorem main_eq (d : Dev nD) : main (F := F) d = StableHlo.seq preOps >>= fun _ => ((K (F := F)).run d 0) >>= fun _ => StableHlo.seq [postOp] :=
  (show main (F := F) d = StableHlo.seqK preOps ((K (F := F)).run d 0 >>= fun _ => StableHlo.seq [postOp]) from rfl).trans (StableHlo.seq_bind_seqK _ _).symm

abbrev FIN (d : Dev nD) : sProp 𝕄 := held (T d) S5 (VC m d)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (fun b : Ref sig .tc => m ((SparseCore.T d).loc b)) = fun b : Ref sig .tc => (fun b' : DevRef τ sig => m (d, b')) (Proc.devRef .tc b) from rfl,
    unscopedBufs_held d (fun b' : DevRef τ sig => m (d, b')), main_eq]
  iintro ⟨#Hctx, Hst, ⟨Hb, Hheld, Hts, -⟩, -⟩
  iapply (StableHlo.wp_seq (defs := (K (F := F)).defs (D (F := F))) 𝒱 none Set.univ d (ucRefs τ sig) _ preOps preOps_sub preOps_fresh (fun b => m (d, b))) $$ [Hb Hheld]
  · isplitl [Hb] <;> iassumption
  iintro ⟨Hb, Hheld⟩
  ihave Hh := (Entails.of_eq (held_VA (F := F) m d)) $$ Hheld
  icases Hh with ⟨Hp, Hr, Hu⟩
  simp only [StableHlo.seq, wp_bind, wp_pure]
  iapply ((K (F := F)).wp_run (D (F := F)) 𝒱 (EH := EH) (P := PP m) κ d 0) $$ [Hst Hp Hr Hu Hb Hts]
  isplitr; · iexact Hctx
  isplitl [Hst]; · iexact Hst
  isplitl [Hp]
  · rw [st0_eq]; iexact Hp
  iintro ⟨Hst, Hdn⟩
  ihave Hp := (Entails.of_eq (dn0_eq m d)) $$ Hdn
  iapply (StableHlo.wp_hlo_within 𝒱 (SparseCore.T d) none Set.univ (op := postOp) (S := ucRefs τ sig) postOp_sub (V := VB m d)) $$ [Hb Hp Hr Hu]
  · isplitl [Hb]; · iexact Hb
    rw [held_VB]
    isplitl [Hp]; · iexact Hp
    isplitl [Hr]; · iexact Hr
    iexact Hu
  iintro ⟨Hb, Hheld⟩
  ihave Hh := (Entails.of_eq (held_VC m d)) $$ Hheld
  icases Hh with ⟨Hf, -⟩
  rw [wp_ret]; imodintro; imodintro
  isplitl [Hst]; · iexact Hst
  isplitl [Hf]; · iexact Hf
  isplitl [Hb] <;> iassumption

/-! ## The end -/

def fq (d : Dev nD) (σ : Phys nD τ sig (Elt F)) : Prop :=
  σ.mem.mem ((T d).loc main_arg0) = VC m d a0' ∧ σ.mem.mem ((T d).loc main_arg1) = VC m d a1' ∧ σ.mem.mem (sH d) = VC m d s' ∧ σ.mem.mem ((T d).loc main_v21) = VC m d y'

theorem agree (ℓ : Loc nD τ sig) (f : Buf (Elt F) ℓ) (σ : Phys nD τ sig (Elt F)) : iprop(SI σ ∗ ℓ ↦{fullShare} f) ⊢ (⌜σ.mem.mem ℓ = f⌝ : sProp 𝕄) := by
  iintro H
  ihave H := (SI_pointsTo_agree (st := σ) (ℓ := ℓ) (I := Finset.univ) (q := fullShare) (f := f)) $$ H
  icases H with %h
  ipureintro; exact funext fun i => h i (Finset.mem_univ i)

theorem hfin (d : Dev nD) (σ : Phys nD τ sig (Elt F)) : iprop(FIN m d ∗ SI σ) ⊢ (⌜fq m d σ⌝ : sProp 𝕄) := by
  unfold FIN
  rw [held_S5]
  iintro ⟨⟨H0, H1, H2, H3⟩, HSI⟩
  ihave H := (persistent_entails_right (agree _ _ σ)) $$ [HSI H0]
  · isplitl [HSI] <;> iassumption
  icases H with ⟨%h0, HSI, -⟩
  ihave H := (persistent_entails_right (agree _ _ σ)) $$ [HSI H1]
  · isplitl [HSI] <;> iassumption
  icases H with ⟨%h1, HSI, -⟩
  ihave H := (persistent_entails_right (agree _ _ σ)) $$ [HSI H2]
  · isplitl [HSI] <;> iassumption
  icases H with ⟨%h2, HSI, -⟩
  ihave H := (agree _ _ σ) $$ [HSI H3]
  · isplitl [HSI] <;> iassumption
  icases H with %h3
  ipureintro; exact ⟨h0, h1, h2, h3⟩

def u₀ : UU := (initOf (K (F := F)).hsCells (K (F := F)).hsToks, 1)

theorem bigSep_emp' {I : Type} (s : Finset I) : (bigSep s fun _ => iprop(emp)) = (iprop(emp) : sProp 𝕄) := bigSep_emp_const s

theorem ownU_split (a : UH) (b : Counters) : (ownU (a, b) : sProp 𝕄) ⊢ iprop(BI.own (EH a) ∗ BI.own ((Emb.inr : Emb Counters UU).trans (uEmb (nD := nD) (sig := sig) (Ix := HIx 1) (Val := Elt F) (Name := ℕ) (U := UU) (Lvl := ℕ)).toEmb b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_split _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

def QC : PUnit × MemSt nD τ sig (Elt F) → Prop := fun r => (∀ c : Dev nD,
  r.2.mem ((T c).loc main_arg0) = VC m c a0' ∧ r.2.mem ((T c).loc main_arg1) = VC m c a1' ∧ r.2.mem (sH c) = VC m c s' ∧ r.2.mem ((T c).loc main_v21) = VC m c y') ∧ r.2.sem = fun _ => 0

theorem run_main [∀ e, Nonempty (Elt F e)] (hP : ∀ d, SpanOk (Hf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (Fw m) (Hf m) (Hs m) (Fd m) facts hP)
    (fun q _ => match q with | 0 => SparseCore.Cfg.VecSplit.of_plain (vecSplit (Fw m) (Hf m) (Hs m) (Fd m)))
    m ρ main (fun _ => iprop(emp)) (FIN m) (u₀ (F := F)) (sep_elim_left.trans (hu₀ m)) (hmain m ρ) (fq m) (hfin m) (QC m) (fun _ h hz => ⟨h, hz⟩)

end Cert.Proof.Unpack

end
-- ==== Proof.Words.lean ====
/-
  What the host operations leave: the arguments as given, the starts with their axes exchanged, the words of the
  stream, the result rounded; and the bytes of those words, which are the stream's.
-/
module

public import proofs.«01_k».proof.Proof.Launch
public import Idealize.ShloMosaic.Lib.Pipeline.Value

@[expose] public section

noncomputable section

namespace Cert.Proof.Unpack

open Cert.KernelIdeal Cert.KernelIdeal.Gen
open Idealize.ShloMosaic hiding T
open Idealize.ShloMosaic.StableHlo (after)

variable {F : FTy → Type} [FloatOps F]
variable (m : (ℓ : Loc nD τ sig) → Buf (Elt F) ℓ)

/-- Four bytes in a word. -/
def packB (b0 b1 b2 b3 : BitVec 8) : BitVec 32 :=
  ((b0.setWidth 32 ||| b1.setWidth 32 <<< 8) ||| b2.setWidth 32 <<< 16) ||| b3.setWidth 32 <<< 24

theorem packB_0 (b0 b1 b2 b3 : BitVec 8) : (packB b0 b1 b2 b3 >>> (8 * 0)).setWidth 8 = b0 := by
  unfold packB; ext i hi
  simp only [BitVec.getElem_setWidth, BitVec.getLsbD_ushiftRight, BitVec.getLsbD_or, BitVec.getLsbD_shiftLeft, BitVec.getLsbD_setWidth]
  simp (disch := omega) [BitVec.getLsbD_of_ge, hi, show i < 16 by omega, show i < 24 by omega, show i < 32 by omega, ← BitVec.getLsbD_eq_getElem]
theorem packB_1 (b0 b1 b2 b3 : BitVec 8) : (packB b0 b1 b2 b3 >>> (8 * 1)).setWidth 8 = b1 := by
  unfold packB; ext i hi
  simp only [BitVec.getElem_setWidth, BitVec.getLsbD_ushiftRight, BitVec.getLsbD_or, BitVec.getLsbD_shiftLeft, BitVec.getLsbD_setWidth]
  simp (disch := omega) [BitVec.getLsbD_of_ge, hi, show 8 + i < 16 by omega, show 8 + i < 24 by omega, show 8 + i < 32 by omega, show i < 32 by omega, ← BitVec.getLsbD_eq_getElem]
theorem packB_2 (b0 b1 b2 b3 : BitVec 8) : (packB b0 b1 b2 b3 >>> (8 * 2)).setWidth 8 = b2 := by
  unfold packB; ext i hi
  simp only [BitVec.getElem_setWidth, BitVec.getLsbD_ushiftRight, BitVec.getLsbD_or, BitVec.getLsbD_shiftLeft, BitVec.getLsbD_setWidth]
  simp (disch := omega) [BitVec.getLsbD_of_ge, hi, show ¬ 16 + i < 8 by omega, show 16 + i < 24 by omega, show 16 + i < 32 by omega, show 16 + i - 8 < 32 by omega, show i < 32 by omega, ← BitVec.getLsbD_eq_getElem]
theorem packB_3 (b0 b1 b2 b3 : BitVec 8) : (packB b0 b1 b2 b3 >>> (8 * 3)).setWidth 8 = b3 := by
  unfold packB; ext i hi
  simp only [BitVec.getElem_setWidth, BitVec.getLsbD_ushiftRight, BitVec.getLsbD_or, BitVec.getLsbD_shiftLeft, BitVec.getLsbD_setWidth]
  simp (disch := omega) [BitVec.getLsbD_of_ge, hi, show ¬ 24 + i < 8 by omega, show ¬ 24 + i < 16 by omega, show 24 + i < 32 by omega, show i < 32 by omega, ← BitVec.getLsbD_eq_getElem]

/-- Byte `n` of the stream, zero past its end. -/
def streamN (x : S79626240.Idx → BitVec 8) (n : ℕ) : BitVec 8 := if h : n < 79626240 then x (fun | 0 => ⟨n, h⟩) else 0#8

/-- The words the host forms of the stream. -/
def packW (x : S79626240.Idx → BitVec 8) : S155520x128.Idx → BitVec 32 := fun i =>
  packB (streamN x (512 * (i 0).val + 128 * 0 + (i 1).val)) (streamN x (512 * (i 0).val + 128 * 1 + (i 1).val))
    (streamN x (512 * (i 0).val + 128 * 2 + (i 1).val)) (streamN x (512 * (i 0).val + 128 * 3 + (i 1).val))

/-- A plane of the stream's bytes, widened, read at a row and a lane. -/
theorem plane_apply (x : S79626240.Idx → BitVec 8) (c : ℕ) (hc : c < 4) (hs : S155520x4x128.Slices ![0, c, 0] S155520x1x128) (i : S155520x128.Idx) :
    shapeCast S155520x128 (extractStridedSlice S155520x1x128 ![0, c, 0] (extui 32 (shapeCast S155520x4x128 x shapeCasts_S79626240_S155520x4x128) natLt_8_32) hs)
        shapeCasts_S155520x1x128_S155520x128 i
      = (streamN x (512 * (i 0).val + 128 * c + (i 1).val)).setWidth 32 := by
  have h0 : (i 0).val < 155520 := (i 0).isLt
  have h1 : (i 1).val < 128 := (i 1).isLt
  have hn : 512 * (i 0).val + 128 * c + (i 1).val < 79626240 := by omega
  rw [shapeCast_apply _ shapeCasts_S155520x1x128_S155520x128 i (fun | 0 => ⟨(i 0).val, h0⟩ | 1 => ⟨0, Nat.one_pos⟩ | 2 => ⟨(i 1).val, h1⟩)
    (by rw [Shape.rowMajor_val_three, Shape.rowMajor_val_two]; simp)]
  unfold extractStridedSlice extui
  rw [shapeCast_apply _ shapeCasts_S79626240_S155520x4x128 _ (fun | 0 => ⟨512 * (i 0).val + 128 * c + (i 1).val, hn⟩)
    (by rw [Shape.rowMajor_val_three, Shape.rowMajor_val_one]
        show 512 * (i 0).val + 128 * c + (i 1).val = ((0 + (i 0).val) * 4 + (c + 0)) * 128 + (0 + (i 1).val)
        omega)]
  unfold streamN
  rw [dif_pos hn]

variable (d : Dev nD)

theorem Fw_eq : Fw m d = packW (m (d, a0')) := by
  unfold Fw VA
  after_results_simp
  funext i
  have e0 := plane_apply (m (d, a0')) 0 (by decide) slices_S155520x4x128_S155520x1x128_0_0_0 i
  have e1 := plane_apply (m (d, a0')) 1 (by decide) slices_S155520x4x128_S155520x1x128_0_1_0 i
  have e2 := plane_apply (m (d, a0')) 2 (by decide) slices_S155520x4x128_S155520x1x128_0_2_0 i
  have e3 := plane_apply (m (d, a0')) 3 (by decide) slices_S155520x4x128_S155520x1x128_0_3_0 i
  unfold packW packB
  rw [← e0, ← e1, ← e2, ← e3]
  rfl

theorem Hf_eq : Hf m d = transpose S10x144x1536 [0, 2, 1] (m (d, a1')) transposes_S10x1536x144_S10x144x1536_0_2_1 := by
  unfold Hf VA
  after_results_simp

theorem Hs_eq : Hs m d = m (d, s') := by
  unfold Hs VA
  after_results_simp
theorem VA_a0 : VA m d a0' = m (d, a0') := by
  unfold VA
  after_results_simp
theorem VA_a1 : VA m d a1' = m (d, a1') := by
  unfold VA
  after_results_simp
theorem VC_a0 : VC m d a0' = m (d, a0') := by
  unfold VC
  rw [HloOp.result_of_not_mem _ _ (by rw [StableHlo.unary_writes]; decide), VB_ne m d (by decide), VA_a0]
theorem VC_a1 : VC m d a1' = m (d, a1') := by
  unfold VC
  rw [HloOp.result_of_not_mem _ _ (by rw [StableHlo.unary_writes]; decide), VB_ne m d (by decide), VA_a1]
theorem VC_s : VC m d s' = m (d, s') := by
  unfold VC
  rw [HloOp.result_of_not_mem _ _ (by rw [StableHlo.unary_writes]; decide), VB_ne m d (by decide)]
  exact Hs_eq m d
theorem VC_y : VC m d y' = truncf .bf16 (outW (Fw m d) (Hf m d) (Hs m d)) bitsLt_bf16_f32 := by
  unfold VC
  rw [← VB_r]
  exact StableHlo.unary_result _ _ _ _ _ _

/-- Byte `n` of the words is byte `n` of the stream. -/
theorem wbyte_pack (x : S79626240.Idx → BitVec 8) (n : ℕ) : (wbyte (packW x) n).setWidth 8 = streamN x n := by
  unfold wbyte wordN
  by_cases hn : n < 79626240
  · have h0 : n / 512 < 155520 := by omega
    have h1 : n % 128 < 128 := by omega
    rw [dif_pos ⟨h0, h1⟩]
    have hc : n % 512 / 128 < 4 := by omega
    have hN : n = 512 * (n / 512) + 128 * (n % 512 / 128) + n % 128 := by omega
    show (packB (streamN x (512 * (n / 512) + 128 * 0 + n % 128)) (streamN x (512 * (n / 512) + 128 * 1 + n % 128))
      (streamN x (512 * (n / 512) + 128 * 2 + n % 128)) (streamN x (512 * (n / 512) + 128 * 3 + n % 128)) >>> (8 * (n % 512 / 128))).setWidth 8 = _
    conv_rhs => rw [hN]
    generalize n % 512 / 128 = c at hc ⊢
    match c, hc with
    | 0, _ => exact packB_0 ..
    | 1, _ => exact packB_1 ..
    | 2, _ => exact packB_2 ..
    | 3, _ => exact packB_3 ..
  · rw [dif_neg (by omega)]
    unfold streamN
    rw [dif_neg hn]
    simp

end Cert.Proof.Unpack

end
-- ==== Proof.Windows.lean ====
/-
  The precondition, read: the windows of eight tokens lie in order in a bounded span of the stream.
-/
module

public import proofs.«01_k».proof.Proof.Words
public import proofs.«01_k».proof.Pre_windows_in_place
public import proofs.«01_k».proof.Proof.Gen.Pre_windows_in_place

@[expose] public section

noncomputable section

namespace Cert.Proof.Unpack

open Cert.KernelIdeal Cert.KernelIdeal.Gen
open Idealize.ShloMosaic hiding T

variable {F : FTy → Type} [FloatOps F]

theorem in_order (a x b : BitVec 32)
    (h : IntOp.andi (IntOp.andi (IntOp.andi (IntOp.andi (IntOp.cmpi .sge a 0#32) (IntOp.cmpi .sle a x)) (IntOp.cmpi .sle x b)) (IntOp.cmpi .sle (IntOp.subi b a) 41436#32))
      (IntOp.cmpi .sle b 79626204#32) = 1#1) :
    a.toNat ≤ x.toNat ∧ x.toNat ≤ b.toNat ∧ b.toNat ≤ a.toNat + 41436 ∧ b.toNat + 36 ≤ 79626240 := by
  have one : ∀ u v : BitVec 1, u &&& v = 1#1 → u = 1#1 ∧ v = 1#1 := by decide
  have tr : ∀ c : Bool, BitVec.ofBool c = 1#1 → c = true := by decide
  obtain ⟨h, h5⟩ := one _ _ h
  obtain ⟨h, h4⟩ := one _ _ h
  obtain ⟨h, h3⟩ := one _ _ h
  obtain ⟨h1, h2⟩ := one _ _ h
  replace h1 : (0#32).sle a = true := tr _ h1
  replace h2 : a.sle x = true := tr _ h2
  replace h3 : x.sle b = true := tr _ h3
  replace h4 : (b - a).sle 41436#32 = true := tr _ h4
  replace h5 : b.sle 79626204#32 = true := tr _ h5
  simp only [BitVec.sle, decide_eq_true_eq, BitVec.toInt_eq_toNat_cond, BitVec.toNat_sub, BitVec.toNat_ofNat] at h1 h2 h3 h4 h5
  have := a.isLt; have := b.isLt; have := x.isLt
  split_ifs at h1 h2 h3 h4 h5 <;> omega

/-- Start `q` of group `g`, the starts of a group laid end to end. -/
def groupStart (x : S10x1536x144.Idx → BitVec 32) (g q : ℕ) : BitVec 32 :=
  x (fun | 0 => ⟨g / 192 % 10, Nat.mod_lt _ (by decide)⟩ | 1 => ⟨(8 * (g % 192) + q / 144) % 1536, Nat.mod_lt _ (by decide)⟩ | 2 => ⟨q % 144, Nat.mod_lt _ (by decide)⟩)

theorem reshape_apply (x : S10x1536x144.Idx → BitVec 32) (h : S10x1536x144.ShapeCasts Cert.Pre_windows_in_place.S1920x1152) (j : Cert.Pre_windows_in_place.S1920x1152.Idx) :
    shapeCast Cert.Pre_windows_in_place.S1920x1152 x h j = groupStart x (j 0).val (j 1).val := by
  have h0 : (j 0).val < 1920 := (j 0).isLt
  have h1 : (j 1).val < 1152 := (j 1).isLt
  refine shapeCast_apply _ h j _ ?_
  rw [Shape.rowMajor_val_three, Shape.rowMajor_val_two]
  show ((j 0).val / 192 % 10 * 1536 + (8 * ((j 0).val % 192) + (j 1).val / 144) % 1536) * 144 + (j 1).val % 144 = (j 0).val * 1152 + (j 1).val
  omega

/-- A column of the starts, repeated along its row. -/
theorem col_apply (x : S10x1536x144.Idx → BitVec 32) (h : S10x1536x144.ShapeCasts Cert.Pre_windows_in_place.S1920x1152) (c : ℕ) (hc : c < 1152)
    (hs : Cert.Pre_windows_in_place.S1920x1152.Slices ![0, c] Cert.Pre_windows_in_place.S1920x1)
    (hb : Cert.Pre_windows_in_place.S1920x1.BroadcastsInDim Cert.Pre_windows_in_place.S1920x1152 (![0, 1] : Fin 2 → Fin Cert.Pre_windows_in_place.S1920x1152.rank))
    (j : Cert.Pre_windows_in_place.S1920x1152.Idx) :
    groupStart x (j 0).val c = broadcastInDim Cert.Pre_windows_in_place.S1920x1152 ![0, 1] hb
        (extractStridedSlice Cert.Pre_windows_in_place.S1920x1 ![0, c] (shapeCast Cert.Pre_windows_in_place.S1920x1152 x h) hs) j := by
  have h0 : (j 0).val < 1920 := (j 0).isLt
  rw [broadcastInDim_apply _ hb _ j (fun | 0 => ⟨(j 0).val, h0⟩ | 1 => ⟨0, Nat.one_pos⟩) (fun a => match a with | ⟨0, _⟩ => rfl | ⟨1, _⟩ => rfl),
    extractStridedSlice_apply _ _ hs _ (fun | 0 => ⟨(j 0).val, h0⟩ | 1 => ⟨c, hc⟩)
      (fun a => match a with | ⟨0, _⟩ => (Nat.zero_add _).symm | ⟨1, _⟩ => rfl), reshape_apply]

theorem groups_of_pre [Cert.Pre_windows_in_place.Facts] (x0 : S79626240.Idx → BitVec 8) (x1 : S10x1536x144.Idx → BitVec 32) (x2 : S10x1536.Idx → F .f32)
    (h : Cert.Pre_windows_in_place.fn (F := F) x0 x1 x2 = fun _ => 1#1) (g : ℕ) (hg : g < 1920) (q : ℕ) (hq : q < 1152) :
    (groupStart x1 g 0).toNat ≤ (groupStart x1 g q).toNat ∧ (groupStart x1 g q).toNat ≤ (groupStart x1 g 1151).toNat
      ∧ (groupStart x1 g 1151).toNat ≤ (groupStart x1 g 0).toNat + 41436 ∧ (groupStart x1 g 1151).toNat + 36 ≤ 79626240 := by
  let j : Cert.Pre_windows_in_place.S1920x1152.Idx := fun | 0 => ⟨g, hg⟩ | 1 => ⟨q, hq⟩
  have hA : groupStart x1 g q = _ := (reshape_apply x1 Cert.Pre_windows_in_place.Facts.shapeCasts_S10x1536x144_S1920x1152 j).symm
  have hF := col_apply x1 Cert.Pre_windows_in_place.Facts.shapeCasts_S10x1536x144_S1920x1152 0 (by decide) Cert.Pre_windows_in_place.Facts.slices_S1920x1152_S1920x1_0_0
    Cert.Pre_windows_in_place.Facts.bcast_S1920x1_S1920x1152_0_1 j
  have hL := col_apply x1 Cert.Pre_windows_in_place.Facts.shapeCasts_S10x1536x144_S1920x1152 1151 (by decide) Cert.Pre_windows_in_place.Facts.slices_S1920x1152_S1920x1_0_1151
    Cert.Pre_windows_in_place.Facts.bcast_S1920x1_S1920x1152_0_1 j
  change groupStart x1 g 0 = _ at hF
  change groupStart x1 g 1151 = _ at hL
  have h' := congrFun h j
  rw [hA, hF, hL]
  exact in_order _ _ _ h'

theorem startN_groupStart (x : S10x1536x144.Idx → BitVec 32) (t : ℕ) (ht : t < 10) (w : ℕ) (hw : w < 144) (k : ℕ) (hk : k < 1536) :
    startN (transpose S10x144x1536 [0, 2, 1] x transposes_S10x1536x144_S10x144x1536_0_2_1) t w k = groupStart x (192 * t + k / 8) (144 * (k % 8) + w) := by
  unfold startN
  refine transpose_apply _ _ _ _ _ fun b => ?_
  match b with
  | ⟨0, _⟩ => show (192 * t + k / 8) / 192 % 10 = t % 10; omega
  | ⟨1, _⟩ => show (144 * (k % 8) + w) % 144 = w % 144; omega
  | ⟨2, _⟩ => show (8 * ((192 * t + k / 8) % 192) + (144 * (k % 8) + w) / 144) % 1536 = k % 1536; omega

theorem spanOk_of_pre [Cert.Pre_windows_in_place.Facts] (x0 : S79626240.Idx → BitVec 8) (x1 : S10x1536x144.Idx → BitVec 32) (x2 : S10x1536.Idx → F .f32)
    (h : Cert.Pre_windows_in_place.fn (F := F) x0 x1 x2 = fun _ => 1#1) :
    SpanOk (transpose S10x144x1536 [0, 2, 1] x1 transposes_S10x1536x144_S10x144x1536_0_2_1) := by
  intro t ht k hk h8
  have e0 : startN (transpose S10x144x1536 [0, 2, 1] x1 transposes_S10x1536x144_S10x144x1536_0_2_1) t 0 k = groupStart x1 (192 * t + k / 8) 0 := by
    rw [startN_groupStart x1 t ht 0 (by omega) k (by omega)]; congr 1; omega
  have e1 : startN (transpose S10x144x1536 [0, 2, 1] x1 transposes_S10x1536x144_S10x144x1536_0_2_1) t 143 (k + 7) = groupStart x1 (192 * t + k / 8) 1151 := by
    rw [startN_groupStart x1 t ht 143 (by omega) (k + 7) (by omega)]; congr 1 <;> omega
  rw [e0, e1]
  have H := groups_of_pre x0 x1 x2 h (192 * t + k / 8) (by omega)
  refine ⟨⟨?_, ?_, ?_⟩, fun w hw j hj => ?_⟩
  · exact (H 0 (by omega)).2.1
  · exact (H 0 (by omega)).2.2.1
  · exact (H 0 (by omega)).2.2.2
  · rw [startN_groupStart x1 t ht w hw (k + j) (by omega), show (k + j) / 8 = k / 8 by omega]
    exact ⟨(H _ (by omega)).1, (H _ (by omega)).2.1⟩

end Cert.Proof.Unpack

end
-- ==== Proof.Frames.lean ====
/-
  The kernel's run, stated of the kernel as given and of its idealization: it ends, nothing is left in flight, and its
  arguments are as they were.
-/
module

public import proofs.«01_k».proof.Defs
public import proofs.«01_k».proof.Proof.Gen.Kernel
public import proofs.«01_k».proof.Proof.Windows

@[expose] public section

noncomputable section

namespace Cert.Proof.Unpack

open Idealize.ShloMosaic hiding T
open Idealize.SL.Sem
open Idealize.ShloMosaic.SparseCore (T)

section

open Cert.KernelIdeal

variable {F : FTy → Type} [FloatOps F] [∀ e, Nonempty (Elt F e)]

/-- What the kernel's arrays hold at the end: its arguments, and its result. -/
theorem run_values (m : (ℓ : Loc nD τ sig) → Buf (Elt F) ℓ) (ρ : Dev nD → PrngReg) [Cert.Pre_windows_in_place.Facts]
    (hP : ∀ c : Dev nD, Cert.Pre_windows_in_place.fn (F := F) (m ((T c).loc main_arg0)) (m ((T c).loc main_arg1)) (m ((T c).loc main_arg2)) = fun _ => 1#1) :
    θ_run (Cert.KernelIdeal.defs (F := F)) (Cert.KernelIdeal.threads (F := F)) ⟨m, fun _ => 0, ρ⟩ (fun r => (∀ c : Dev nD,
      r.2.mem ((T c).loc main_v21) = VC m c y'
      ∧ r.2.mem ((T c).loc main_arg0) = m ((T c).loc main_arg0) ∧ r.2.mem ((T c).loc main_arg1) = m ((T c).loc main_arg1)
      ∧ r.2.mem ((T c).loc main_arg2) = m ((T c).loc main_arg2)) ∧ r.2.sem = fun _ => 0) := by
  refine (θ_run _ _ _).mono ?_ (run_main m ρ fun d => ?_)
  · rintro r ⟨h, hz⟩
    exact ⟨fun c => ⟨(h c).2.2.2, (h c).1.trans (VC_a0 m c), (h c).2.1.trans (VC_a1 m c), (h c).2.2.1.trans (VC_s m c)⟩, hz⟩
  · rw [Hf_eq]
    exact spanOk_of_pre _ _ _ (hP d)

theorem run_frame (m : (ℓ : Loc nD τ sig) → Buf (Elt F) ℓ) (ρ : Dev nD → PrngReg) [Cert.Pre_windows_in_place.Facts]
    (hP : ∀ c : Dev nD, Cert.Pre_windows_in_place.fn (F := F) (m ((T c).loc main_arg0)) (m ((T c).loc main_arg1)) (m ((T c).loc main_arg2)) = fun _ => 1#1) :
    θ_run (Cert.KernelIdeal.defs (F := F)) (Cert.KernelIdeal.threads (F := F)) ⟨m, fun _ => 0, ρ⟩ (fun r => (∀ c : Dev nD,
      r.2.mem ((T c).loc main_arg0) = m ((T c).loc main_arg0) ∧ r.2.mem ((T c).loc main_arg1) = m ((T c).loc main_arg1)
      ∧ r.2.mem ((T c).loc main_arg2) = m ((T c).loc main_arg2)) ∧ r.2.sem = fun _ => 0) :=
  (θ_run _ _ _).mono (fun _ h => ⟨fun c => (h.1 c).2, h.2⟩) (run_values m ρ hP)

end

theorem frame_ideal : Cert.quiescent_KernelIdeal (hKernelIdeal := Cert.KernelIdeal.Gen.facts) (hPre_windows_in_place := Cert.Pre_windows_in_place.Gen.facts) :=
  fun m ρ hP => run_frame (F := Ideal) m ρ hP

set_option maxHeartbeats 4000000 in
set_option maxRecDepth 100000 in
/-- The kernel as given is, operation for operation, its idealization read at the same floats. -/
theorem frame_kernel : Cert.quiescent_Kernel (hKernel := Cert.Kernel.Gen.facts) (hPre_windows_in_place := Cert.Pre_windows_in_place.Gen.facts) := by
  intro m ρ hP
  exact run_frame (F := Bits) m ρ hP

end Cert.Proof.Unpack

end
-- ==== Proof.RefValue.lean ====
/-
  The reference's host arithmetic, read at an index: the mask's bits, how many ones come before each, and the byte each
  set bit takes from the stream.
-/
module

public import proofs.«01_k».proof.Proof.Words
public import proofs.«01_k».proof.Proof.Gen.ReferenceIdeal
public import Idealize.ShloMosaic.Lib.Pipeline.Value
public import Idealize.ShloMosaic.Lib.StableHlo.Predicate

@[expose] public section

noncomputable section

namespace Cert.Proof.Unpack

open Cert.ReferenceIdeal Cert.ReferenceIdeal.Gen
open Cert.ReferenceIdeal.Facts
open Idealize.ShloMosaic hiding T

/-- A window and a place in it. -/
abbrev at4 {n : ℕ} (t : Fin 10) (k : Fin 1536) (w : Fin 144) (e : Fin n) : (⟨4, ![10, 1536, 144, n]⟩ : Shape).Idx :=
  fun | ⟨0, _⟩ => t | ⟨1, _⟩ => k | ⟨2, _⟩ => w | ⟨3, _⟩ => e
abbrev at5 {n p : ℕ} (t : Fin 10) (k : Fin 1536) (w : Fin 144) (e : Fin n) (b : Fin p) : (⟨5, ![10, 1536, 144, n, p]⟩ : Shape).Idx :=
  fun | ⟨0, _⟩ => t | ⟨1, _⟩ => k | ⟨2, _⟩ => w | ⟨3, _⟩ => e | ⟨4, _⟩ => b
abbrev at3 (t : Fin 10) (k : Fin 1536) (w : Fin 144) : S10x1536x144.Idx := fun | ⟨0, _⟩ => t | ⟨1, _⟩ => k | ⟨2, _⟩ => w

/-! ## A gather of single bytes -/

/-- One byte for each place of each window, read at that place's position. -/
theorem gather_at {n : ℕ} (ss : Fin 1 → ℕ) (wf)
    (x : S79626240.Idx → BitVec 8) (idx : IVec ⟨5, ![10, 1536, 144, n, 1]⟩ 32) (t : Fin 10) (k : Fin 1536) (w : Fin 144) (e : Fin n)
    (h : (idx (at5 t k w e 0)).toNat < 79626240) :
    Host.gather (⟨[], [0], [], [], [0], 4, ss, wf⟩ : GatherDims S79626240 ⟨5, ![10, 1536, 144, n, 1]⟩ ⟨4, ![10, 1536, 144, n]⟩) x idx (at4 t k w e)
      = streamN x (idx (at5 t k w e 0)).toNat := by
  unfold streamN Host.gather
  rw [dif_pos h]
  congr 1
  funext a
  have ha0 : a = 0 := Subsingleton.elim _ _
  subst ha0
  apply Fin.ext
  generalize hd : (⟨[], [0], [], [], [0], 4, ss, wf⟩ : GatherDims S79626240 ⟨5, ![10, 1536, 144, n, 1]⟩ ⟨4, ![10, 1536, 144, n]⟩) = d
  have hcoll : d.collapsedSliceDims = [0] := by rw [← hd]
  have hob : d.operandBatchingDims = [] := by rw [← hd]
  have hsim : d.startIndexMap = [0] := by rw [← hd]
  have hb : (0 : Fin 1) ∉ d.operandBatchingDims := by rw [hob]; exact List.not_mem_nil
  have hk : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (79626240 - d.sliceSizes 0) = (idx (at5 t k w e 0)).toNat
  rw [hsl]
  have hi : d.siIdx (at4 t k w e) ⟨d.startIndexMap.idxOf 0, List.idxOf_lt_length_iff.2 hm⟩ = at5 t k w e 0 := by
    subst hd
    funext b
    match b with
    | ⟨0, _⟩ => rfl
    | ⟨1, _⟩ => rfl
    | ⟨2, _⟩ => rfl
    | ⟨3, _⟩ => rfl
    | ⟨4, _⟩ => rfl
  rw [hi, BitVec.toInt_eq_toNat_of_lt (by omega)]
  omega

/-- A position inside the stream is not moved by the wrapping of negative ones. -/
theorem wrap_eq (p : BitVec 32) (h : p.toNat < 79626240) :
    (if IntOp.cmpi .slt p 0#32 = 1#1 then IntOp.addi p 79626240#32 else p) = p := by
  refine if_neg ?_
  show ¬ BitVec.ofBool (p.slt 0#32) = 1#1
  have : p.slt 0#32 = false := by
    rw [BitVec.slt, BitVec.toInt_eq_toNat_of_lt (by omega)]
    simp
  rw [this]; decide

/-! ## Sums -/

theorem foldl_add {N : ℕ} (g : Fin N → BitVec 32) (f : ℕ → ℕ) (h : ∀ n, g n = BitVec.ofNat 32 (f n.val)) (l : List (Fin N)) (a : ℕ) :
    l.foldl (fun r n => IntOp.addi r (g n)) (BitVec.ofNat 32 a) = BitVec.ofNat 32 (a + (l.map fun n => f n.val).sum) := by
  induction l generalizing a with
  | nil => simp
  | cons n l ih =>
    rw [List.foldl_cons, h]
    have : IntOp.addi (BitVec.ofNat 32 a) (BitVec.ofNat 32 (f n.val)) = BitVec.ofNat 32 (a + f n.val) := (BitVec.ofNat_add ..).symm
    rw [this, ih, List.map_cons, List.sum_cons, Nat.add_assoc]

theorem sum_places (f : ℕ → ℕ) (N : ℕ) : ((List.finRange N).map fun n => f n.val).sum = ∑ n ∈ Finset.range N, f n := by
  rw [← Fin.sum_univ_def, Fin.sum_univ_eq_sum_range]

theorem sum_shift (b : ℕ → ℕ) (e : ℕ) (he : e < 32) :
    ∑ n ∈ Finset.range 32, (if 31 ≤ e + n then b (e + n - 31) else 0) = ∑ i ∈ Finset.range (e + 1), b i := by
  rw [show 32 = (31 - e) + (e + 1) by omega, Finset.sum_range_add]
  rw [Finset.sum_eq_zero fun n hn => if_neg (by have := Finset.mem_range.1 hn; omega), Nat.zero_add]
  refine Finset.sum_congr rfl fun n hn => ?_
  rw [if_pos (by omega)]
  congr 1; omega

/-- The running sum along a window: the bits up to and with each place. -/
theorem rsum_apply (x : S10x1536x144x32.Idx → BitVec 32) (v : S_.Idx → BitVec 32) (hv : ∀ i, v i = 0#32)
    (hw : S10x1536x144x32.ReduceWindows (![1, 1, 1, 32] : Fin 4 → ℕ) ![1, 1, 1, 1] ![0, 0, 0, 31] ![0, 0, 0, 0] S10x1536x144x32)
    (hu : 0 < S_.numel) (t : Fin 10) (k : Fin 1536) (w : Fin 144) (b : ℕ → ℕ) (hx : ∀ e : Fin 32, x (at4 t k w e) = BitVec.ofNat 32 (b e.val)) (e : Fin 32) :
    Host.reduceWindow IntOp.addi ![1, 1, 1, 32] ![1, 1, 1, 1] ![0, 0, 0, 31] ![0, 0, 0, 0] x v hw hu (at4 t k w e)
      = BitVec.ofNat 32 (∑ i ∈ Finset.range (e.val + 1), b i) := by
  unfold Host.reduceWindow
  simp only [hv]
  refine (foldl_add _ (fun n => if 31 ≤ e.val + n then b (e.val + n - 31) else 0) (fun n => ?_) _ 0).trans ?_
  · have hn : n.val < 32 := n.isLt
    have hs : (⟨4, ![1, 1, 1, 32]⟩ : Shape).rowMajor.symm n = (fun | ⟨0, _⟩ => (0 : Fin 1) | ⟨1, _⟩ => (0 : Fin 1) | ⟨2, _⟩ => (0 : Fin 1) | ⟨3, _⟩ => (⟨n.val, hn⟩ : Fin 32)) := by
      rw [Equiv.symm_apply_eq]
      apply Fin.ext
      rw [Shape.rowMajor_val_four]
      show n.val = ((0 * 1 + 0) * 1 + 0) * 32 + n.val
      omega
    let K : (⟨4, ![1, 1, 1, 32]⟩ : Shape).Idx := (⟨4, ![1, 1, 1, 32]⟩ : Shape).rowMajor.symm n
    have h0 : (K 0).val = 0 := congrArg Fin.val (congrFun hs 0)
    have h1 : (K 1).val = 0 := congrArg Fin.val (congrFun hs 1)
    have h2 : (K 2).val = 0 := congrArg Fin.val (congrFun hs 2)
    have h3 : (K 3).val = n.val := congrArg Fin.val (congrFun hs 3)
    by_cases h : 31 ≤ e.val + n.val
    · rw [dif_pos, if_pos h]
      · refine (congrArg x ?_).trans (hx ⟨e.val + n.val - 31, by omega⟩)
        funext a
        match a with
        | ⟨0, _⟩ => exact Fin.ext (show t.val * 1 + (K 0).val - 0 = t.val by omega)
        | ⟨1, _⟩ => exact Fin.ext (show k.val * 1 + (K 1).val - 0 = k.val by omega)
        | ⟨2, _⟩ => exact Fin.ext (show w.val * 1 + (K 2).val - 0 = w.val by omega)
        | ⟨3, _⟩ => exact Fin.ext (show e.val * 1 + (K 3).val - 31 = e.val + n.val - 31 by omega)
      · intro a
        match a with
        | ⟨0, _⟩ => exact ⟨Nat.zero_le _, show t.val * 1 + (K 0).val - 0 < 10 by omega⟩
        | ⟨1, _⟩ => exact ⟨Nat.zero_le _, show k.val * 1 + (K 1).val - 0 < 1536 by omega⟩
        | ⟨2, _⟩ => exact ⟨Nat.zero_le _, show w.val * 1 + (K 2).val - 0 < 144 by omega⟩
        | ⟨3, _⟩ => exact ⟨show 31 ≤ e.val * 1 + (K 3).val by omega, show e.val * 1 + (K 3).val - 31 < 32 by omega⟩
    · rw [dif_neg, if_neg h]
      intro ha
      have : 31 ≤ e.val * 1 + (K 3).val := (ha (3 : Fin 4)).1
      omega
  · rw [Nat.zero_add]
    refine congrArg (BitVec.ofNat 32) ?_
    rw [sum_places (fun n => if 31 ≤ e.val + n then b (e.val + n - 31) else 0), show (⟨4, ![1, 1, 1, 32]⟩ : Shape).numel = 32 by decide]
    exact sum_shift b e.val e.isLt

/-- One bit of a byte, taken by a shift and a mask. -/
theorem byte_bit (b : BitVec 8) (s : ℕ) (hs : s < 8) :
    IntOp.andi (IntOp.shrsi .host (b.setWidth 32) (BitVec.ofNat 32 s)) 1#32 = BitVec.ofNat 32 (if b.getLsbD s then 1 else 0) := by
  unfold IntOp.andi IntOp.shrsi
  have e : (BitVec.ofNat 32 s).toNat = s := by rw [BitVec.toNat_ofNat]; omega
  rw [e, if_pos (by omega), BitVec.sshiftRight', e, BitVec.sshiftRight_eq_of_msb_false (by rw [BitVec.msb_setWidth]; simp),
    BitVec.and_one_eq_setWidth_ofBool_getLsbD]
  simp only [BitVec.getLsbD_ushiftRight, BitVec.getLsbD_setWidth, Nat.add_zero, show s < 32 by omega, decide_true, Bool.true_and]
  cases b.getLsbD s <;> decide

/-! ## The stages of the reference -/

variable (a0 : S79626240.Idx → BitVec 8) (a1 : S10x1536x144.Idx → BitVec 32)

/-- The start of each window, repeated. -/
def refStart : S10x1536x144x1.Idx → BitVec 32 := broadcastInDim S10x1536x144x1 ![0, 1, 2] bcast_S10x1536x144_S10x1536x144x1_0_1_2 a1
/-- Where each byte of each mask lies. -/
def refMaskPos : S10x1536x144x4.Idx → BitVec 32 :=
  addi (broadcastInDim S10x1536x144x4 ![0, 1, 2, 3] bcast_S10x1536x144x1_S10x1536x144x4_0_1_2_3 (refStart a1))
    (broadcastInDim S10x1536x144x4 ![0, 1, 2, 3] bcast_S1x1x1x4_S10x1536x144x4_0_1_2_3 (broadcastInDim S1x1x1x4 ![3] bcast_S4_S1x1x1x4_3 (iotaInDim Cert.ReferenceIdeal.S4 32 0)))
/-- The masks' bytes. -/
def refMask : S10x1536x144x4.Idx → BitVec 8 :=
  Host.gather gather_S79626240_S10x1536x144x4x1_S10x1536x144x4_n_0_n_n_0_4_1 a0 (broadcastInDim S10x1536x144x4x1 ![0, 1, 2, 3] bcast_S10x1536x144x4_S10x1536x144x4x1_0_1_2_3
    (select (cmpi .slt (refMaskPos a1) (broadcastInDim S10x1536x144x4 ![] bcast_S_S10x1536x144x4 (constantI S_ 32 0#32)))
      (addi (refMaskPos a1) (broadcastInDim S10x1536x144x4 ![] bcast_S_S10x1536x144x4 (constantI S_ 32 79626240#32))) (refMaskPos a1)))
/-- The masks' bits, one to a word. -/
def refBits : S10x1536x144x32.Idx → BitVec 32 :=
  shapeCast S10x1536x144x32 (andi (Host.shrsi
      (broadcastInDim S10x1536x144x4x8 ![0, 1, 2, 3, 4] bcast_S10x1536x144x4x1_S10x1536x144x4x8_0_1_2_3_4
        (broadcastInDim S10x1536x144x4x1 ![0, 1, 2, 3] bcast_S10x1536x144x4_S10x1536x144x4x1_0_1_2_3 (extui 32 (refMask a0 a1) natLt_8_32)))
      (broadcastInDim S10x1536x144x4x8 ![0, 1, 2, 3, 4] bcast_S1x1x1x1x8_S10x1536x144x4x8_0_1_2_3_4 (broadcastInDim S1x1x1x1x8 ![4] bcast_S8_S1x1x1x1x8_4 (iotaInDim S8 32 0))))
    (broadcastInDim S10x1536x144x4x8 ![] bcast_S_S10x1536x144x4x8 (constantI S_ 32 1#32))) shapeCasts_S10x1536x144x4x8_S10x1536x144x32
/-- The ones up to and with each place. -/
def refSum : S10x1536x144x32.Idx → BitVec 32 :=
  Host.reduceWindow IntOp.addi ![1, 1, 1, 32] ![1, 1, 1, 1] ![0, 0, 0, 31] ![0, 0, 0, 0] (refBits a0 a1) (broadcastInDim S_ ![] bcast_S_S_ (constantI S_ 32 0#32))
    reduceWindows_S10x1536x144x32_S10x1536x144x32_w1s1p0_0_w1s1p0_0_w1s1p0_0_w32s1p31_0 h_S_
/-- Where the byte of each place lies, were its bit set. -/
def refPos : S10x1536x144x32.Idx → BitVec 32 :=
  minsi (addi (broadcastInDim S10x1536x144x32 ![0, 1, 2, 3] bcast_S10x1536x144x1_S10x1536x144x32_0_1_2_3
      (addi (refStart a1) (broadcastInDim S10x1536x144x1 ![] bcast_S_S10x1536x144x1 (constantI S_ 32 4#32))))
    (subi (refSum a0 a1) (refBits a0 a1))) (broadcastInDim S10x1536x144x32 ![] bcast_S_S10x1536x144x32 (constantI S_ 32 79626239#32))
/-- The bytes there. -/
def refByte : S10x1536x144x32.Idx → BitVec 8 :=
  Host.gather gather_S79626240_S10x1536x144x32x1_S10x1536x144x32_n_0_n_n_0_4_1 a0 (broadcastInDim S10x1536x144x32x1 ![0, 1, 2, 3] bcast_S10x1536x144x32_S10x1536x144x32x1_0_1_2_3
    (select (cmpi .slt (refPos a0 a1) (broadcastInDim S10x1536x144x32 ![] bcast_S_S10x1536x144x32 (constantI S_ 32 0#32)))
      (addi (refPos a0 a1) (broadcastInDim S10x1536x144x32 ![] bcast_S_S10x1536x144x32 (constantI S_ 32 79626240#32))) (refPos a0 a1)))
/-- Each place's code: its byte where its bit is set, zero elsewhere. -/
def refCodes : S10x1536x144x32.Idx → BitVec 8 :=
  select (cmpi .eq (refBits a0 a1) (broadcastInDim S10x1536x144x32 ![] bcast_S_S10x1536x144x32 (constantI S_ 32 1#32))) (refByte a0 a1)
    (broadcastInDim S10x1536x144x32 ![] bcast_S_S10x1536x144x32 (constantI S_ 8 0#8))

section

variable (t : Fin 10) (k : Fin 1536) (w : Fin 144)

theorem refStart_apply : refStart a1 (at4 t k w 0) = a1 (at3 t k w) :=
  broadcastInDim_apply _ _ _ _ _ fun a => match a with | ⟨0, _⟩ => rfl | ⟨1, _⟩ => rfl | ⟨2, _⟩ => rfl

theorem refMaskPos_apply (j : Fin 4) : refMaskPos a1 (at4 t k w j) = a1 (at3 t k w) + BitVec.ofNat 32 j.val := by
  unfold refMaskPos
  show _ + _ = _
  rw [broadcastInDim_apply _ _ (refStart a1) _ (at4 t k w 0) (fun a => match a with | ⟨0, _⟩ => rfl | ⟨1, _⟩ => rfl | ⟨2, _⟩ => rfl | ⟨3, _⟩ => rfl), refStart_apply,
    broadcastInDim_apply _ _ (broadcastInDim S1x1x1x4 ![3] bcast_S4_S1x1x1x4_3 (iotaInDim Cert.ReferenceIdeal.S4 32 0)) (at4 t k w j)
      (fun | ⟨0, _⟩ => (0 : Fin 1) | ⟨1, _⟩ => (0 : Fin 1) | ⟨2, _⟩ => (0 : Fin 1) | ⟨3, _⟩ => j)
      (fun a => match a with | ⟨0, _⟩ => rfl | ⟨1, _⟩ => rfl | ⟨2, _⟩ => rfl | ⟨3, _⟩ => rfl),
    broadcastInDim_apply _ _ (iotaInDim Cert.ReferenceIdeal.S4 32 0) _ (fun | ⟨0, _⟩ => j) (fun a => match a with | ⟨0, _⟩ => rfl)]
  rfl

variable (h : (a1 (at3 t k w)).toNat + 36 ≤ 79626240)
include h

theorem refMask_apply (j : Fin 4) : refMask a0 a1 (at4 t k w j) = streamN a0 ((a1 (at3 t k w)).toNat + j.val) := by
  have hj := j.isLt
  have hp : (refMaskPos a1 (at4 t k w j)).toNat = (a1 (at3 t k w)).toNat + j.val := by
    rw [refMaskPos_apply, BitVec.toNat_add, BitVec.toNat_ofNat]; omega
  unfold refMask
  have hr : broadcastInDim S10x1536x144x4x1 ![0, 1, 2, 3] bcast_S10x1536x144x4_S10x1536x144x4x1_0_1_2_3
    (select (cmpi .slt (refMaskPos a1) (broadcastInDim S10x1536x144x4 ![] bcast_S_S10x1536x144x4 (constantI S_ 32 0#32)))
      (addi (refMaskPos a1) (broadcastInDim S10x1536x144x4 ![] bcast_S_S10x1536x144x4 (constantI S_ 32 79626240#32))) (refMaskPos a1)) (at5 t k w j 0)
      = refMaskPos a1 (at4 t k w j) := by
    rw [broadcastInDim_apply _ _ _ (at5 t k w j 0) (at4 t k w j) (fun a => match a with | ⟨0, _⟩ => rfl | ⟨1, _⟩ => rfl | ⟨2, _⟩ => rfl | ⟨3, _⟩ => rfl)]
    exact wrap_eq _ (by omega)
  refine (gather_at _ _ a0 _ t k w j (by rw [hr, hp]; omega)).trans ?_
  rw [hr, hp]

theorem refBits_apply (e : Fin 32) : refBits a0 a1 (at4 t k w e) = BitVec.ofNat 32 (bitsE (streamN a0) (a1 (at3 t k w)).toNat e.val) := by
  have he := e.isLt
  unfold refBits
  rw [shapeCast_apply _ _ (at4 t k w e) (at5 t k w (⟨e.val / 8, by omega⟩ : Fin 4) (⟨e.val % 8, by omega⟩ : Fin 8))
    (by rw [Shape.rowMajor_val_five, Shape.rowMajor_val_four]
        show (((t.val * 1536 + k.val) * 144 + w.val) * 4 + e.val / 8) * 8 + e.val % 8 = ((t.val * 1536 + k.val) * 144 + w.val) * 32 + e.val
        omega)]
  show IntOp.andi (IntOp.shrsi .host _ _) 1#32 = _
  rw [broadcastInDim_apply _ _ _ (at5 t k w (⟨e.val / 8, by omega⟩ : Fin 4) (⟨e.val % 8, by omega⟩ : Fin 8)) (at5 t k w (⟨e.val / 8, by omega⟩ : Fin 4) 0)
      (fun a => match a with | ⟨0, _⟩ => rfl | ⟨1, _⟩ => rfl | ⟨2, _⟩ => rfl | ⟨3, _⟩ => rfl | ⟨4, _⟩ => rfl),
    broadcastInDim_apply _ _ _ (at5 t k w (⟨e.val / 8, by omega⟩ : Fin 4) 0) (at4 t k w (⟨e.val / 8, by omega⟩ : Fin 4))
      (fun a => match a with | ⟨0, _⟩ => rfl | ⟨1, _⟩ => rfl | ⟨2, _⟩ => rfl | ⟨3, _⟩ => rfl),
    broadcastInDim_apply _ _ _ (at5 t k w (⟨e.val / 8, by omega⟩ : Fin 4) (⟨e.val % 8, by omega⟩ : Fin 8))
      (fun | ⟨0, _⟩ => (0 : Fin 1) | ⟨1, _⟩ => (0 : Fin 1) | ⟨2, _⟩ => (0 : Fin 1) | ⟨3, _⟩ => (0 : Fin 1) | ⟨4, _⟩ => (⟨e.val % 8, by omega⟩ : Fin 8))
      (fun a => match a with | ⟨0, _⟩ => rfl | ⟨1, _⟩ => rfl | ⟨2, _⟩ => rfl | ⟨3, _⟩ => rfl | ⟨4, _⟩ => rfl),
    broadcastInDim_apply _ _ (iotaInDim S8 32 0) _ (fun | ⟨0, _⟩ => (⟨e.val % 8, by omega⟩ : Fin 8)) (fun a => match a with | ⟨0, _⟩ => rfl)]
  show IntOp.andi (IntOp.shrsi .host ((refMask a0 a1 (at4 t k w (⟨e.val / 8, by omega⟩ : Fin 4))).setWidth 32) (BitVec.ofNat 32 (e.val % 8))) 1#32 = _
  rw [byte_bit _ _ (by omega), refMask_apply a0 a1 t k w h]
  rfl

theorem refRank_apply (e : Fin 32) :
    IntOp.subi (refSum a0 a1 (at4 t k w e)) (refBits a0 a1 (at4 t k w e)) = BitVec.ofNat 32 (rankE (streamN a0) (a1 (at3 t k w)).toNat e.val) := by
  unfold refSum
  rw [rsum_apply (refBits a0 a1) (broadcastInDim S_ ![] bcast_S_S_ (constantI S_ 32 0#32)) (fun _ => rfl) _ _ t k w (bitsE (streamN a0) (a1 (at3 t k w)).toNat) (refBits_apply a0 a1 t k w h), refBits_apply a0 a1 t k w h]
  show BitVec.ofNat 32 (rankE (streamN a0) (a1 (at3 t k w)).toNat (e.val + 1)) - _ = _
  rw [rankE_succ, BitVec.ofNat_add, BitVec.add_sub_cancel]

theorem refPos_apply (e : Fin 32) : (refPos a0 a1 (at4 t k w e)).toNat = (a1 (at3 t k w)).toNat + 4 + rankE (streamN a0) (a1 (at3 t k w)).toNat e.val := by
  have he := e.isLt
  have hr := rankE_le (streamN a0) (a1 (at3 t k w)).toNat e.val
  unfold refPos
  show (IntOp.minsi (IntOp.addi _ (IntOp.subi (refSum a0 a1 (at4 t k w e)) (refBits a0 a1 (at4 t k w e)))) 79626239#32).toNat = _
  rw [refRank_apply a0 a1 t k w h,
    broadcastInDim_apply _ _ _ (at4 t k w e) (at4 t k w 0) (fun a => match a with | ⟨0, _⟩ => rfl | ⟨1, _⟩ => rfl | ⟨2, _⟩ => rfl | ⟨3, _⟩ => rfl)]
  show (IntOp.minsi (IntOp.addi (IntOp.addi (refStart a1 (at4 t k w 0)) 4#32) _) 79626239#32).toNat = _
  rw [refStart_apply]
  generalize rankE (streamN a0) (a1 (at3 t k w)).toNat e.val = r at hr ⊢
  generalize a1 (at3 t k w) = s at h ⊢
  have hp : (IntOp.addi (IntOp.addi s 4#32) (BitVec.ofNat 32 r)).toNat = s.toNat + 4 + r := by
    show (s + 4#32 + BitVec.ofNat 32 r).toNat = _
    simp only [BitVec.toNat_add, BitVec.toNat_ofNat]; omega
  generalize IntOp.addi (IntOp.addi s 4#32) (BitVec.ofNat 32 r) = p at hp ⊢
  unfold IntOp.minsi
  split
  · exact hp
  · rename_i hn
    rw [BitVec.slt, BitVec.toInt_eq_toNat_of_lt (by omega), decide_eq_true_eq, show (79626239#32).toInt = 79626239 by decide] at hn
    show 79626239 = _
    omega

theorem refByte_apply (e : Fin 32) :
    refByte a0 a1 (at4 t k w e) = streamN a0 ((a1 (at3 t k w)).toNat + 4 + rankE (streamN a0) (a1 (at3 t k w)).toNat e.val) := by
  have he := e.isLt
  have hk := rankE_le (streamN a0) (a1 (at3 t k w)).toNat e.val
  have hp := refPos_apply a0 a1 t k w h e
  unfold refByte
  have hr : broadcastInDim S10x1536x144x32x1 ![0, 1, 2, 3] bcast_S10x1536x144x32_S10x1536x144x32x1_0_1_2_3
    (select (cmpi .slt (refPos a0 a1) (broadcastInDim S10x1536x144x32 ![] bcast_S_S10x1536x144x32 (constantI S_ 32 0#32)))
      (addi (refPos a0 a1) (broadcastInDim S10x1536x144x32 ![] bcast_S_S10x1536x144x32 (constantI S_ 32 79626240#32))) (refPos a0 a1)) (at5 t k w e 0)
      = refPos a0 a1 (at4 t k w e) := by
    rw [broadcastInDim_apply _ _ _ (at5 t k w e 0) (at4 t k w e) (fun a => match a with | ⟨0, _⟩ => rfl | ⟨1, _⟩ => rfl | ⟨2, _⟩ => rfl | ⟨3, _⟩ => rfl)]
    exact wrap_eq _ (by omega)
  refine (gather_at _ _ a0 _ t k w e (by rw [hr, hp]; omega)).trans ?_
  rw [hr, hp]

/-- The reference's code at a place is the code the window's bytes give. -/
theorem refCodes_apply (e : Fin 32) : refCodes a0 a1 (at4 t k w e) = codeE (streamN a0) (a1 (at3 t k w)).toNat e.val := by
  unfold refCodes codeE
  show (if IntOp.cmpi .eq (refBits a0 a1 (at4 t k w e)) 1#32 = 1#1 then refByte a0 a1 (at4 t k w e) else 0#8) = _
  rw [refBits_apply a0 a1 t k w h, refByte_apply a0 a1 t k w h]
  unfold bitsE
  cases mbitE (streamN a0) (a1 (at3 t k w)).toNat e.val
  · exact if_neg (by decide)
  · exact if_pos (by decide)

end

end Cert.Proof.Unpack

end
-- ==== Proof.RefRun.lean ====
/-
  What the reference leaves: the value of each window's codes, scaled and rounded.
-/
module

public import proofs.«01_k».proof.Proof.RefValue
public import proofs.«01_k».proof.Proof.Gen.ReferenceIdeal.Frame
public import Idealize.ShloMosaic.Lib.Pipeline.ValueKit

@[expose] public section

noncomputable section

namespace Cert.Proof.Unpack

open Cert.ReferenceIdeal Cert.ReferenceIdeal.Gen
open Cert.ReferenceIdeal.Facts
open Idealize.ShloMosaic hiding T
open Idealize.ShloMosaic.TcCoe
open Idealize.ShloMosaic.StableHlo (after)

variable {F : FTy → Type} [FloatOps F]
variable (m : (ℓ : Loc Cert.ReferenceIdeal.nD Cert.ReferenceIdeal.τ Cert.ReferenceIdeal.sig) → Buf (Elt F) ℓ) (c : Dev Cert.ReferenceIdeal.nD)

/-- The codes, laid along each row. -/
theorem ref_codes : Cert.ReferenceIdeal.Gen.V m c main_v42
    = shapeCast S10x1536x4608 (refCodes (m ((c : Thread Cert.ReferenceIdeal.nD Cert.ReferenceIdeal.τ).loc main_arg0)) (m ((c : Thread Cert.ReferenceIdeal.nD Cert.ReferenceIdeal.τ).loc main_arg1))) shapeCasts_S10x1536x144x32_S10x1536x4608 := by
  unfold Cert.ReferenceIdeal.Gen.V
  simp only [List.flatten_cons, List.flatten_nil, List.append_nil, List.cons_append, List.nil_append]
  after_results_simp
  simp -implicitDefEqProofs only [StableHlo.TRef.toBuf, StableHlo.TRef.ofBuf, cast_cast, cast_eq]
  simp only [refCodes, refByte, refPos, refSum, refBits, refMask, refMaskPos, refStart]
  rfl
/-- The scales, one to a row. -/
theorem ref_scales : Cert.ReferenceIdeal.Gen.V m c main_v43
    = broadcastInDim S10x1536x1 ![0, 1] bcast_S10x1536_S10x1536x1_0_1 (m ((c : Thread Cert.ReferenceIdeal.nD Cert.ReferenceIdeal.τ).loc main_arg2)) := by
  unfold Cert.ReferenceIdeal.Gen.V
  simp only [List.flatten_cons, List.flatten_nil, List.append_nil, List.cons_append, List.nil_append]
  after_results_simp

/-- The row's scale, for an element of the result. -/
abbrev rowIx (y : S10x1536x4608.Idx) : S10x1536x1.Idx := fun | ⟨0, _⟩ => y 0 | ⟨1, _⟩ => y 1 | ⟨2, _⟩ => (0 : Fin 1)

/-- The region's body, element by element: a code's value times its row's scale, rounded. -/
def refOut (x : Vec F S10x1536x4608 .i8) (s : Vec F S10x1536x1 .f32) : Vec F S10x1536x4608 .bf16 := fun y =>
  FloatOps.truncf (F := F) .bf16 bitsLt_bf16_f32 (FloatOps.mulf (F := F) (FloatOps.extf (F := F) .f32 bitsLt_fp8e4m3_f32 (FloatOps.ofBits (F := F) .fp8e4m3 (x y))) (s (rowIx y)))

theorem pay_apply (x : Vec F S10x1536x4608 .i8) (s : Vec F S10x1536x1 .f32) (y : S10x1536x4608.Idx) : k0_pay1 x s y = refOut x s y := by
  unfold k0_pay1 refOut
  show FloatOps.truncf (F := F) .bf16 bitsLt_bf16_f32 (FloatOps.mulf (F := F) (FloatOps.extf (F := F) .f32 bitsLt_fp8e4m3_f32 (FloatOps.ofBits (F := F) .fp8e4m3
    (shapeCast S10x1536x4608 x shapeCasts_S10x1536x4608_S10x1536x4608 y))) (broadcastTo S10x1536x4608 (shapeCast S10x1536x1 s shapeCasts_S10x1536x1_S10x1536x1) broadcasts_S10x1536x1_S10x1536x4608 y)) = _
  rw [shapeCast_apply x _ y y rfl,
    broadcastTo_apply _ _ y (rowIx y) (fun a => match a with | ⟨0, _⟩ => rfl | ⟨1, _⟩ => rfl | ⟨2, _⟩ => rfl),
    shapeCast_apply s _ (rowIx y) (rowIx y) rfl]

theorem idx_at : ∀ t : Fin cfg0.N, win0_0.index t = ![0, 0, 0] ∧ win0_1.index t = ![0, 0, 0] ∧ win0_2.index t = ![0, 0, 0] :=
  (by decide +kernel : ∀ t : Fin grid0.N, _)

theorem read_codes (W : (b : Ref Cert.ReferenceIdeal.sig .tc) → Buf (Elt F) ((c : Thread Cert.ReferenceIdeal.nD Cert.ReferenceIdeal.τ).loc b)) :
    ((cfg0.win 0).blk t0_0).view.read (Elt F) (W (Pipeline.arrRef spec0 0)) = W main_v42 := by
  funext j
  refine congrArg (W main_v42) (a₁ := (win0_0.rect t0_0).emb j) (a₂ := j) ?_
  funext a
  refine Fin.ext (Pipeline.Window.rect_emb_val_of_index_zero win0_0 t0_0 a ?_ j)
  rw [(idx_at t0_0).1]
  match a with | ⟨0, _⟩ => rfl | ⟨1, _⟩ => rfl | ⟨2, _⟩ => rfl

theorem iblk_codes : iblk m c 0 t0_0 = Cert.ReferenceIdeal.Gen.V m c main_v42 := read_codes c (Cert.ReferenceIdeal.Gen.V m c)

theorem read_scales (W : (b : Ref Cert.ReferenceIdeal.sig .tc) → Buf (Elt F) ((c : Thread Cert.ReferenceIdeal.nD Cert.ReferenceIdeal.τ).loc b)) :
    ((cfg0.win 1).blk t0_0).view.read (Elt F) (W (Pipeline.arrRef spec0 1)) = W main_v43 := by
  funext j
  refine congrArg (W main_v43) (a₁ := (win0_1.rect t0_0).emb j) (a₂ := j) ?_
  funext a
  refine Fin.ext (Pipeline.Window.rect_emb_val_of_index_zero win0_1 t0_0 a ?_ j)
  rw [(idx_at t0_0).2.1]
  match a with | ⟨0, _⟩ => rfl | ⟨1, _⟩ => rfl | ⟨2, _⟩ => rfl

theorem iblk_scales : iblk m c 1 t0_0 = Cert.ReferenceIdeal.Gen.V m c main_v43 := read_scales c (Cert.ReferenceIdeal.Gen.V m c)

/-- What the one store leaves. -/
theorem stored (x : Vec F S10x1536x4608 .i8) (s : Vec F S10x1536x1 .f32) (j : S10x1536x4608.Idx) : out0_2 x s j = refOut x s j := by
  unfold out0_2
  refine View.canon_apply_of_pieces (refOut x s) _ ?_ j (cover0_2 _ j)
  intro pc hpc
  rcases List.mem_cons.mp hpc with rfl | hpc
  · intro y
    have e0 : ∀ y : S10x1536x4608.Idx, r0_0.idx y = y := fun y => by
      funext a
      apply Fin.ext
      match a with
      | ⟨0, _⟩ => show 0 + 1 * (y 0).val = (y 0).val; omega
      | ⟨1, _⟩ => show 0 + 1 * (y 1).val = (y 1).val; omega
      | ⟨2, _⟩ => show 0 + 1 * (y 2).val = (y 2).val; omega
    have e1 : ∀ y : S10x1536x1.Idx, r0_1.idx y = y := fun y => by
      funext a
      apply Fin.ext
      match a with
      | ⟨0, _⟩ => show 0 + 1 * (y 0).val = (y 0).val; omega
      | ⟨1, _⟩ => show 0 + 1 * (y 1).val = (y 1).val; omega
      | ⟨2, _⟩ => show 0 + 1 * (y 2).val = (y 2).val; omega
    have lx : View.ld x r0_0 = x := funext fun y => congrArg x (e0 y)
    have ls : View.ld s r0_1 = s := funext fun y => congrArg s (e1 y)
    rw [lx, ls]
    exact (pay_apply x s y).trans (congrArg (refOut x s) (e0 y).symm)
  · nomatch hpc

theorem after_at (x : Vec F S10x1536x4608 .i8) (s : Vec F S10x1536x1 .f32) (hx : Cert.ReferenceIdeal.Gen.V m c main_v42 = x) (hs : Cert.ReferenceIdeal.Gen.V m c main_v43 = s)
    (j : S10x1536x4608.Idx) : (dats m 0 c).after 2 t0_0 j = refOut x s j := by
  rw [after0_2, (iblk_codes m c).trans hx, (iblk_scales m c).trans hs]
  exact stored x s j

theorem out_at (j : S10x1536x4608.Idx) : win0_2.arr.view.emb j = j := rfl

theorem whole_at : (cfg0.win 2).WholeAt t0_0 := by decide +kernel

theorem arr_at (x : Vec F S10x1536x4608 .i8) (s : Vec F S10x1536x1 .f32) (hx : Cert.ReferenceIdeal.Gen.V m c main_v42 = x) (hs : Cert.ReferenceIdeal.Gen.V m c main_v43 = s) :
    (dats m 0 c).arrAt 2 cfg0.N = refOut x s :=
  (dats m 0 c).arrAt_eq_of_after_last 2 t0_0 whole_at _ fun j => (after_at m c x s hx hs j).trans (congrArg (refOut x s) (out_at j).symm)

/-- The reference's result is the region's body over the codes and the scales. -/
theorem ref_array : (dats m 0 c).arrAt 2 cfg0.N
    = refOut (shapeCast S10x1536x4608 (refCodes (m ((c : Thread Cert.ReferenceIdeal.nD Cert.ReferenceIdeal.τ).loc main_arg0)) (m ((c : Thread Cert.ReferenceIdeal.nD Cert.ReferenceIdeal.τ).loc main_arg1))) shapeCasts_S10x1536x144x32_S10x1536x4608)
      (broadcastInDim S10x1536x1 ![0, 1] bcast_S10x1536_S10x1536x1_0_1 (m ((c : Thread Cert.ReferenceIdeal.nD Cert.ReferenceIdeal.τ).loc main_arg2))) :=
  arr_at m c _ _ (ref_codes m c) (ref_scales m c)

end Cert.Proof.Unpack

end
-- ==== Proof.Same.lean ====
/-
  The kernel and the reference leave the same result, on the extended reals.
-/
module

public import proofs.«01_k».proof.Proof.Frames
public import proofs.«01_k».proof.Proof.RefRun

@[expose] public section

noncomputable section

namespace Cert.Proof.Unpack

open Idealize.ShloMosaic hiding T
open Idealize.SL.Sem
open Idealize.ShloMosaic.SparseCore (T)

/-- A window of the starts, its axes exchanged, is the window of the starts as given. -/
theorem start_at (x : Cert.KernelIdeal.S10x1536x144.Idx → BitVec 32) (t : Fin 10) (k : Fin 1536) (w : Fin 144) :
    groupStart x (192 * t.val + k.val / 8) (144 * (k.val % 8) + w.val) = x (at3 t k w) := by
  have ht := t.isLt
  have hk := k.isLt
  have hw := w.isLt
  refine congrArg x (funext fun a => Fin.ext ?_)
  match a with
  | ⟨0, _⟩ => show (192 * t.val + k.val / 8) / 192 % 10 = t.val; omega
  | ⟨1, _⟩ => show (8 * ((192 * t.val + k.val / 8) % 192) + (144 * (k.val % 8) + w.val) / 144) % 1536 = k.val; omega
  | ⟨2, _⟩ => show (144 * (k.val % 8) + w.val) % 144 = w.val; omega

/-- The two ways of rounding are one, where nothing is rounded. -/
theorem val_eq (b : BitVec 8) (s : Ideal .f32) (h1 : FTy.bf16.bits < FTy.f32.bits) (h2 : FTy.fp8e4m3.bits < FTy.f32.bits) :
    FloatOps.truncf (F := Ideal) .bf16 h1 (valB (F := Ideal) b (FloatOps.truncf (F := Ideal) .bf16 h1 s))
      = FloatOps.truncf (F := Ideal) .bf16 h1 (FloatOps.mulf (F := Ideal) (FloatOps.extf (F := Ideal) .f32 h2 (FloatOps.ofBits (F := Ideal) .fp8e4m3 b)) s) := rfl

/-- The reference's code for an element of the result. -/
theorem code_at (x0 : Cert.KernelIdeal.S79626240.Idx → BitVec 8) (x1 : Cert.KernelIdeal.S10x1536x144.Idx → BitVec 32)
    (hs : Cert.ReferenceIdeal.S10x1536x144x32.ShapeCasts Cert.ReferenceIdeal.S10x1536x4608) (y : Cert.KernelIdeal.S10x1536x4608.Idx)
    (t : Fin 10) (k : Fin 1536) (w : Fin 144) (e : Fin 32) (ht : (y 0).val = t.val) (hk : (y 1).val = k.val) (hw : (y 2).val / 32 = w.val) (he : (y 2).val % 32 = e.val)
    (hfit : (x1 (at3 t k w)).toNat + 36 ≤ 79626240) :
    shapeCast Cert.ReferenceIdeal.S10x1536x4608 (refCodes x0 x1) hs y = codeE (streamN x0) (x1 (at3 t k w)).toNat e.val := by
  refine (shapeCast_apply _ hs y (at4 t k w e) ?_).trans (refCodes_apply x0 x1 t k w hfit e)
  rw [Shape.rowMajor_val_four, Shape.rowMajor_val_three]
  show ((t.val * 1536 + k.val) * 144 + w.val) * 32 + e.val = ((y 0).val * 1536 + (y 1).val) * 4608 + (y 2).val
  omega

/-- The reference's scale for an element of the result. -/
theorem scale_at (x2 : Cert.KernelIdeal.S10x1536.Idx → Ideal .f32)
    (hb : Cert.ReferenceIdeal.S10x1536.BroadcastsInDim Cert.ReferenceIdeal.S10x1536x1 (![0, 1] : Fin 2 → Fin Cert.ReferenceIdeal.S10x1536x1.rank)) (y : Cert.KernelIdeal.S10x1536x4608.Idx) :
    broadcastInDim Cert.ReferenceIdeal.S10x1536x1 ![0, 1] hb x2 (rowIx y) = scaleN x2 (y 0).val (y 1).val := by
  have h0 : (y 0).val < 10 := (y 0).isLt
  have h1 : (y 1).val < 1536 := (y 1).isLt
  unfold scaleN
  refine broadcastInDim_apply _ hb x2 (rowIx y) _ fun a => ?_
  match a with
  | ⟨0, _⟩ => show (y 0).val % 10 = (y 0).val; omega
  | ⟨1, _⟩ => show (y 1).val % 1536 = (y 1).val; omega

/-- The kernel's element of the result. -/
theorem outW_at (x0 : Cert.KernelIdeal.S79626240.Idx → BitVec 8) (x1 : Cert.KernelIdeal.S10x1536x144.Idx → BitVec 32)
    (x2 : Cert.KernelIdeal.S10x1536.Idx → Ideal .f32) (ht : Cert.KernelIdeal.S10x1536x144.Transposes [0, 2, 1] Cert.KernelIdeal.S10x144x1536) (y : Cert.KernelIdeal.S10x1536x4608.Idx) :
    outW (F := Ideal) (packW x0) (transpose Cert.KernelIdeal.S10x144x1536 [0, 2, 1] x1 ht) x2 y
      = valB (F := Ideal) (codeE (streamN x0) (groupStart x1 (192 * (y 0).val + (y 1).val / 8) (144 * ((y 1).val % 8) + (y 2).val / 32)).toNat ((y 2).val % 32))
        (FloatOps.truncf (F := Ideal) .bf16 Cert.KernelIdeal.Gen.facts.bitsLt_bf16_f32 (scaleN x2 (y 0).val (y 1).val)) := by
  have h0 : (y 0).val < 10 := (y 0).isLt
  have h1 : (y 1).val < 1536 := (y 1).isLt
  have h2 : (y 2).val < 4608 := (y 2).isLt
  unfold outW
  rw [startN_groupStart x1 (y 0).val h0 ((y 2).val / 32) (by omega) (y 1).val h1, show (fun n => (wbyte (packW x0) n).setWidth 8) = streamN x0 from funext (wbyte_pack x0)]

theorem trunc_at {F : FTy → Type} [FloatOps F] (x : Cert.KernelIdeal.S10x1536x4608.Idx → F .f32) (h : FTy.bf16.bits < FTy.f32.bits) (y : Cert.KernelIdeal.S10x1536x4608.Idx) :
    (truncf .bf16 x h : Cert.KernelIdeal.S10x1536x4608.Idx → F .bf16) y = FloatOps.truncf .bf16 h (x y) := rfl

theorem refOut_at {F : FTy → Type} [FloatOps F] (x : Cert.KernelIdeal.S10x1536x4608.Idx → BitVec 8) (s : Cert.ReferenceIdeal.S10x1536x1.Idx → F .f32)
    (y : Cert.KernelIdeal.S10x1536x4608.Idx) : refOut x s y = FloatOps.truncf (F := F) .bf16 Cert.ReferenceIdeal.Gen.facts.bitsLt_bf16_f32
      (FloatOps.mulf (F := F) (FloatOps.extf (F := F) .f32 Cert.ReferenceIdeal.Gen.facts.bitsLt_fp8e4m3_f32 (FloatOps.ofBits (F := F) .fp8e4m3 (x y))) (s (rowIx y))) := rfl

theorem same [Cert.Pre_windows_in_place.Facts] (x0 : Cert.KernelIdeal.S79626240.Idx → BitVec 8) (x1 : Cert.KernelIdeal.S10x1536x144.Idx → BitVec 32)
    (x2 : Cert.KernelIdeal.S10x1536.Idx → Ideal .f32) (h : Cert.Pre_windows_in_place.fn (F := Ideal) x0 x1 x2 = fun _ => 1#1)
    (ht : Cert.KernelIdeal.S10x1536x144.Transposes [0, 2, 1] Cert.KernelIdeal.S10x144x1536) (hlt : FTy.bf16.bits < FTy.f32.bits)
    (hs : Cert.ReferenceIdeal.S10x1536x144x32.ShapeCasts Cert.ReferenceIdeal.S10x1536x4608)
    (hb : Cert.ReferenceIdeal.S10x1536.BroadcastsInDim Cert.ReferenceIdeal.S10x1536x1 (![0, 1] : Fin 2 → Fin Cert.ReferenceIdeal.S10x1536x1.rank)) :
    (truncf .bf16 (outW (F := Ideal) (packW x0) (transpose Cert.KernelIdeal.S10x144x1536 [0, 2, 1] x1 ht) x2) hlt : Cert.KernelIdeal.S10x1536x4608.Idx → Ideal .bf16)
      = refOut (F := Ideal) (shapeCast Cert.ReferenceIdeal.S10x1536x4608 (refCodes x0 x1) hs) (broadcastInDim Cert.ReferenceIdeal.S10x1536x1 ![0, 1] hb x2) := by
  funext y
  have h0 : (y 0).val < 10 := (y 0).isLt
  have h1 : (y 1).val < 1536 := (y 1).isLt
  have h2 : (y 2).val < 4608 := (y 2).isLt
  obtain ⟨t, et⟩ : ∃ t : Fin 10, (y 0).val = t.val := ⟨⟨(y 0).val, h0⟩, rfl⟩
  obtain ⟨k, ek⟩ : ∃ k : Fin 1536, (y 1).val = k.val := ⟨⟨(y 1).val, h1⟩, rfl⟩
  obtain ⟨w, ew⟩ : ∃ w : Fin 144, (y 2).val / 32 = w.val := ⟨⟨(y 2).val / 32, by omega⟩, rfl⟩
  obtain ⟨e, ee⟩ : ∃ e : Fin 32, (y 2).val % 32 = e.val := ⟨⟨(y 2).val % 32, by omega⟩, rfl⟩
  have hst := start_at x1 t k w
  have hfit : (x1 (at3 t k w)).toNat + 36 ≤ 79626240 := by
    have H := groups_of_pre x0 x1 x2 h (192 * t.val + k.val / 8) (by omega) (144 * (k.val % 8) + w.val) (by omega)
    rw [hst] at H
    omega
  have hc := code_at x0 x1 hs y t k w e et ek ew ee hfit
  have ho := outW_at x0 x1 x2 ht y
  rw [et, ek, ew, ee, hst] at ho
  have hl := scale_at x2 hb y
  rw [et, ek] at hl
  refine (trunc_at _ hlt y).trans ((congrArg (FloatOps.truncf (F := Ideal) .bf16 hlt) ho).trans ?_)
  refine (val_eq _ _ hlt Cert.ReferenceIdeal.Gen.facts.bitsLt_fp8e4m3_f32).trans ?_
  refine Eq.trans ?_ (refOut_at _ _ y).symm
  rw [hc, hl]

theorem algebraic : Cert.algebraic_KernelIdeal_ReferenceIdeal (hKernelIdeal := Cert.KernelIdeal.Gen.facts) (hReferenceIdeal := Cert.ReferenceIdeal.Gen.facts)
    (hPre_windows_in_place := Cert.Pre_windows_in_place.Gen.facts) := by
  intro m g m' g' hP ha
  refine ⟨fun c => VC m c y', (θ_run _ _ _).mono (fun _ h c => h.1 c) (run_values (F := Ideal) m g hP), ?_⟩
  refine (θ_run _ _ _).mono (fun r h c => ?_) (Cert.ReferenceIdeal.Gen.run_main (F := Ideal) m' g')
  refine ⟨((h c).1 2).trans ?_,
    ((h c).2 Cert.ReferenceIdeal.main_arg0 (Pipeline.mem_restRefs_of Cert.ReferenceIdeal.main_arg0 (by decide) (by decide))).trans (Cert.ReferenceIdeal.Gen.V_main_arg0 m' c),
    ((h c).2 Cert.ReferenceIdeal.main_arg1 (Pipeline.mem_restRefs_of Cert.ReferenceIdeal.main_arg1 (by decide) (by decide))).trans (Cert.ReferenceIdeal.Gen.V_main_arg1 m' c),
    ((h c).2 Cert.ReferenceIdeal.main_arg2 (Pipeline.mem_restRefs_of Cert.ReferenceIdeal.main_arg2 (by decide) (by decide))).trans (Cert.ReferenceIdeal.Gen.V_main_arg2 m' c)⟩
  show (Cert.ReferenceIdeal.Gen.dats m' 0 c).arrAt 2 Cert.ReferenceIdeal.cfg0.N = VC m c y'
  rw [ref_array m' c, (ha c).1, (ha c).2.1, (ha c).2.2, VC_y, Fw_eq, Hf_eq, Hs_eq]
  exact (same _ _ _ (hP c) _ _ _ _).symm

end Cert.Proof.Unpack

end
-- ==== Proof.lean ====
/-
  The proof of the claim: the three programs end with nothing in flight and their arguments unchanged, the idealization
  is the kernel's own text, and on the extended reals it leaves what the reference leaves.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_windows_in_place
public import proofs.«01_k».proof.Proof.Frames
public import proofs.«01_k».proof.Proof.Same

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_windows_in_place.Gen.facts,
    Unpack.frame_kernel, Unpack.frame_ideal, fun m ρ _ => Cert.ReferenceIdeal.Gen.frame m ρ, fun m ρ _ => Cert.ReferenceIdeal.Gen.frame m ρ, trivial, Unpack.algebraic⟩

end Cert.Proof

end
